-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3))).2.2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3))).2.2 = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)) (v2 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_v44_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_v10) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v7) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v7) = v0 c
          ∧ r.2.mem ((c.tc : Thread Cert.Reference6Ideal.nD Cert.Reference6Ideal.τ).loc Cert.Reference6Ideal.main_v8) = v1 c
          ∧ r.2.mem ((c.tc : Thread Cert.Reference6Ideal.nD Cert.Reference6Ideal.τ).loc Cert.Reference6Ideal.main_v9) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v3) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_v37) = v1 c
          ∧ r.2.mem ((c.tc : Thread Cert.Reference8Ideal.nD Cert.Reference8Ideal.τ).loc Cert.Reference8Ideal.main_v38) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v7) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_v14) = v1 c
          ∧ r.2.mem ((c.tc : Thread Cert.Reference12Ideal.nD Cert.Reference12Ideal.τ).loc Cert.Reference12Ideal.main_v16) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  IdealRules.named_const.Statement Cert.Kernel13Ideal.κ "inv_bias1" .f32 0x3FC48605#32 ((8388608 / 5463681 : ℝ) : EReal)
  ∧ IdealRules.named_const.Statement Cert.Kernel13Ideal.κ "inv_bias2" .f32 0x42C8E6D3#32 ((268435456 / 2672307 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v3_0)) (v1 : (c : Dev Cert.Kernel13Ideal.nD) → Buf (Elt Ideal) ((c.tc : Thread Cert.Kernel13Ideal.nD Cert.Kernel13Ideal.τ).loc Cert.Kernel13Ideal.main_v3_1)) (v2 : (c : Dev Cert.Kernel13Ideal.nD) → Buf (Elt Ideal) ((c.tc : Thread Cert.Kernel13Ideal.nD Cert.Kernel13Ideal.τ).loc Cert.Kernel13Ideal.main_v3_2)) (v3 : (c : Dev Cert.Kernel13Ideal.nD) → Buf (Elt Ideal) ((c.tc : Thread Cert.Kernel13Ideal.nD Cert.Kernel13Ideal.τ).loc Cert.Kernel13Ideal.main_v3_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v3_0) = v0 c
          ∧ r.2.mem ((c.tc : Thread Cert.Kernel13Ideal.nD Cert.Kernel13Ideal.τ).loc Cert.Kernel13Ideal.main_v3_1) = v1 c
          ∧ r.2.mem ((c.tc : Thread Cert.Kernel13Ideal.nD Cert.Kernel13Ideal.τ).loc Cert.Kernel13Ideal.main_v3_2) = v2 c
          ∧ r.2.mem ((c.tc : Thread Cert.Kernel13Ideal.nD Cert.Kernel13Ideal.τ).loc Cert.Kernel13Ideal.main_v3_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v25) = v0 c
          ∧ r.2.mem ((c.tc : Thread Cert.Reference13Ideal.nD Cert.Reference13Ideal.τ).loc Cert.Reference13Ideal.main_v26) = v1 c
          ∧ r.2.mem ((c.tc : Thread Cert.Reference13Ideal.nD Cert.Reference13Ideal.τ).loc Cert.Reference13Ideal.main_v27) = v2 c
          ∧ r.2.mem ((c.tc : Thread Cert.Reference13Ideal.nD Cert.Reference13Ideal.τ).loc Cert.Reference13Ideal.main_v28) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v7) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v7) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hPre_finite : Cert.Pre_finite.Facts) (hPre_finite2 : Cert.Pre_finite2.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
-- ==== Pre_finite.lean ====
abbrev S4096x1536 : Shape := ⟨2, ![4096, 1536]⟩
abbrev S4096x512 : Shape := ⟨2, ![4096, 512]⟩
abbrev S4096x2048 : Shape := ⟨2, ![4096, 2048]⟩
abbrev S_ : Shape := ⟨0, ![]⟩

class Facts : Prop where
  bcast_S_S4096x1536 : S_.BroadcastsInDim S4096x1536 (![] : Fin 0 → Fin S4096x1536.rank)
  bcast_S_S4096x512 : S_.BroadcastsInDim S4096x512 (![] : Fin 0 → Fin S4096x512.rank)
  bcast_S_S4096x2048 : S_.BroadcastsInDim S4096x2048 (![] : Fin 0 → Fin S4096x2048.rank)

variable [Facts]

def fn {F : FTy → Type} [FloatOps F] (main_arg0 : FVec F S4096x1536 .f32) (main_arg1 : FVec F S4096x512 .f32) (main_arg2 : FVec F S4096x512 .f32) (main_arg3 : FVec F S4096x2048 .f32) : IVec S4096x1536 1 × IVec S4096x512 1 × IVec S4096x512 1 × IVec S4096x2048 1 :=
  let main_v0 : FVec F S4096x1536 .f32 := Host.absf main_arg0
  let main_cst : FVec F S_ .f32 := constant S_ .f32 0x7F800000#32
  let main_v1 : FVec F S4096x1536 .f32 := broadcastInDim S4096x1536 ![] bcast_S_S4096x1536 main_cst
  let main_v2 : IVec S4096x1536 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : FVec F S4096x512 .f32 := Host.absf main_arg2
  let main_cst_1 : FVec F S_ .f32 := constant S_ .f32 0x7F800000#32
  let main_v7 : FVec F S4096x512 .f32 := broadcastInDim S4096x512 ![] bcast_S_S4096x512 main_cst_1
  let main_v8 : IVec S4096x512 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  (main_v2, main_v5, main_v8, main_v11)
-- ==== Pre_finite2.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg3
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  (main_v3, main_v7, main_v11)
-- ==== Pre_finite8.lean ====
abbrev S4096x2048 : Shape := ⟨2, ![4096, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  bcast_S_S2048 : S_.BroadcastsInDim S2048 (![] : Fin 0 → Fin S2048.rank)

variable [Facts]

def fn {F : FTy → Type} [FloatOps F] (main_arg0 : FVec F S4096x2048 .f32) (main_arg1 : FVec F S2048 .f32) (main_arg2 : FVec F S4096x2048 .f32) (main_arg3 : FVec F S4096x2048 .f32) : IVec S4096x2048 1 × IVec S2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S4096x2048 .f32 := Host.absf main_arg2
  let main_cst_1 : FVec F S_ .f32 := constant S_ .f32 0x7F800000#32
  let main_v7 : FVec F S4096x2048 .f32 := broadcastInDim S4096x2048 ![] bcast_S_S4096x2048 main_cst_1
  let main_v8 : IVec S4096x2048 1 := cmpf .olt main_v6 main_v7
  (main_v2, main_v5, main_v8)
-- ==== Kernel.lean ====
abbrev S4096x1536 : Shape := ⟨2, ![4096, 1536]⟩
abbrev S4096x512 : Shape := ⟨2, ![4096, 512]⟩
abbrev S4096x2048 : Shape := ⟨2, ![4096, 2048]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x3x4096x128 : Shape := ⟨4, ![4, 3, 4096, 128]⟩
abbrev S4x3x8x512 : Shape := ⟨4, ![4, 3, 8, 512]⟩
abbrev S4x8x3x512 : Shape := ⟨4, ![4, 8, 3, 512]⟩
abbrev S4x12288x1 : Shape := ⟨3, ![4, 12288, 1]⟩
abbrev S4x12288x128 : Shape := ⟨3, ![4, 12288, 128]⟩
abbrev S512x384 : Shape := ⟨2, ![512, 384]⟩
abbrev S1024x128 : Shape := ⟨2, ![1024, 128]⟩
abbrev S1x1536x128 : Shape := ⟨3, ![1, 1536, 128]⟩
abbrev S12288x128 : Shape := ⟨2, ![12288, 128]⟩
abbrev S512x128 : Shape := ⟨2, ![512, 128]⟩
abbrev S512x1024 : Shape := ⟨2, ![512, 1024]⟩
abbrev S1x512x1 : Shape := ⟨3, ![1, 512, 1]⟩
abbrev S512x1 : Shape := ⟨2, ![512, 1]⟩
abbrev S1536x128 : Shape := ⟨2, ![1536, 128]⟩

abbrev nBuf : Space → Nat
  | .hbm => 57
  | .vmem => 21
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S4096x4x3x128, .f32⟩
  | .hbm, ⟨5, _⟩ => ⟨S4096x4x128, .f32⟩
  | .hbm, ⟨6, _⟩ => ⟨S4096x4x128, .f32⟩
  | .hbm, ⟨7, _⟩ => ⟨S4x4096x4096x3, .f32⟩
  | .hbm, ⟨8, _⟩ => ⟨S4x3x4096x4096, .f32⟩
  | .hbm, ⟨9, _⟩ => ⟨S_, .f32⟩
  | .hbm, ⟨10, _⟩ => ⟨S4x3x4096x4096, .f32⟩
  | .hbm, ⟨11, _⟩ => ⟨S4x3x4096x4096, .f32⟩
  | .hbm, ⟨12, _⟩ => ⟨S_, .f32⟩
  | .hbm, ⟨13, _⟩ => ⟨S4x3x4096, .f32⟩
  | .hbm, ⟨14, _⟩ => ⟨S4x3x4096x1, .f32⟩
  | .hbm, ⟨15, _⟩ => ⟨S4x3x4096x4096, .f32⟩
  | .hbm, ⟨16, _⟩ => ⟨S4x3x4096x4096, .f32⟩
  | .hbm, ⟨17, _⟩ => ⟨S4x3x4096x4096, .f32⟩
  | .hbm, ⟨18, _⟩ => ⟨S_, .f32⟩
  | .hbm, ⟨19, _⟩ => ⟨S4x3x4096, .f32⟩
  | .hbm, ⟨20, _⟩ => ⟨S4x3x4096x1, .f32⟩
  | .hbm, ⟨21, _⟩ => ⟨S_, .f32⟩
  | .hbm, ⟨22, _⟩ => ⟨S_, .f32⟩
  | .hbm, ⟨23, _⟩ => ⟨S4x3x4096x1, .f32⟩
  | .hbm, ⟨24, _⟩ => ⟨S4x3x4096x1, .f32⟩
  | .hbm, ⟨25, _⟩ => ⟨S4x3x4096x1, .f32⟩
  | .hbm, ⟨26, _⟩ => ⟨S4x3x4096x1, .f32⟩
  | .hbm, ⟨27, _⟩ => ⟨S4x3x4096, .f32⟩
  | .hbm, ⟨28, _⟩ => ⟨S4x3x4096x4096, .f32⟩
  | .hbm, ⟨29, _⟩ => ⟨S4x3x4096x4096, .f32⟩
  | .hbm, ⟨30, _⟩ => ⟨S4x3x4096x128, .f32⟩
  | .hbm, ⟨31, _⟩ => ⟨S4096x1536, .f32⟩
  | .hbm, ⟨32, _⟩ => ⟨S4096x4x3x128, .f32⟩
  | .hbm, ⟨33, _⟩ => ⟨S4x3x4096x128, .f32⟩
  | .hbm, ⟨34, _⟩ => ⟨S4x3x4096x128, .f32⟩
  | .hbm, ⟨35, _⟩ => ⟨S_, .f32⟩
  | .hbm, ⟨36, _⟩ => ⟨S4x3x4096, .f32⟩
  | .hbm, ⟨37, _⟩ => ⟨S_, .f32⟩
  | .hbm, ⟨38, _⟩ => ⟨S4096x1536, .f32⟩
  | .hbm, ⟨39, _⟩ => ⟨S4096x1536, .f32⟩
  | .hbm, ⟨40, _⟩ => ⟨S4096x1536, .f32⟩
  | .hbm, ⟨41, _⟩ => ⟨S4096x1536, .f32⟩
  | .hbm, ⟨42, _⟩ => ⟨S4096x1536, .bf16⟩
  | .hbm, ⟨43, _⟩ => ⟨S4096x512, .bf16⟩
  | .hbm, ⟨44, _⟩ => ⟨S4096x512, .bf16⟩
  | .hbm, ⟨45, _⟩ => ⟨S4x3x8x512, .f32⟩
  | .hbm, ⟨46, _⟩ => ⟨S4x8x3x512, .f32⟩
  | .hbm, ⟨47, _⟩ => ⟨S4x12288x1, .f32⟩
  | .hbm, ⟨48, _⟩ => ⟨S4x12288x128, .f32⟩
  | .hbm, ⟨49, _⟩ => ⟨S4096x2048, .bf16⟩
  | .hbm, ⟨50, _⟩ => ⟨S4x3x8x512, .f32⟩
  | .hbm, ⟨51, _⟩ => ⟨S4x8x3x512, .f32⟩
  | .hbm, ⟨52, _⟩ => ⟨S4x12288x1, .f32⟩
  | .hbm, ⟨53, _⟩ => ⟨S4x12288x128, .f32⟩
  | .hbm, ⟨54, _⟩ => ⟨S4096x1536, .f32⟩
  | .hbm, ⟨55, _⟩ => ⟨S4096x512, .f32⟩
  | .hbm, ⟨56, _⟩ => ⟨S4096x512, .f32⟩
  | .local _ .vmem, ⟨0, _⟩ => ⟨S512x384, .bf16⟩
  | .local _ .vmem, ⟨1, _⟩ => ⟨S512x384, .bf16⟩
  | .local _ .vmem, ⟨2, _⟩ => ⟨S1024x128, .bf16⟩
  | .local _ .vmem, ⟨3, _⟩ => ⟨S1024x128, .bf16⟩
  | .local _ .vmem, ⟨4, _⟩ => ⟨S1024x128, .bf16⟩
  | .local _ .vmem, ⟨5, _⟩ => ⟨S1024x128, .bf16⟩
  | .local _ .vmem, ⟨6, _⟩ => ⟨S512x384, .bf16⟩
  | .local _ .vmem, ⟨7, _⟩ => ⟨S512x384, .bf16⟩
  | .local _ .vmem, ⟨8, _⟩ => ⟨S1x1536x128, .f32⟩
  | .local _ .vmem, ⟨9, _⟩ => ⟨S1x1536x128, .f32⟩
  | .local _ .vmem, ⟨10, _⟩ => ⟨S1x1536x128, .f32⟩
  | .local _ .vmem, ⟨11, _⟩ => ⟨S1x1536x128, .f32⟩
  | .local _ .vmem, ⟨12, _⟩ => ⟨S512x384, .f32⟩
  | .local _ .vmem, ⟨13, _⟩ => ⟨S512x384, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | .local _ .vmem, ⟨17, _⟩ => ⟨S1024x128, .f32⟩
  | .local _ .vmem, ⟨18, _⟩ => ⟨S12288x128, .f32⟩
  | .local _ .vmem, ⟨19, _⟩ => ⟨S1024x128, .f32⟩
  | .local _ .vmem, ⟨20, _⟩ => ⟨S1024x128, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44_0 : Ref sig .tc := ⟨.hbm, 54, rfl⟩
abbrev main_v44_1 : Ref sig .tc := ⟨.hbm, 55, rfl⟩
abbrev main_v44_2 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 8], ![false, false, false]⟩

def k0_mult1 (i : grid0.Coords) : BitVec 32 :=
  let arg2 : BitVec 32 := BitVec.ofNat 32 (i 2).val
  let c1536_i32 : BitVec 32 := 1536#32
  let v84 : BitVec 32 := Scalar.muli arg2 c1536_i32
  v84
def k0_cond2 (i : grid0.Coords) : BitVec 1 :=
  let arg1 : BitVec 32 := BitVec.ofNat 32 (i 1).val
  let c0_i32_52 : BitVec 32 := 0#32
  let v87 : BitVec 1 := Scalar.cmpi .eq arg1 c0_i32_52
  let v88 : BitVec 32 := Scalar.extui v87
  let c0_i32_53 : BitVec 32 := 0#32
  let v89 : BitVec 1 := Scalar.cmpi .ne v88 c0_i32_53
  v89

def k0_off1 (i : grid0.Coords) : Fin 2 → Nat :=
  let arg2 : BitVec 32 := BitVec.ofNat 32 (i 2).val
  let c1536_i32 : BitVec 32 := 1536#32
  let v84 : BitVec 32 := Scalar.muli arg2 c1536_i32
  let v85 : BitVec 32 := v84
  let v99 : Index := Scalar.indexCast v85
  let c0_58 : Index := 0#32
  ![v99.toNat, 0]
def k0_cond3 (i : grid0.Coords) : BitVec 1 :=
  let arg1 : BitVec 32 := BitVec.ofNat 32 (i 1).val
  let c0_i32_54 : BitVec 32 := 0#32
  let v90 : BitVec 1 := Scalar.cmpi .sgt arg1 c0_i32_54
  let v91 : BitVec 32 := Scalar.extui v90
  let c0_i32_55 : BitVec 32 := 0#32
  let v92 : BitVec 1 := Scalar.cmpi .ne v91 c0_i32_55
  v92

def k0_off2 (i : grid0.Coords) : Fin 2 → Nat :=
  let arg2 : BitVec 32 := BitVec.ofNat 32 (i 2).val
  let c1536_i32 : BitVec 32 := 1536#32
  let v84 : BitVec 32 := Scalar.muli arg2 c1536_i32
  let v85 : BitVec 32 := v84
  let v99 : Index := Scalar.indexCast v85
  let c0_58 : Index := 0#32
  ![v99.toNat, 0]
def k0_cond4 (i : grid0.Coords) : BitVec 1 :=
  let arg1 : BitVec 32 := BitVec.ofNat 32 (i 1).val
  let c3_i32 : BitVec 32 := 3#32
  let v93 : BitVec 1 := Scalar.cmpi .eq arg1 c3_i32
  let v94 : BitVec 32 := Scalar.extui v93
  let c0_i32_56 : BitVec 32 := 0#32
  let v95 : BitVec 1 := Scalar.cmpi .ne v94 c0_i32_56
  v95

def k0_off3 (i : grid0.Coords) : Fin 2 → Nat :=
  let arg2 : BitVec 32 := BitVec.ofNat 32 (i 2).val
  let c1536_i32 : BitVec 32 := 1536#32
  let v84 : BitVec 32 := Scalar.muli arg2 c1536_i32
  let v85 : BitVec 32 := v84
  let v99 : Index := Scalar.indexCast v85
  let c0_58 : Index := 0#32
  ![v99.toNat, 0]
def k0_cond5 (i : grid0.Coords) : BitVec 1 :=
  let arg2 : BitVec 32 := BitVec.ofNat 32 (i 2).val
  let c7_i32 : BitVec 32 := 7#32
  let v96 : BitVec 1 := Scalar.cmpi .eq arg2 c7_i32
  let v97 : BitVec 32 := Scalar.extui v96
  let c0_i32_57 : BitVec 32 := 0#32
  let v98 : BitVec 1 := Scalar.cmpi .ne v97 c0_i32_57
  v98

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 1 := Scalar.cmpi .eq arg1 c3_i32
  let c0_i32 : BitVec 32 := 0#32
  let v1 : BitVec 32 := Scalar.select v0 arg2 c0_i32
  let c0_i32_0 : BitVec 32 := 0#32
  ![v1.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x384 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1536x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x1536x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S512x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S4096x1536 : Shape := ⟨2, ![4096, 1536]⟩
abbrev S4096x512 : Shape := ⟨2, ![4096, 512]⟩
abbrev S4096x2048 : Shape := ⟨2, ![4096, 2048]⟩
abbrev S4096x4x3x128 : Shape := ⟨4, ![4096, 4, 3, 128]⟩
abbrev S4096x4x128 : Shape := ⟨3, ![4096, 4, 128]⟩
abbrev S4x4096x4096x3 : Shape := ⟨4, ![4, 4096, 4096, 3]⟩
abbrev S4x3x4096x4096 : Shape := ⟨4, ![4, 3, 4096, 4096]⟩
abbrev S_ : Shape := ⟨0, ![]⟩
abbrev S4x3x4096 : Shape := ⟨3, ![4, 3, 4096]⟩
abbrev S4x3x4096x1 : Shape := ⟨4, ![4, 3, 4096, 1]⟩
abbrev S4x128x3x4096 : Shape := ⟨4, ![4, 128, 3, 4096]⟩
abbrev S4x128x4096 : Shape := ⟨3, ![4, 128, 4096]⟩
abbrev S4x4096x3x128 : Shape := ⟨4, ![4, 4096, 3, 128]⟩
abbrev S4x4096x128 : Shape := ⟨3, ![4, 4096, 128]⟩

abbrev nBuf : Space → Nat
  | .hbm => 84
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x512, .f32⟩
  | .hbm, ⟨2, _⟩ => ⟨S4096x512, .f32⟩
  | .hbm, ⟨3, _⟩ => ⟨S4096x2048, .f32⟩
  | .hbm, ⟨4, _⟩ => ⟨S4096x4x3x128, .f32⟩
  | .hbm, ⟨5, _⟩ => ⟨S4096x4x128, .f32⟩
  | .hbm, ⟨6, _⟩ => ⟨S4096x4x128, .f32⟩
  | .hbm, ⟨7, _⟩ => ⟨S4x4096x4096x3, .f32⟩
  | .hbm, ⟨8, _⟩ => ⟨S4x3x4096x4096, .f32⟩
  | .hbm, ⟨9, _⟩ => ⟨S_, .f32⟩
  | .hbm, ⟨10, _⟩ => ⟨S4x3x4096x4096, .f32⟩
  | .hbm, ⟨11, _⟩ => ⟨S4x3x4096x4096, .f32⟩
  | .hbm, ⟨12, _⟩ => ⟨S_, .f32⟩
  | .hbm, ⟨13, _⟩ => ⟨S4x3x4096, .f32⟩
  | .hbm, ⟨14, _⟩ => ⟨S4x3x4096x1, .f32⟩
  | .hbm, ⟨15, _⟩ => ⟨S4x3x4096x4096, .f32⟩
  | .hbm, ⟨16, _⟩ => ⟨S4x3x4096x4096, .i1⟩
  | .hbm, ⟨17, _⟩ => ⟨S4x3x4096x4096, .f32⟩
  | .hbm, ⟨18, _⟩ => ⟨S_, .f32⟩
  | .hbm, ⟨19, _⟩ => ⟨S4x3x4096, .f32⟩
  | .hbm, ⟨20, _⟩ => ⟨S_, .f32⟩
  | .hbm, ⟨21, _⟩ => ⟨S4x3x4096, .f32⟩
  | .hbm, ⟨22, _⟩ => ⟨S4x3x4096, .f32⟩
  | .hbm, ⟨23, _⟩ => ⟨S_, .f32⟩
  | .hbm, ⟨24, _⟩ => ⟨S4x3x4096, .f32⟩
  | .hbm, ⟨25, _⟩ => ⟨S4x3x4096, .i1⟩
  | .hbm, ⟨26, _⟩ => ⟨S_, .f32⟩
  | .hbm, ⟨27, _⟩ => ⟨S4x3x4096, .f32⟩
  | .hbm, ⟨28, _⟩ => ⟨S4x3x4096, .i1⟩
  | .hbm, ⟨29, _⟩ => ⟨S_, .f32⟩
  | .hbm, ⟨30, _⟩ => ⟨S4x3x4096, .f32⟩
  | .hbm, ⟨31, _⟩ => ⟨S_, .f32⟩
  | .hbm, ⟨32, _⟩ => ⟨S4x3x4096, .f32⟩
  | .hbm, ⟨33, _⟩ => ⟨S_, .f32⟩
  | .hbm, ⟨34, _⟩ => ⟨S4x3x4096, .f32⟩
  | .hbm, ⟨35, _⟩ => ⟨S4x3x4096, .f32⟩
  | .hbm, ⟨36, _⟩ => ⟨S4x3x4096, .f32⟩
  | .hbm, ⟨37, _⟩ => ⟨S4x3x4096x1, .f32⟩
  | .hbm, ⟨38, _⟩ => ⟨S4x3x4096x4096, .f32⟩
  | .hbm, ⟨39, _⟩ => ⟨S4x3x4096x4096, .f32⟩
  | .hbm, ⟨40, _⟩ => ⟨S4x3x4096x4096, .f32⟩
  | .hbm, ⟨41, _⟩ => ⟨S_, .f32⟩
  | .hbm, ⟨42, _⟩ => ⟨S4x3x4096, .f32⟩
  | .hbm, ⟨43, _⟩ => ⟨S4x3x4096x1, .f32⟩
  | .hbm, ⟨44, _⟩ => ⟨S4x3x4096x4096, .f32⟩
  | .hbm, ⟨45, _⟩ => ⟨S4x3x4096x4096, .f32⟩
  | .hbm, ⟨46, _⟩ => ⟨S4x3x4096x1, .f32⟩
  | .hbm, ⟨47, _⟩ => ⟨S_, .f32⟩
  | .hbm, ⟨48, _⟩ => ⟨S4x3x4096x1, .f32⟩
  | .hbm, ⟨49, _⟩ => ⟨S4x3x4096x1, .f32⟩
  | .hbm, ⟨50, _⟩ => ⟨S4x128x3x4096, .f32⟩
  | .hbm, ⟨51, _⟩ => ⟨S4096x4x3x128, .f32⟩
  | .hbm, ⟨52, _⟩ => ⟨S4096x1536, .f32⟩
  | .hbm, ⟨53, _⟩ => ⟨S4096x1536, .f32⟩
  | .hbm, ⟨54, _⟩ => ⟨S4096x4x3x128, .f32⟩
  | .hbm, ⟨55, _⟩ => ⟨S4x128x3x4096, .f32⟩
  | .hbm, ⟨56, _⟩ => ⟨S4x3x4096x4096, .f32⟩
  | .hbm, ⟨57, _⟩ => ⟨S4x128x4096, .f32⟩
  | .hbm, ⟨58, _⟩ => ⟨S4096x4x128, .f32⟩
  | .hbm, ⟨59, _⟩ => ⟨S4x3x4096x4096, .f32⟩
  | .hbm, ⟨60, _⟩ => ⟨S4x3x4096x4096, .f32⟩
  | .hbm, ⟨61, _⟩ => ⟨S4x3x4096x4096, .f32⟩
  | .hbm, ⟨62, _⟩ => ⟨S_, .f32⟩
  | .hbm, ⟨63, _⟩ => ⟨S4x3x4096, .f32⟩
  | .hbm, ⟨64, _⟩ => ⟨S4x3x4096x1, .f32⟩
  | .hbm, ⟨65, _⟩ => ⟨S4x3x4096x1, .f32⟩
  | .hbm, ⟨66, _⟩ => ⟨S4x3x4096x4096, .f32⟩
  | .hbm, ⟨67, _⟩ => ⟨S4x3x4096x4096, .f32⟩
  | .hbm, ⟨68, _⟩ => ⟨S_, .f32⟩
  | .hbm, ⟨69, _⟩ => ⟨S4x3x4096, .f32⟩
  | .hbm, ⟨70, _⟩ => ⟨S4x3x4096x4096, .f32⟩
  | .hbm, ⟨71, _⟩ => ⟨S4x3x4096x4096, .f32⟩
  | .hbm, ⟨72, _⟩ => ⟨S4x3x4096x4096, .f32⟩
  | .hbm, ⟨73, _⟩ => ⟨S_, .f32⟩
  | .hbm, ⟨74, _⟩ => ⟨S4x3x4096x4096, .f32⟩
  | .hbm, ⟨75, _⟩ => ⟨S4x3x4096x4096, .f32⟩
  | .hbm, ⟨76, _⟩ => ⟨S4x4096x4096x3, .f32⟩
  | .hbm, ⟨77, _⟩ => ⟨S4x4096x3x128, .f32⟩
  | .hbm, ⟨78, _⟩ => ⟨S4096x4x3x128, .f32⟩
  | .hbm, ⟨79, _⟩ => ⟨S4x4096x128, .f32⟩
  | .hbm, ⟨80, _⟩ => ⟨S4096x4x128, .f32⟩
  | .hbm, ⟨81, _⟩ => ⟨S4096x512, .f32⟩
  | .hbm, ⟨82, _⟩ => ⟨S4096x512, .f32⟩
  | .hbm, ⟨83, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S512x2048 : Shape := ⟨2, ![512, 2048]⟩
abbrev S1408x2048 : Shape := ⟨2, ![1408, 2048]⟩
abbrev S512x1408 : Shape := ⟨2, ![512, 1408]⟩
abbrev S256x2048 : Shape := ⟨2, ![256, 2048]⟩
abbrev S256x1408 : Shape := ⟨2, ![256, 1408]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1408x2048, .bf16⟩
  | .local _ .vmem, ⟨3, _⟩ => ⟨S1408x2048, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S_, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .bf16⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .f32⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S4096x2048 : Shape := ⟨2, ![4096, 2048]⟩
abbrev S4096x5632 : Shape := ⟨2, ![4096, 5632]⟩
abbrev S8x2048x1408 : Shape := ⟨3, ![8, 2048, 1408]⟩
abbrev S2048x1024 : Shape := ⟨2, ![2048, 1024]⟩
abbrev S2048x1408 : Shape := ⟨2, ![2048, 1408]⟩
abbrev S1x1024x1408 : Shape := ⟨3, ![1, 1024, 1408]⟩
abbrev S1024x1408 : Shape := ⟨2, ![1024, 1408]⟩
abbrev S2048x8x1408 : Shape := ⟨3, ![2048, 8, 1408]⟩
abbrev S2048x11264 : Shape := ⟨2, ![2048, 11264]⟩

abbrev nBuf : Space → Nat
  | .hbm => 6
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S8x2048x1408, .bf16⟩
  | .hbm, ⟨4, _⟩ => ⟨S2048x8x1408, .bf16⟩
  | .hbm, ⟨5, _⟩ => ⟨S2048x11264, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S2048x1408, .bf16⟩
  | .local _ .vmem, ⟨6, _⟩ => ⟨S1x1024x1408, .bf16⟩
  | .local _ .vmem, ⟨7, _⟩ => ⟨S1x1024x1408, .bf16⟩
  | .local _ .vmem, ⟨8, _⟩ => ⟨S1x1024x1408, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.subi arg1 c4_i32
  let c0_i32 : BitVec 32 := 0#32
  let c3_i32 : BitVec 32 := 3#32
  let v1 : BitVec 32 := Scalar.maxsi c0_i32 v0
  let v2 : BitVec 32 := Scalar.minsi c3_i32 v1
  let c0_i32_0 : BitVec 32 := 0#32
  ![arg2.toNat, v2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x2048 : Shape := ⟨2, ![4096, 2048]⟩
abbrev S4096x5632 : Shape := ⟨2, ![4096, 5632]⟩
abbrev S_ : Shape := ⟨0, ![]⟩
abbrev S2048x11264 : Shape := ⟨2, ![2048, 11264]⟩
abbrev S4096x11264 : Shape := ⟨2, ![4096, 11264]⟩
abbrev S11264x2048 : Shape := ⟨2, ![11264, 2048]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x5632, .bf16⟩
  | .hbm, ⟨3, _⟩ => ⟨S_, .bf16⟩
  | .hbm, ⟨4, _⟩ => ⟨S2048x11264, .bf16⟩
  | .hbm, ⟨5, _⟩ => ⟨S4096x2048, .f32⟩
  | .hbm, ⟨6, _⟩ => ⟨S2048x11264, .f32⟩
  | .hbm, ⟨7, _⟩ => ⟨S4096x11264, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S4096x5632, .f32⟩
  | .hbm, ⟨12, _⟩ => ⟨S4096x11264, .f32⟩
  | .hbm, ⟨13, _⟩ => ⟨S11264x2048, .f32⟩
  | .hbm, ⟨14, _⟩ => ⟨S2048x11264, .f32⟩
  | .hbm, ⟨15, _⟩ => ⟨S2048x11264, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel4.lean ====
abbrev S4096x5632 : Shape := ⟨2, ![4096, 5632]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x2048 : Shape := ⟨2, ![4096, 2048]⟩
abbrev S512x2816 : Shape := ⟨2, ![512, 2816]⟩
abbrev S2x2048x1408 : Shape := ⟨3, ![2, 2048, 1408]⟩
abbrev S512x2048 : Shape := ⟨2, ![512, 2048]⟩
abbrev S512x1408 : Shape := ⟨2, ![512, 1408]⟩
abbrev S1x2048x1408 : Shape := ⟨3, ![1, 2048, 1408]⟩
abbrev S2048x1408 : Shape := ⟨2, ![2048, 1408]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x11264, .bf16⟩
  | .hbm, ⟨3, _⟩ => ⟨S2048x8x1408, .bf16⟩
  | .hbm, ⟨4, _⟩ => ⟨S8x2048x1408, .bf16⟩
  | .hbm, ⟨5, _⟩ => ⟨S4096x2048, .f32⟩
  | .local _ .vmem, ⟨0, _⟩ => ⟨S512x2816, .bf16⟩
  | .local _ .vmem, ⟨1, _⟩ => ⟨S512x2816, .bf16⟩
  | .local _ .vmem, ⟨2, _⟩ => ⟨S512x2816, .bf16⟩
  | .local _ .vmem, ⟨3, _⟩ => ⟨S512x2816, .bf16⟩
  | .local _ .vmem, ⟨4, _⟩ => ⟨S2x2048x1408, .bf16⟩
  | .local _ .vmem, ⟨5, _⟩ => ⟨S2x2048x1408, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let c1_i32 : BitVec 32 := 1#32
  let v1 : BitVec 32 := Scalar.maxsi c0_i32 v0
  let v2 : BitVec 32 := Scalar.minsi c1_i32 v1
  let c0_i32_0 : BitVec 32 := 0#32
  ![arg0.toNat, v2.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S4096x5632 : Shape := ⟨2, ![4096, 5632]⟩
abbrev S2048x11264 : Shape := ⟨2, ![2048, 11264]⟩
abbrev S_ : Shape := ⟨0, ![]⟩
abbrev S4096x2048 : Shape := ⟨2, ![4096, 2048]⟩
abbrev S4096x11264 : Shape := ⟨2, ![4096, 11264]⟩

abbrev nBuf : Space → Nat
  | .hbm => 13
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x5632, .bf16⟩
  | .hbm, ⟨2, _⟩ => ⟨S2048x11264, .bf16⟩
  | .hbm, ⟨3, _⟩ => ⟨S_, .f32⟩
  | .hbm, ⟨4, _⟩ => ⟨S4096x2048, .f32⟩
  | .hbm, ⟨5, _⟩ => ⟨S2048x11264, .f32⟩
  | .hbm, ⟨6, _⟩ => ⟨S4096x11264, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S4096x5632, .f32⟩
  | .hbm, ⟨11, _⟩ => ⟨S4096x11264, .f32⟩
  | .hbm, ⟨12, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel5.lean ====
abbrev S4096x5632 : Shape := ⟨2, ![4096, 5632]⟩
abbrev S4096x2048 : Shape := ⟨2, ![4096, 2048]⟩
abbrev S5632x2048 : Shape := ⟨2, ![5632, 2048]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .bf16⟩
  | .hbm, ⟨3, _⟩ => ⟨S5632x2048, .bf16⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .f32⟩
  | .hbm, ⟨8, _⟩ => ⟨S2048x5632, .f32⟩
  | .hbm, ⟨9, _⟩ => ⟨S5632x2048, .f32⟩
  | .hbm, ⟨10, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel6.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S4096x5632 : Shape := ⟨2, ![4096, 5632]⟩
abbrev S512x2048 : Shape := ⟨2, ![512, 2048]⟩
abbrev S1x2048x1408 : Shape := ⟨3, ![1, 2048, 1408]⟩
abbrev S512x1408 : Shape := ⟨2, ![512, 1408]⟩
abbrev S2048x1408 : Shape := ⟨2, ![2048, 1408]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S2048x8x1408, .bf16⟩
  | .hbm, ⟨3, _⟩ => ⟨S8x2048x1408, .bf16⟩
  | .hbm, ⟨4, _⟩ => ⟨S4096x5632, .bf16⟩
  | .hbm, ⟨5, _⟩ => ⟨S4096x5632, .bf16⟩
  | .hbm, ⟨6, _⟩ => ⟨S4096x5632, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v2_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg1 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference6Ideal.lean ====
abbrev S4096x2048 : Shape := ⟨2, ![4096, 2048]⟩
abbrev S2048x11264 : Shape := ⟨2, ![2048, 11264]⟩
abbrev S4096x11264 : Shape := ⟨2, ![4096, 11264]⟩
abbrev S4096x5632 : Shape := ⟨2, ![4096, 5632]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x11264, .bf16⟩
  | .hbm, ⟨2, _⟩ => ⟨S4096x2048, .f32⟩
  | .hbm, ⟨3, _⟩ => ⟨S2048x11264, .f32⟩
  | .hbm, ⟨4, _⟩ => ⟨S4096x11264, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S_, .f32⟩
  | .hbm, ⟨10, _⟩ => ⟨S4096x5632, .f32⟩
  | .hbm, ⟨11, _⟩ => ⟨S4096x5632, .f32⟩
  | .hbm, ⟨12, _⟩ => ⟨S_, .f32⟩
  | .hbm, ⟨13, _⟩ => ⟨S4096x5632, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .bf16⟩
  | .hbm, ⟨18, _⟩ => ⟨S4096x5632, .bf16⟩
  | .hbm, ⟨19, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩

abbrev nD : Nat := 1
abbrev τ : Topo := Topo.v7x

variable {F : FTy → Type} [FloatOps F]
-- ==== Kernel7.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4096x2048 : Shape := ⟨2, ![4096, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S4096x2048 : Shape := ⟨2, ![4096, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S4096x2048, .f32⟩
  | .hbm, ⟨29, _⟩ => ⟨S4096x2048, .f32⟩
  | .hbm, ⟨30, _⟩ => ⟨S_, .f32⟩
  | .hbm, ⟨31, _⟩ => ⟨S2048, .f32⟩
  | .hbm, ⟨32, _⟩ => ⟨S4096x2048, .f32⟩
  | .hbm, ⟨33, _⟩ => ⟨S_, .f32⟩
  | .hbm, ⟨34, _⟩ => ⟨S4096, .f32⟩
  | .hbm, ⟨35, _⟩ => ⟨S4096x1, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .bf16⟩
  | .hbm, ⟨51, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .bf16⟩
  | .hbm, ⟨3, _⟩ => ⟨S2048x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S2048x2048, .f32⟩
  | .hbm, ⟨9, _⟩ => ⟨S2048x2048, .f32⟩
  | .hbm, ⟨10, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .bf16⟩
  | .hbm, ⟨3, _⟩ => ⟨S4096x2048, .bf16⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference11Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S4096x2048 : Shape := ⟨2, ![4096, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x128, .f32⟩
  | .hbm, ⟨3, _⟩ => ⟨S4096x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x128, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S4096x2048 : Shape := ⟨2, ![4096, 2048]⟩
abbrev S_ : Shape := ⟨0, ![]⟩
abbrev S4096 : Shape := ⟨1, ![4096]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S4096x2048, .f32⟩
  | .hbm, ⟨6, _⟩ => ⟨S4096x2048, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x2048, .f32⟩
  | .hbm, ⟨24, _⟩ => ⟨S4096x2048, .f32⟩
  | .hbm, ⟨25, _⟩ => ⟨S1x128, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== Kernel13.lean ====
abbrev S8x416x1024 : Shape := ⟨3, ![8, 416, 1024]⟩
abbrev S416x1024 : Shape := ⟨2, ![416, 1024]⟩
abbrev S1x416x1024 : Shape := ⟨3, ![1, 416, 1024]⟩
abbrev S8x32x1024 : Shape := ⟨3, ![8, 32, 1024]⟩
abbrev S1x32x1024 : Shape := ⟨3, ![1, 32, 1024]⟩
abbrev S32x1024 : Shape := ⟨2, ![32, 1024]⟩

abbrev nBuf : Space → Nat
  | .hbm => 11
  | .vmem => 16
  | .smem => 0
  | _ => 0

abbrev bufTy : (tb : Table) → Fin (tcTables nBuf tb) → BufTy
  | .hbm, ⟨0, _⟩ => ⟨S8x416x1024, .f32⟩
  | .hbm, ⟨1, _⟩ => ⟨S416x1024, .f32⟩
  | .hbm, ⟨2, _⟩ => ⟨S416x1024, .f32⟩
  | .hbm, ⟨3, _⟩ => ⟨S416x1024, .f32⟩
  | .hbm, ⟨4, _⟩ => ⟨S1x416x1024, .f32⟩
  | .hbm, ⟨5, _⟩ => ⟨S1x416x1024, .f32⟩
  | .hbm, ⟨6, _⟩ => ⟨S1x416x1024, .f32⟩
  | .hbm, ⟨7, _⟩ => ⟨S1x416x1024, .f32⟩
  | .hbm, ⟨8, _⟩ => ⟨S1x416x1024, .f32⟩
  | .hbm, ⟨9, _⟩ => ⟨S1x416x1024, .f32⟩
  | .hbm, ⟨10, _⟩ => ⟨S1x416x1024, .f32⟩
  | .local _ .vmem, ⟨0, _⟩ => ⟨S8x32x1024, .f32⟩
  | .local _ .vmem, ⟨1, _⟩ => ⟨S8x32x1024, .f32⟩
  | .local _ .vmem, ⟨2, _⟩ => ⟨S1x32x1024, .f32⟩
  | .local _ .vmem, ⟨3, _⟩ => ⟨S1x32x1024, .f32⟩
  | .local _ .vmem, ⟨4, _⟩ => ⟨S1x32x1024, .f32⟩
  | .local _ .vmem, ⟨5, _⟩ => ⟨S1x32x1024, .f32⟩
  | .local _ .vmem, ⟨6, _⟩ => ⟨S1x32x1024, .f32⟩
  | .local _ .vmem, ⟨7, _⟩ => ⟨S1x32x1024, .f32⟩
  | .local _ .vmem, ⟨8, _⟩ => ⟨S1x32x1024, .f32⟩
  | .local _ .vmem, ⟨9, _⟩ => ⟨S1x32x1024, .f32⟩
  | .local _ .vmem, ⟨10, _⟩ => ⟨S1x32x1024, .f32⟩
  | .local _ .vmem, ⟨11, _⟩ => ⟨S1x32x1024, .f32⟩
  | .local _ .vmem, ⟨12, _⟩ => ⟨S1x32x1024, .f32⟩
  | .local _ .vmem, ⟨13, _⟩ => ⟨S1x32x1024, .f32⟩
  | .local _ .vmem, ⟨14, _⟩ => ⟨S1x32x1024, .f32⟩
  | .local _ .vmem, ⟨15, _⟩ => ⟨S1x32x1024, .f32⟩
  | _, _ => ⟨S8x416x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![13], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x32x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x32x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "inv_bias1" => some ((8388608 / 5463681 : ℝ) : EReal)
  | "inv_bias2" => some ((268435456 / 2672307 : ℝ) : EReal)
  | _ => none
-- ==== Reference13Ideal.lean ====
abbrev S8x416x1024 : Shape := ⟨3, ![8, 416, 1024]⟩
abbrev S416x1024 : Shape := ⟨2, ![416, 1024]⟩
abbrev S_ : Shape := ⟨0, ![]⟩
abbrev S1x416x1024 : Shape := ⟨3, ![1, 416, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8x416x1024, .f32⟩
  | .hbm, ⟨1, _⟩ => ⟨S416x1024, .f32⟩
  | .hbm, ⟨2, _⟩ => ⟨S416x1024, .f32⟩
  | .hbm, ⟨3, _⟩ => ⟨S416x1024, .f32⟩
  | .hbm, ⟨4, _⟩ => ⟨S_, .f32⟩
  | .hbm, ⟨5, _⟩ => ⟨S416x1024, .f32⟩
  | .hbm, ⟨6, _⟩ => ⟨S_, .f32⟩
  | .hbm, ⟨7, _⟩ => ⟨S416x1024, .f32⟩
  | .hbm, ⟨8, _⟩ => ⟨S416x1024, .f32⟩
  | .hbm, ⟨9, _⟩ => ⟨S_, .f32⟩
  | .hbm, ⟨10, _⟩ => ⟨S416x1024, .f32⟩
  | .hbm, ⟨11, _⟩ => ⟨S416x1024, .f32⟩
  | .hbm, ⟨12, _⟩ => ⟨S416x1024, .f32⟩
  | .hbm, ⟨13, _⟩ => ⟨S_, .f32⟩
  | .hbm, ⟨14, _⟩ => ⟨S416x1024, .f32⟩
  | .hbm, ⟨15, _⟩ => ⟨S416x1024, .f32⟩
  | .hbm, ⟨16, _⟩ => ⟨S416x1024, .f32⟩
  | .hbm, ⟨17, _⟩ => ⟨S_, .f32⟩
  | .hbm, ⟨18, _⟩ => ⟨S416x1024, .f32⟩
  | .hbm, ⟨19, _⟩ => ⟨S416x1024, .f32⟩
  | .hbm, ⟨20, _⟩ => ⟨S416x1024, .f32⟩
  | .hbm, ⟨21, _⟩ => ⟨S_, .f32⟩
  | .hbm, ⟨22, _⟩ => ⟨S416x1024, .f32⟩
  | .hbm, ⟨23, _⟩ => ⟨S416x1024, .f32⟩
  | .hbm, ⟨24, _⟩ => ⟨S_, .f32⟩
  | .hbm, ⟨25, _⟩ => ⟨S416x1024, .f32⟩
  | .hbm, ⟨26, _⟩ => ⟨S416x1024, .f32⟩
  | .hbm, ⟨27, _⟩ => ⟨S416x1024, .f32⟩
  | .hbm, ⟨28, _⟩ => ⟨S_, .f32⟩
  | .hbm, ⟨29, _⟩ => ⟨S416x1024, .f32⟩
  | .hbm, ⟨30, _⟩ => ⟨S416x1024, .f32⟩
  | .hbm, ⟨31, _⟩ => ⟨S416x1024, .f32⟩
  | .hbm, ⟨32, _⟩ => ⟨S_, .f32⟩
  | .hbm, ⟨33, _⟩ => ⟨S416x1024, .f32⟩
  | .hbm, ⟨34, _⟩ => ⟨S416x1024, .f32⟩
  | .hbm, ⟨35, _⟩ => ⟨S416x1024, .f32⟩
  | .hbm, ⟨36, _⟩ => ⟨S_, .f32⟩
  | .hbm, ⟨37, _⟩ => ⟨S416x1024, .f32⟩
  | .hbm, ⟨38, _⟩ => ⟨S416x1024, .f32⟩
  | .hbm, ⟨39, _⟩ => ⟨S1x416x1024, .f32⟩
  | .hbm, ⟨40, _⟩ => ⟨S1x416x1024, .f32⟩
  | .hbm, ⟨41, _⟩ => ⟨S1x416x1024, .f32⟩
  | .hbm, ⟨42, _⟩ => ⟨S1x416x1024, .f32⟩
  | _, _ => ⟨S8x416x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel14.lean ====
abbrev S4096x2048 : Shape := ⟨2, ![4096, 2048]⟩
abbrev S4096x3072 : Shape := ⟨2, ![4096, 3072]⟩
abbrev S8x2048x384 : Shape := ⟨3, ![8, 2048, 384]⟩
abbrev S2048x1024 : Shape := ⟨2, ![2048, 1024]⟩
abbrev S2048x384 : Shape := ⟨2, ![2048, 384]⟩
abbrev S1x1024x384 : Shape := ⟨3, ![1, 1024, 384]⟩
abbrev S1024x384 : Shape := ⟨2, ![1024, 384]⟩
abbrev S2048x8x384 : Shape := ⟨3, ![2048, 8, 384]⟩
abbrev S2048x3072 : Shape := ⟨2, ![2048, 3072]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S8x2048x384, .bf16⟩
  | .hbm, ⟨3, _⟩ => ⟨S2048x8x384, .bf16⟩
  | .hbm, ⟨4, _⟩ => ⟨S2048x3072, .bf16⟩
  | .local _ .vmem, ⟨0, _⟩ => ⟨S2048x1024, .bf16⟩
  | .local _ .vmem, ⟨1, _⟩ => ⟨S2048x1024, .bf16⟩
  | .local _ .vmem, ⟨2, _⟩ => ⟨S2048x384, .bf16⟩
  | .local _ .vmem, ⟨3, _⟩ => ⟨S2048x384, .bf16⟩
  | .local _ .vmem, ⟨4, _⟩ => ⟨S1x1024x384, .bf16⟩
  | .local _ .vmem, ⟨5, _⟩ => ⟨S1x1024x384, .bf16⟩
  | .local _ .vmem, ⟨6, _⟩ => ⟨S1x1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c7_i32 : BitVec 32 := 7#32
  let v1 : BitVec 32 := Scalar.maxsi c0_i32_0 v0
  let v2 : BitVec 32 := Scalar.minsi c7_i32 v1
  let c0_i32_1 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x3072 : Shape := ⟨2, ![4096, 3072]⟩
abbrev S_ : Shape := ⟨0, ![]⟩
abbrev S2048x3072 : Shape := ⟨2, ![2048, 3072]⟩
abbrev S3072x2048 : Shape := ⟨2, ![3072, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3072, .bf16⟩
  | .hbm, ⟨2, _⟩ => ⟨S_, .bf16⟩
  | .hbm, ⟨3, _⟩ => ⟨S2048x3072, .bf16⟩
  | .hbm, ⟨4, _⟩ => ⟨S4096x2048, .f32⟩
  | .hbm, ⟨5, _⟩ => ⟨S2048x3072, .f32⟩
  | .hbm, ⟨6, _⟩ => ⟨S4096x3072, .f32⟩
  | .hbm, ⟨7, _⟩ => ⟨S4096x3072, .f32⟩
  | .hbm, ⟨8, _⟩ => ⟨S3072x2048, .f32⟩
  | .hbm, ⟨9, _⟩ => ⟨S2048x3072, .f32⟩
  | .hbm, ⟨10, _⟩ => ⟨S2048x3072, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel15.lean ====
abbrev S4096x3072 : Shape := ⟨2, ![4096, 3072]⟩
abbrev S2048x3072 : Shape := ⟨2, ![2048, 3072]⟩
abbrev S2048x8x384 : Shape := ⟨3, ![2048, 8, 384]⟩
abbrev S8x2048x384 : Shape := ⟨3, ![8, 2048, 384]⟩
abbrev S4096x2048 : Shape := ⟨2, ![4096, 2048]⟩
abbrev S512x1536 : Shape := ⟨2, ![512, 1536]⟩
abbrev S4x2048x384 : Shape := ⟨3, ![4, 2048, 384]⟩
abbrev S512x2048 : Shape := ⟨2, ![512, 2048]⟩
abbrev S512x384 : Shape := ⟨2, ![512, 384]⟩
abbrev S1x2048x384 : Shape := ⟨3, ![1, 2048, 384]⟩
abbrev S2048x384 : Shape := ⟨2, ![2048, 384]⟩

abbrev nBuf : Space → Nat
  | .hbm => 5
  | .vmem => 7
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S2048x8x384, .bf16⟩
  | .hbm, ⟨3, _⟩ => ⟨S8x2048x384, .bf16⟩
  | .hbm, ⟨4, _⟩ => ⟨S4096x2048, .f32⟩
  | .local _ .vmem, ⟨0, _⟩ => ⟨S512x1536, .bf16⟩
  | .local _ .vmem, ⟨1, _⟩ => ⟨S512x1536, .bf16⟩
  | .local _ .vmem, ⟨2, _⟩ => ⟨S4x2048x384, .bf16⟩
  | .local _ .vmem, ⟨3, _⟩ => ⟨S4x2048x384, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference15Ideal.lean ====
abbrev S4096x3072 : Shape := ⟨2, ![4096, 3072]⟩
abbrev S2048x3072 : Shape := ⟨2, ![2048, 3072]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S2048x3072, .bf16⟩
  | .hbm, ⟨2, _⟩ => ⟨S_, .f32⟩
  | .hbm, ⟨3, _⟩ => ⟨S4096x2048, .f32⟩
  | .hbm, ⟨4, _⟩ => ⟨S2048x3072, .f32⟩
  | .hbm, ⟨5, _⟩ => ⟨S4096x3072, .f32⟩
  | .hbm, ⟨6, _⟩ => ⟨S4096x3072, .f32⟩
  | .hbm, ⟨7, _⟩ => ⟨S4096x2048, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x2048 : Shape := ⟨2, ![4096, 2048]⟩
abbrev S2048x3072 : Shape := ⟨2, ![2048, 3072]⟩
abbrev S2048x8x384 : Shape := ⟨3, ![2048, 8, 384]⟩
abbrev S8x2048x384 : Shape := ⟨3, ![8, 2048, 384]⟩
abbrev S4096x3072 : Shape := ⟨2, ![4096, 3072]⟩
abbrev S1024x2048 : Shape := ⟨2, ![1024, 2048]⟩
abbrev S1x2048x384 : Shape := ⟨3, ![1, 2048, 384]⟩
abbrev S1024x384 : Shape := ⟨2, ![1024, 384]⟩
abbrev S2048x384 : Shape := ⟨2, ![2048, 384]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S2048x8x384, .bf16⟩
  | .hbm, ⟨3, _⟩ => ⟨S8x2048x384, .bf16⟩
  | .hbm, ⟨4, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x384, .bf16⟩
  | .local _ .vmem, ⟨3, _⟩ => ⟨S1x2048x384, .bf16⟩
  | .local _ .vmem, ⟨4, _⟩ => ⟨S1024x384, .f32⟩
  | .local _ .vmem, ⟨5, _⟩ => ⟨S1024x384, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x2048 : Shape := ⟨2, ![4096, 2048]⟩
abbrev S2048x3072 : Shape := ⟨2, ![2048, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3072, .bf16⟩
  | .hbm, ⟨2, _⟩ => ⟨S4096x2048, .f32⟩
  | .hbm, ⟨3, _⟩ => ⟨S2048x3072, .f32⟩
  | .hbm, ⟨4, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S4096x2048 : Shape := ⟨2, ![4096, 2048]⟩
abbrev S4096x3584 : Shape := ⟨2, ![4096, 3584]⟩
abbrev S8x2048x448 : Shape := ⟨3, ![8, 2048, 448]⟩
abbrev S2048x1024 : Shape := ⟨2, ![2048, 1024]⟩
abbrev S2048x896 : Shape := ⟨2, ![2048, 896]⟩
abbrev S2x1024x448 : Shape := ⟨3, ![2, 1024, 448]⟩
abbrev S2048x448 : Shape := ⟨2, ![2048, 448]⟩
abbrev S1024x448 : Shape := ⟨2, ![1024, 448]⟩
abbrev S1x1024x448 : Shape := ⟨3, ![1, 1024, 448]⟩
abbrev S2048x8x448 : Shape := ⟨3, ![2048, 8, 448]⟩
abbrev S2048x3584 : Shape := ⟨2, ![2048, 3584]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x3584, .bf16⟩
  | .hbm, ⟨2, _⟩ => ⟨S8x2048x448, .bf16⟩
  | .hbm, ⟨3, _⟩ => ⟨S2048x8x448, .bf16⟩
  | .hbm, ⟨4, _⟩ => ⟨S2048x3584, .bf16⟩
  | .local _ .vmem, ⟨0, _⟩ => ⟨S2048x1024, .bf16⟩
  | .local _ .vmem, ⟨1, _⟩ => ⟨S2048x1024, .bf16⟩
  | .local _ .vmem, ⟨2, _⟩ => ⟨S2048x896, .bf16⟩
  | .local _ .vmem, ⟨3, _⟩ => ⟨S2048x896, .bf16⟩
  | .local _ .vmem, ⟨4, _⟩ => ⟨S2x1024x448, .bf16⟩
  | .local _ .vmem, ⟨5, _⟩ => ⟨S2x1024x448, .bf16⟩
  | .local _ .vmem, ⟨6, _⟩ => ⟨S2x1024x448, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi arg1 c0_i32
  let c0_i32_0 : BitVec 32 := 0#32
  let c3_i32 : BitVec 32 := 3#32
  let v1 : BitVec 32 := Scalar.maxsi c0_i32_0 v0
  let v2 : BitVec 32 := Scalar.minsi c3_i32 v1
  let c0_i32_1 : BitVec 32 := 0#32
  ![arg2.toNat, v2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S4096x2048 : Shape := ⟨2, ![4096, 2048]⟩
abbrev S4096x3584 : Shape := ⟨2, ![4096, 3584]⟩
abbrev S_ : Shape := ⟨0, ![]⟩
abbrev S2048x3584 : Shape := ⟨2, ![2048, 3584]⟩
abbrev S3584x2048 : Shape := ⟨2, ![3584, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x3584, .bf16⟩
  | .hbm, ⟨2, _⟩ => ⟨S_, .bf16⟩
  | .hbm, ⟨3, _⟩ => ⟨S2048x3584, .bf16⟩
  | .hbm, ⟨4, _⟩ => ⟨S4096x2048, .f32⟩
  | .hbm, ⟨5, _⟩ => ⟨S2048x3584, .f32⟩
  | .hbm, ⟨6, _⟩ => ⟨S4096x3584, .f32⟩
  | .hbm, ⟨7, _⟩ => ⟨S4096x3584, .f32⟩
  | .hbm, ⟨8, _⟩ => ⟨S3584x2048, .f32⟩
  | .hbm, ⟨9, _⟩ => ⟨S2048x3584, .f32⟩
  | .hbm, ⟨10, _⟩ => ⟨S2048x3584, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel18.lean ====
abbrev S4096x3584 : Shape := ⟨2, ![4096, 3584]⟩
abbrev S2048x3584 : Shape := ⟨2, ![2048, 3584]⟩
abbrev S2048x8x448 : Shape := ⟨3, ![2048, 8, 448]⟩
abbrev S8x2048x448 : Shape := ⟨3, ![8, 2048, 448]⟩
abbrev S4096x2048 : Shape := ⟨2, ![4096, 2048]⟩
abbrev S512x1792 : Shape := ⟨2, ![512, 1792]⟩
abbrev S4x2048x448 : Shape := ⟨3, ![4, 2048, 448]⟩
abbrev S512x2048 : Shape := ⟨2, ![512, 2048]⟩
abbrev S512x448 : Shape := ⟨2, ![512, 448]⟩
abbrev S1x2048x448 : Shape := ⟨3, ![1, 2048, 448]⟩
abbrev S2048x448 : Shape := ⟨2, ![2048, 448]⟩

abbrev nBuf : Space → Nat
  | .hbm => 5
  | .vmem => 7
  | .smem => 0
  | _ => 0

abbrev bufTy : (tb : Table) → Fin (tcTables nBuf tb) → BufTy
  | .hbm, ⟨0, _⟩ => ⟨S4096x3584, .bf16⟩
  | .hbm, ⟨1, _⟩ => ⟨S2048x3584, .bf16⟩
  | .hbm, ⟨2, _⟩ => ⟨S2048x8x448, .bf16⟩
  | .hbm, ⟨3, _⟩ => ⟨S8x2048x448, .bf16⟩
  | .hbm, ⟨4, _⟩ => ⟨S4096x2048, .f32⟩
  | .local _ .vmem, ⟨0, _⟩ => ⟨S512x1792, .bf16⟩
  | .local _ .vmem, ⟨1, _⟩ => ⟨S512x1792, .bf16⟩
  | .local _ .vmem, ⟨2, _⟩ => ⟨S4x2048x448, .bf16⟩
  | .local _ .vmem, ⟨3, _⟩ => ⟨S4x2048x448, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond3 (i : grid0.Coords) : BitVec 1 :=
  let arg1 : BitVec 32 := BitVec.ofNat 32 (i 1).val
  let c1_i32 : BitVec 32 := 1#32
  let v26 : BitVec 1 := Scalar.cmpi .eq arg1 c1_i32
  let v27 : BitVec 32 := Scalar.extui v26
  let c0_i32_16 : BitVec 32 := 0#32
  let v28 : BitVec 1 := Scalar.cmpi .ne v27 c0_i32_16
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.subi arg1 c0_i32
  let c0_i32_0 : BitVec 32 := 0#32
  let c1_i32 : BitVec 32 := 1#32
  let v1 : BitVec 32 := Scalar.maxsi c0_i32_0 v0
  let v2 : BitVec 32 := Scalar.minsi c1_i32 v1
  let c0_i32_1 : BitVec 32 := 0#32
  ![arg0.toNat, v2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x2048x448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference18Ideal.lean ====
abbrev S4096x3584 : Shape := ⟨2, ![4096, 3584]⟩
abbrev S2048x3584 : Shape := ⟨2, ![2048, 3584]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S2048x3584, .bf16⟩
  | .hbm, ⟨2, _⟩ => ⟨S_, .f32⟩
  | .hbm, ⟨3, _⟩ => ⟨S4096x2048, .f32⟩
  | .hbm, ⟨4, _⟩ => ⟨S2048x3584, .f32⟩
  | .hbm, ⟨5, _⟩ => ⟨S4096x3584, .f32⟩
  | .hbm, ⟨6, _⟩ => ⟨S4096x3584, .f32⟩
  | .hbm, ⟨7, _⟩ => ⟨S4096x2048, .f32⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S4096x2048 : Shape := ⟨2, ![4096, 2048]⟩
abbrev S2048x3584 : Shape := ⟨2, ![2048, 3584]⟩
abbrev S2048x8x448 : Shape := ⟨3, ![2048, 8, 448]⟩
abbrev S8x2048x448 : Shape := ⟨3, ![8, 2048, 448]⟩
abbrev S4096x3584 : Shape := ⟨2, ![4096, 3584]⟩
abbrev S1024x2048 : Shape := ⟨2, ![1024, 2048]⟩
abbrev S2x2048x448 : Shape := ⟨3, ![2, 2048, 448]⟩
abbrev S1024x896 : Shape := ⟨2, ![1024, 896]⟩
abbrev S1x2048x448 : Shape := ⟨3, ![1, 2048, 448]⟩
abbrev S2048x448 : Shape := ⟨2, ![2048, 448]⟩
abbrev S1024x448 : Shape := ⟨2, ![1024, 448]⟩

abbrev nBuf : Space → Nat
  | .hbm => 5
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .bf16⟩
  | .hbm, ⟨2, _⟩ => ⟨S2048x8x448, .bf16⟩
  | .hbm, ⟨3, _⟩ => ⟨S8x2048x448, .bf16⟩
  | .hbm, ⟨4, _⟩ => ⟨S4096x3584, .f32⟩
  | .local _ .vmem, ⟨0, _⟩ => ⟨S1024x2048, .bf16⟩
  | .local _ .vmem, ⟨1, _⟩ => ⟨S1024x2048, .bf16⟩
  | .local _ .vmem, ⟨2, _⟩ => ⟨S2x2048x448, .bf16⟩
  | .local _ .vmem, ⟨3, _⟩ => ⟨S2x2048x448, .bf16⟩
  | .local _ .vmem, ⟨4, _⟩ => ⟨S1024x896, .f32⟩
  | .local _ .vmem, ⟨5, _⟩ => ⟨S1024x896, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048x448 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x2048 : Shape := ⟨2, ![4096, 2048]⟩
abbrev S2048x3584 : Shape := ⟨2, ![2048, 3584]⟩
abbrev S4096x3584 : Shape := ⟨2, ![4096, 3584]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x3584, .bf16⟩
  | .hbm, ⟨2, _⟩ => ⟨S4096x2048, .f32⟩
  | .hbm, ⟨3, _⟩ => ⟨S2048x3584, .f32⟩
  | .hbm, ⟨4, _⟩ => ⟨S4096x3584, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Finite.lean ====
/-
  FINITE ENTRIES. The precondition compares the magnitude of every entry with plus infinity; an entry below it is a real
  number.
-/
module

public import Idealize.ShloMosaic.PureOps.Ideal
public import Idealize.ShloMosaic.PureOps.Ideal.Laws

@[expose] public section

noncomputable section

namespace Cert.Finite

open Idealize.ShloMosaic

/-- An entry whose magnitude compares below plus infinity is a real number. -/
theorem exists_real (x : EReal) (h : Ideal.cmp .olt (max x (-x)) (Ideal.ofBits .f32 0x7F800000#32) = 1#1) :
    ∃ r : ℝ, x = r := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

end Cert.Finite
-- ==== Proof.GateMath.lean ====
/-
  THE GATE'S DERIVATIVE, ONE ENTRY AT A TIME. The feed-forward block multiplies its branch `u` by `silu g = g * σ g`
  (`σ` the logistic function). With `a` the cotangent of that product, the kernel writes the gate's gradient as
  `a u σ(g) (1 + g (1 - σ(g)))` and the derivative of the plain text as `a u σ(g) + (g (a u)) (σ(g) (1 - σ(g)))`.
  Over the extended reals the two agree for a finite `a u` and ANY gate `g`: at `g = +∞` both are `a u`, at `-∞` both
  are `0`.
-/
module

public import Idealize.ShloMosaic.PureOps.Ideal
public import Idealize.ShloMosaic.PureOps.Ideal.Laws

@[expose] public section

noncomputable section

namespace Cert.Gate

open Idealize.ShloMosaic

/-- The gate's gradient at one entry, as the kernel computes it. -/
def dgate (a u g : EReal) : EReal := a * u * Ideal.logistic g * (1 + g * (1 - Ideal.logistic g))

/-- The branch's gradient at one entry, as the kernel computes it. -/
def dup (a g : EReal) : EReal := a * g * Ideal.logistic g

/-- The kernel's factored form of the gate's gradient is the sum the product rule gives. -/
theorem dgate_eq (y : ℝ) (a u g : EReal) (h : a * u = (y : EReal)) :
    dgate a u g = a * u * Ideal.logistic g + g * (a * u) * (Ideal.logistic g * (1 - Ideal.logistic g)) := by
  unfold dgate
  rw [h]
  induction g with
  | bot => simp [Ideal.logistic_bot]
  | top =>
    have : (1 : EReal) - 1 = 0 := by rw [← EReal.coe_one, ← EReal.coe_sub]; simp
    simp [Ideal.logistic_top, this]
  | coe r =>
    rw [Ideal.logistic_coe]
    norm_cast
    ring

/-- The branch's gradient in the order the product rule gives. -/
theorem dup_eq (a g : EReal) : dup a g = g * Ideal.logistic g * a := by
  unfold dup
  rw [mul_comm a g, mul_assoc, mul_comm a, ← mul_assoc]

/-- A finite sum of products of finite numbers is finite. -/
theorem exists_real_sum {ι : Type*} (s : Finset ι) (f : ι → EReal) (h : ∀ i, ∃ r : ℝ, f i = r) :
    ∃ r : ℝ, ∑ i ∈ s, f i = r := by
  choose r hr using h
  exact ⟨∑ i ∈ s, r i, by simp only [hr]; exact (map_sum (⟨⟨Real.toEReal, rfl⟩, EReal.coe_add⟩ : ℝ →+ EReal) r s).symm⟩

end Cert.Gate
-- ==== Proof.GateBlock.lean ====
/-
  ONE BLOCK OF THE GATE'S GRADIENT. At a grid point the kernel holds 512 rows of the cotangent `x0`, 1408 rows of the
  down weight `x1` and the matching 512 by 1408 tiles of gate `x2` and branch `x3`; it stores each of its two results in
  two halves of 256 rows. Here both results are read at one entry.
-/
module

public import proofs.«01_k».proof.Proof.GateMath
public import proofs.«01_k».proof.Proof.Gen.Kernel2Ideal.Frame
public import Idealize.ShloMosaic.Lib.Pipeline.ValueKit.Tiles
public import Idealize.ShloMosaic.Lib.MatmulPlain
public import Idealize.ShloMosaic.Lib.ValueIdx

@[expose] public section

noncomputable section

namespace Cert.Kernel2Ideal.Block

open Idealize.ShloMosaic Idealize.ShloMosaic.ValueIdx Cert.Kernel2Ideal Cert.Kernel2Ideal.Gen

variable (x0 : Vec Ideal S512x2048 .bf16) (x1 : Vec Ideal S1408x2048 .bf16) (x2 x3 : Vec Ideal S512x1408 .bf16)

/-- The cotangent of the block's activation at a tile's entry: row `r` of the cotangent against row `c` of the weight. -/
def da (r : Fin 512) (c : Fin 1408) : EReal := ∑ k : Fin 2048, x0 (ix2 r k) * x1 (ix2 c k)

/-- The product of a half's rows against the weight's rows, at one entry. -/
theorem product_apply (d : Vec Ideal S256x2048 .bf16) (w : Vec Ideal S1408x2048 .bf16) (r : Fin 256) (c : Fin 1408) :
    matmul (F := Ideal) (φ₁ := .bf16) (φ₂ := .bf16) dot_S256x2048_S1408x2048_S256x1408_1_1_0_0_n_n none d w (constant S256x1408 FTy.f32 0#32) (ix2 r c)
      = (∑ k : Fin 2048, d (ix2 r k) * w (ix2 c k) : EReal) := by
  refine (Ideal.matmul_transposedRhs_apply (M := 256) (K := 2048) (N := 1408) none d w _ r c).trans ?_
  rw [constant_apply, Ideal.ofBits_zero_f32, zero_add]

/-- The word of one is one. -/
theorem one_word : FloatOps.ofBits (F := Ideal) FTy.f32 1065353216#32 = 1 := by
  show Ideal.ofBits .f32 0x3F800000#32 = 1
  simp [Ideal.ofBits, Ideal.ieee, -EReal.coe_mul]; norm_num

/-- One half's gate gradient, as the kernel computes it from the half's rows. -/
def halfGate (d : Vec Ideal S256x2048 .bf16) (w : Vec Ideal S1408x2048 .bf16) (g u : Vec Ideal S256x1408 .bf16) :
    Vec Ideal S256x1408 .bf16 :=
  truncf (F := Ideal) FTy.bf16
    (mulf
      (mulf
        (mulf (matmul (φ₁ := .bf16) (φ₂ := .bf16) dot_S256x2048_S1408x2048_S256x1408_1_1_0_0_n_n none d w (constant S256x1408 FTy.f32 0#32))
          (extf FTy.f32 u bitsLt_bf16_f32))
        (logistic (extf FTy.f32 g bitsLt_bf16_f32)))
      (addf (broadcast S256x1408 (FloatOps.ofBits FTy.f32 1065353216#32))
        (mulf (extf FTy.f32 g bitsLt_bf16_f32)
          (subf (broadcast S256x1408 (FloatOps.ofBits FTy.f32 1065353216#32))
            (logistic (extf FTy.f32 g bitsLt_bf16_f32))))))
    bitsLt_bf16_f32

/-- One half's branch gradient, as the kernel computes it from the half's rows. -/
def halfUp (d : Vec Ideal S256x2048 .bf16) (w : Vec Ideal S1408x2048 .bf16) (g : Vec Ideal S256x1408 .bf16) :
    Vec Ideal S256x1408 .bf16 :=
  truncf (F := Ideal) FTy.bf16
    (mulf
      (mulf (matmul (φ₁ := .bf16) (φ₂ := .bf16) dot_S256x2048_S1408x2048_S256x1408_1_1_0_0_n_n none d w (constant S256x1408 FTy.f32 0#32))
        (extf FTy.f32 g bitsLt_bf16_f32))
      (logistic (extf FTy.f32 g bitsLt_bf16_f32)))
    bitsLt_bf16_f32

theorem halfGate_apply (d : Vec Ideal S256x2048 .bf16) (w : Vec Ideal S1408x2048 .bf16) (g u : Vec Ideal S256x1408 .bf16)
    (r : Fin 256) (c : Fin 1408) : halfGate d w g u (ix2 r c)
      = Gate.dgate (∑ k : Fin 2048, d (ix2 r k) * w (ix2 c k)) (u (ix2 r c)) (g (ix2 r c)) := by
  rw [← product_apply]
  unfold halfGate
  rw [one_word]
  rfl

theorem halfUp_apply (d : Vec Ideal S256x2048 .bf16) (w : Vec Ideal S1408x2048 .bf16) (g : Vec Ideal S256x1408 .bf16)
    (r : Fin 256) (c : Fin 1408) : halfUp d w g (ix2 r c)
      = Gate.dup (∑ k : Fin 2048, d (ix2 r k) * w (ix2 c k)) (g (ix2 r c)) := by
  rw [← product_apply]
  rfl

/-- A load through a rectangle of rank two, at an entry whose array coordinates are known. -/
theorem ld_ix2 {n0 n1 m0 m1 o0 o1 : ℕ} (X : Vec Ideal ⟨2, ![n0, n1]⟩ .bf16) (inb) (a : Fin m0) (b : Fin m1) (r : Fin n0)
    (c : Fin n1) (hr : r.val = o0 + a.val) (hc : c.val = o1 + b.val) :
    View.ld (S := ⟨2, ![n0, n1]⟩) X (Rect.unit (s := ⟨2, ![n0, n1]⟩) ![o0, o1] ![m0, m1] inb) (ix2 a b) = X (ix2 r c) :=
  View.ld_unit_apply_of _ _ _ _ _ _ fun i => match i with
    | ⟨0, _⟩ => hr
    | ⟨1, _⟩ => hc

/-- The gate's gradient of a tile, at one entry. -/
theorem gate_apply (r : Fin 512) (c : Fin 1408) :
    out0_4 x0 x1 x2 x3 (ix2 r c) = Gate.dgate (da x0 x1 r c) (x3 (ix2 r c)) (x2 (ix2 r c)) := by
  canon_tiles x h using Gen.cover0_4 ..
  all_goals
    rw [eq_ix2 x]
    obtain rfl : c = x 1 := Fin.ext h1
    open_payloads
    refine (halfGate_apply _ x1 _ _ (x 0) (x 1)).trans ?_
    unfold da
    congr 1
    · refine Finset.sum_congr rfl fun k _ => ?_
      congr 1
      exact ld_ix2 x0 _ (x 0) k r k (by dsimp [ix2] at h0; omega) (by omega)
    · exact ld_ix2 x3 _ (x 0) (x 1) r (x 1) (by dsimp [ix2] at h0; omega) (by omega)
    · exact ld_ix2 x2 _ (x 0) (x 1) r (x 1) (by dsimp [ix2] at h0; omega) (by omega)

/-- The branch's gradient of a tile, at one entry. -/
theorem up_apply (r : Fin 512) (c : Fin 1408) :
    out0_5 x0 x1 x2 x3 (ix2 r c) = Gate.dup (da x0 x1 r c) (x2 (ix2 r c)) := by
  canon_tiles x h using Gen.cover0_5 ..
  all_goals
    rw [eq_ix2 x]
    obtain rfl : c = x 1 := Fin.ext h1
    open_payloads
    refine (halfUp_apply _ x1 _ (x 0) (x 1)).trans ?_
    unfold da
    congr 1
    · refine Finset.sum_congr rfl fun k _ => ?_
      congr 1
      exact ld_ix2 x0 _ (x 0) k r k (by dsimp [ix2] at h0; omega) (by omega)
    · exact ld_ix2 x2 _ (x 0) (x 1) r (x 1) (by dsimp [ix2] at h0; omega) (by omega)

/-- The same two readings at a tile's index. -/
theorem gate_at (y : S512x1408.Idx) :
    out0_4 x0 x1 x2 x3 y = Gate.dgate (da x0 x1 (y 0) (y 1)) (x3 y) (x2 y) := by
  rw [eq_ix2 y]
  exact gate_apply x0 x1 x2 x3 (y 0) (y 1)

theorem up_at (y : S512x1408.Idx) : out0_5 x0 x1 x2 x3 y = Gate.dup (da x0 x1 (y 0) (y 1)) (x2 y) := by
  rw [eq_ix2 y]
  exact up_apply x0 x1 x2 x3 (y 0) (y 1)

end Cert.Kernel2Ideal.Block
-- ==== Proof.GateArray.lean ====
/-
  THE KERNEL'S TWO RESULT ARRAYS. Every entry of the gate's and of the branch's gradient lies in the tile of exactly one
  grid point, and is there the entry read in `GateBlock`; the blocks the point holds are the matching rows and tiles of
  the argument arrays.
-/
module

public import proofs.«01_k».proof.Proof.GateBlock
public import proofs.«01_k».proof.Proof.Gen.Kernel2Ideal.Value
public import Idealize.ShloMosaic.Lib.Pipeline.ValueKit.Acc
public import Idealize.ShloMosaic.Lib.Pipeline.ValueKit.Geometry

@[expose] public section

noncomputable section

namespace Cert.Kernel2Ideal.Array

open Idealize.ShloMosaic Idealize.ShloMosaic.TcCoe Idealize.ShloMosaic.ValueIdx Cert.Kernel2Ideal Cert.Kernel2Ideal.Gen

/-- The cotangent of the block's activation: rows of the cotangent against rows of the down weight. -/
def da (dx : Vec Ideal S4096x2048 .bf16) (w : Vec Ideal S5632x2048 .bf16) (r : Fin 4096) (c : Fin 5632) : EReal :=
  ∑ k : Fin 2048, dx (ix2 r k) * w (ix2 c k)

/-- The gate's gradient. -/
def gate (dx : Vec Ideal S4096x2048 .bf16) (w : Vec Ideal S5632x2048 .bf16) (g u : Vec Ideal S4096x5632 .bf16) :
    Vec Ideal S4096x5632 .bf16 := fun i => Gate.dgate (da dx w (i 0) (i 1)) (u i) (g i)

/-- The branch's gradient. -/
def up (dx : Vec Ideal S4096x2048 .bf16) (w : Vec Ideal S5632x2048 .bf16) (g : Vec Ideal S4096x5632 .bf16) :
    Vec Ideal S4096x5632 .bf16 := fun i => Gate.dup (da dx w (i 0) (i 1)) (g i)

/-- Which block each window holds at a grid point. -/
theorem idx : ∀ t : Fin cfg0.N, win0_0.index t = ![(grid0.coords t 0).val, 0] ∧ win0_1.index t = ![(grid0.coords t 1).val, 0]
    ∧ win0_2.index t = ![(grid0.coords t 0).val, (grid0.coords t 1).val] ∧ win0_3.index t = ![(grid0.coords t 0).val, (grid0.coords t 1).val]
    ∧ win0_4.index t = ![(grid0.coords t 0).val, (grid0.coords t 1).val] ∧ win0_5.index t = ![(grid0.coords t 0).val, (grid0.coords t 1).val] :=
  (by decide +kernel : ∀ t : Fin grid0.N, _)

variable (m : (ℓ : Loc nD τ sig) → Buf (Elt Ideal) ℓ)

/-- The row and the column of the arrays that an entry of a point's tile has. -/
theorem rows_eq (t : Fin cfg0.N) (y : S512x1408.Idx) (k : Fin 2048) :
    (win0_0.blk t).view.emb (ix2 (y 0) k) = ix2 ((win0_4.blk t).view.emb y 0) k := by
  obtain ⟨e0, -, -, -, e4, -⟩ := idx t
  blk_ext [e0, e4, ix2]

theorem cols_eq (t : Fin cfg0.N) (y : S512x1408.Idx) (k : Fin 2048) :
    (win0_1.blk t).view.emb (ix2 (y 1) k) = ix2 ((win0_4.blk t).view.emb y 1) k := by
  obtain ⟨-, e1, -, -, e4, -⟩ := idx t
  blk_ext [e1, e4, ix2]

theorem tile2_eq (t : Fin cfg0.N) (y : S512x1408.Idx) : (win0_2.blk t).view.emb y = (win0_4.blk t).view.emb y := by
  obtain ⟨-, -, e2, -, e4, -⟩ := idx t
  blk_ext [e2, e4]

theorem tile3_eq (t : Fin cfg0.N) (y : S512x1408.Idx) : (win0_3.blk t).view.emb y = (win0_4.blk t).view.emb y := by
  obtain ⟨-, -, -, e3, e4, -⟩ := idx t
  blk_ext [e3, e4]

theorem tile5_eq (t : Fin cfg0.N) (y : S512x1408.Idx) : (win0_5.blk t).view.emb y = (win0_4.blk t).view.emb y := by
  obtain ⟨-, -, -, -, e4, e5⟩ := idx t
  blk_ext [e4, e5]

theorem gate_final (c : Dev nD) : (dats m 0 c).arrAt 4 cfg0.N
    = gate (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  refine (congrFun (after0_4 m c t) y).trans ((Block.gate_at _ _ _ _ y).trans ?_)
  blk_simp [iblk, V, gate, Block.da, da]
  simp only [rows_eq t y, cols_eq t y, tile2_eq t y, tile3_eq t y]
  rfl

theorem up_final (c : Dev nD) : (dats m 0 c).arrAt 5 cfg0.N
    = up (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  refine (congrFun (after0_5 m c t) y).trans ((Block.up_at _ _ _ _ y).trans ?_)
  blk_simp [iblk, V, up, Block.da, da]
  simp only [rows_eq t y, cols_eq t y, tile2_eq t y, tile5_eq t y]
  rfl

end Cert.Kernel2Ideal.Array
-- ==== Proof.GateReference.lean ====
/-
  THE PLAIN GRADIENT. The reference differentiates `(silu gate * up) @ w_down` at a cotangent; its two results are read
  here at one entry, with `1 / (1 + exp (-g))` the logistic function.
-/
module

public import proofs.«01_k».proof.Proof.GateArray
public import proofs.«01_k».proof.Proof.Gen.Reference2Ideal.Read

@[expose] public section

noncomputable section

namespace Cert.Reference2Ideal.Entry

open Idealize.ShloMosaic Idealize.ShloMosaic.ValueIdx Cert.Reference2Ideal Cert.Reference2Ideal.Gen Cert.Reference2Ideal.Read

variable (dx : Vec Ideal S4096x2048 .bf16) (w : Vec Ideal S5632x2048 .bf16) (g u : Vec Ideal S4096x5632 .bf16)

theorem one_word : FloatOps.ofBits (F := Ideal) FTy.f32 0x3F800000#32 = (1 : EReal) := by
  show Ideal.ofBits .f32 0x3F800000#32 = 1
  simp [Ideal.ofBits, Ideal.ieee, -EReal.coe_mul]; norm_num

/-- The cotangent of the activation. -/
theorem da_apply (i : S4096x5632.Idx) :
    val_main_v7 (F := Ideal) dx w i = Cert.Kernel2Ideal.Array.da dx w (i 0) (i 1) := by
  rw [val_main_v7_apply]
  unfold Cert.Kernel2Ideal.Array.da
  refine Finset.sum_congr rfl fun k _ => ?_
  rw [val_main_v6_apply, val_main_v4_apply]
  have hl : lidx_main_v7 i k = ix2 (i 0) k := eq_ix2 _
  have hr : ridx_main_v7 i k = ix2 (i 1) k := eq_ix2 _
  rw [hl, hr]
  rfl

/-- The logistic function of the gate. -/
theorem sig_apply (i : S4096x5632.Idx) : val_main_v1_2 (F := Ideal) g i = Ideal.logistic (g i) := by
  rw [val_main_v1_2_apply, val_main_call0_v3_apply, val_main_call0_v4_apply, val_main_call0_v2_apply,
    val_main_call0_cst_0_apply, val_main_call0_cst_apply, one_word]
  rfl

/-- The branch's gradient is the kernel's. -/
theorem up_eq : val_main_v10 (F := Ideal) dx w g = Cert.Kernel2Ideal.Array.up dx w g := by
  funext i
  refine Eq.trans ?_ (Gate.dup_eq _ _).symm
  rw [val_main_v10_apply, val_main_v8_apply, val_main_v1_0_apply, da_apply, sig_apply]
  rfl

/-- The gate's gradient is the kernel's, where the cotangent, the down weight and the branch are finite. -/
theorem gate_eq (hdx : ∀ i, ∃ r : ℝ, dx i = (r : EReal)) (hw : ∀ i, ∃ r : ℝ, w i = (r : EReal))
    (hu : ∀ i, ∃ r : ℝ, u i = (r : EReal)) :
    val_main_v12 (F := Ideal) dx w g u = Cert.Kernel2Ideal.Array.gate dx w g u := by
  funext i
  obtain ⟨a, ha⟩ : ∃ a : ℝ, Cert.Kernel2Ideal.Array.da dx w (i 0) (i 1) = (a : EReal) := by
    refine Gate.exists_real_sum _ _ fun k => ?_
    obtain ⟨x, hx⟩ := hdx (ix2 (i 0) k)
    obtain ⟨y, hy⟩ := hw (ix2 (i 1) k)
    exact ⟨x * y, by rw [hx, hy, EReal.coe_mul]⟩
  obtain ⟨b, hb⟩ := hu i
  refine Eq.trans ?_ (Gate.dgate_eq (a * b) _ _ _ (by rw [ha, hb, EReal.coe_mul])).symm
  rw [val_main_v12_apply, val_main_v11_apply, val_main_call1_v2_apply, val_main_call1_v1_apply, val_main_call1_v0_apply,
    val_main_v9_apply, val_main_v1_1_apply, val_main_call0_v7_apply, val_main_call0_v6_apply, val_main_call0_cst_1_apply,
    da_apply, sig_apply, one_word]
  rfl

end Cert.Reference2Ideal.Entry
-- ==== Proof.GateClaims.lean ====
/-
  THE CLAIMS ABOUT THE GATE'S GRADIENT: the kernel and its plain reference run, keep their arguments and leave every
  counter at zero; read over the extended reals the two leave the same arrays.
-/
module

public import proofs.«01_k».proof.Defs
public import proofs.«01_k».proof.Proof.Finite
public import proofs.«01_k».proof.Proof.GateArray
public import proofs.«01_k».proof.Proof.GateReference
public import proofs.«01_k».proof.Proof.Gen.Kernel2.Frame
public import proofs.«01_k».proof.Proof.Gen.Reference2Ideal.Run
public import proofs.«01_k».proof.Proof.Gen.Pre_finite2
public import Idealize.ShloMosaic.Lib.Quiescent

@[expose] public section

noncomputable section

namespace Cert.Proof.GateClaims

open Idealize.ShloMosaic Idealize.ShloMosaic.TcCoe Idealize.SL.Sem

theorem frame : Cert.quiescent_Kernel2 := fun m ρ _ => Cert.Kernel2.Gen.frame m ρ
theorem frame_ideal : Cert.quiescent_Kernel2Ideal := fun m ρ _ => Cert.Kernel2Ideal.Gen.frame m ρ
theorem frame_ideal_finite : Cert.quiescent_Kernel2Ideal_pre_finite2 := fun m ρ _ => Cert.Kernel2Ideal.Gen.frame m ρ

/-- The reference's run with its counters: it has none. -/
theorem frame_reference : Cert.quiescent_Reference2Ideal := fun m ρ _ =>
  (θ_run Cert.Reference2Ideal.defs _ _).mono
    (fun r h => ⟨fun c => (h c).2.2, sem_eq_zero_of_no_sems (by decide) r.2⟩)
    (Cert.Reference2Ideal.Value.run (F := Ideal) m ρ)

theorem frame_reference_finite : Cert.quiescent_Reference2Ideal_pre_finite2 := fun m ρ _ => frame_reference m ρ trivial

/-- The precondition says that the cotangent, the down weight and the branch hold real numbers. -/
theorem real_of_pre {m} (h : Cert.Pre_Kernel2Ideal_finite2 m) (c : Dev Cert.Kernel2Ideal.nD) :
    (∀ i, ∃ r : ℝ, m (c.tc.loc Cert.Kernel2Ideal.main_arg0) i = (r : EReal))
    ∧ (∀ i, ∃ r : ℝ, m (c.tc.loc Cert.Kernel2Ideal.main_arg1) i = (r : EReal))
    ∧ (∀ i, ∃ r : ℝ, m (c.tc.loc Cert.Kernel2Ideal.main_arg3) i = (r : EReal)) :=
  ⟨fun i => Finite.exists_real _ (congrFun (h c).1 i), fun i => Finite.exists_real _ (congrFun (h c).2.1 i),
    fun i => Finite.exists_real _ (congrFun (h c).2.2 i)⟩

theorem algebraic : Cert.algebraic_Kernel2Ideal_Reference2Ideal_pre_finite2 := by
  intro m ρ m' ρ' hpre hagree
  refine ⟨_, _,
    (θ_run Cert.Kernel2Ideal.defs _ _).mono (fun r h c => ⟨(h c).1.trans (Cert.Kernel2Ideal.Array.gate_final m c),
      (h c).2.1.trans (Cert.Kernel2Ideal.Array.up_final m c), (h c).2.2⟩) (Cert.Kernel2Ideal.Value.run_blocks m ρ),
    (θ_run Cert.Reference2Ideal.defs _ _).mono (fun r h c => ⟨(h c).1.trans ?_, (h c).2.1.trans ?_, (h c).2.2⟩)
      (Cert.Reference2Ideal.Value.run (F := Ideal) m' ρ')⟩
  · obtain ⟨h0, h1, h2, h3⟩ := hagree c
    obtain ⟨r0, r1, r3⟩ := real_of_pre hpre c
    rw [h0, h1, h2, h3]
    exact (Cert.Reference2Ideal.Read.val_main_v12_eq _ _ _ _).trans (Cert.Reference2Ideal.Entry.gate_eq _ _ _ _ r0 r1 r3)
  · obtain ⟨h0, h1, h2, h3⟩ := hagree c
    rw [h0, h1, h2]
    exact (Cert.Reference2Ideal.Read.val_main_v10_eq _ _ _).trans (Cert.Reference2Ideal.Entry.up_eq _ _ _)

end Cert.Proof.GateClaims
-- ==== Proof.FlashRun.lean ====
module
public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WritesUnit
public import Idealize.ShloMosaic.Lib.VecWindow

@[expose] public section
set_option maxRecDepth 16384
noncomputable section
namespace Cert.Proof.FlashRun
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ

abbrev cond1 (i : grid0.Coords) : BitVec 1 := Scalar.cmpi .ne (Scalar.extui (Scalar.cmpi .eq (BitVec.ofNat 32 (i 2).val) 0#32)) 0#32

/-- The first, second and third head's 128 columns of a block of queries. -/
abbrev head0 {e : EltTy} (x : Vec F S512x384 e) : Vec F S512x128 e := View.ld x (Rect.unit (s := S512x384) ![0, 0] S512x128.size inb_S512x384_S512x128_0_0)
abbrev head1 {e : EltTy} (x : Vec F S512x384 e) : Vec F S512x128 e := View.ld x (Rect.unit (s := S512x384) ![0, 128] S512x128.size inb_S512x384_S512x128_0_128)
abbrev head2 {e : EltTy} (x : Vec F S512x384 e) : Vec F S512x128 e := View.ld x (Rect.unit (s := S512x384) ![0, 256] S512x128.size inb_S512x384_S512x128_0_256)

/-- The first, second and third head's column of a block of row statistics. -/
abbrev stat0 (x : Vec F S1x1536x128 .f32) : Vec F S1x512x1 .f32 := View.ld x (Rect.unit (s := S1x1536x128) ![0, 0, 0] S1x512x1.size inb_S1x1536x128_S1x512x1_0_0_0)
abbrev stat1 (x : Vec F S1x1536x128 .f32) : Vec F S1x512x1 .f32 := View.ld x (Rect.unit (s := S1x1536x128) ![0, 512, 0] S1x512x1.size inb_S1x1536x128_S1x512x1_0_512_0)
abbrev stat2 (x : Vec F S1x1536x128 .f32) : Vec F S1x512x1 .f32 := View.ld x (Rect.unit (s := S1x1536x128) ![0, 1024, 0] S1x512x1.size inb_S1x1536x128_S1x512x1_0_1024_0)

/-- The 1536 rows of the query gradient's accumulator that belong to block `q` of queries. -/
def slice (q : Fin 8) (f : Vec F S12288x128 .f32) : Vec F S1536x128 .f32 :=
  View.ld f (Rect.unit (s := S12288x128) ![1536 * q.val, 0] S1536x128.size
    (fun a => match a with | ⟨0, _⟩ => show 1536 * q.val + 1536 ≤ 12288 by have := q.isLt; omega | ⟨1, _⟩ => show 0 + 128 ≤ 128 by omega))

/-- The third head's weights, and its second factor of the score gradient. -/
abbrev p2 (q : Vec F S512x384 .bf16) (k : Vec F S1024x128 .bf16) (lse : Vec F S1x1536x128 .f32) : FVec F S512x1024 .bf16 :=
  k0_pay31 (k0_pay13 k) (head2 q) (stat2 lse)
abbrev d2 (v : Vec F S1024x128 .bf16) (dO : Vec F S512x384 .bf16) (delta : Vec F S1x1536x128 .f32) : FVec F S512x1024 .bf16 :=
  k0_pay32 (k0_pay14 v) (head2 dO) (stat2 delta)
/-- The first head's weights and score gradient. -/
abbrev p0 (q : Vec F S512x384 .bf16) (k : Vec F S1024x128 .bf16) (lse : Vec F S1x1536x128 .f32) : FVec F S512x1024 .bf16 :=
  k0_pay21 k (head0 q) (stat0 lse)
abbrev ds0 (q : Vec F S512x384 .bf16) (k v : Vec F S1024x128 .bf16) (dO : Vec F S512x384 .bf16) (lse delta : Vec F S1x1536x128 .f32) :
    FVec F S512x1024 .bf16 :=
  k0_pay22 k v (head0 q) (head0 dO) (stat0 lse) (stat0 delta)

/-- The value gradient's accumulator after a point, from what it was. -/
def dvNew (q : Vec F S512x384 .bf16) (k : Vec F S1024x128 .bf16) (dO : Vec F S512x384 .bf16) (lse : Vec F S1x1536x128 .f32)
    (acc : Vec F S1024x128 .f32) : Vec F S1024x128 .f32 :=
  k0_pay2 (k0_pay25 (head2 dO))
    (k0_pay28 (k0_pay16 (head0 dO)) (k0_pay18 (head1 dO)) (k0_pay19 k (head1 q)) (p0 q k lse) (constant S1024x128 .f32 0x00000000#32) (stat1 lse))
    (p2 q k lse) acc

/-- The key gradient's accumulator after a point, from what it was. -/
def dkNew (q : Vec F S512x384 .bf16) (k v : Vec F S1024x128 .bf16) (dO : Vec F S512x384 .bf16) (lse delta : Vec F S1x1536x128 .f32)
    (acc : Vec F S1024x128 .f32) : Vec F S1024x128 .f32 :=
  k0_pay3 (k0_pay24 (head2 q))
    (k0_pay29 (k0_pay15 (head0 q)) (k0_pay17 (head1 q)) (k0_pay19 k (head1 q)) (k0_pay20 v (head1 dO)) (ds0 q k v dO lse delta) (stat1 lse) (stat1 delta))
    (p2 q k lse) (d2 v dO delta) acc

/-- The slice of the query gradient's accumulator after a point, from what it was: overwritten at the first block of keys,
    added into at the others. -/
def dqPart (i : grid0.Coords) (q : Vec F S512x384 .bf16) (k v : Vec F S1024x128 .bf16) (dO : Vec F S512x384 .bf16)
    (lse delta : Vec F S1x1536x128 .f32) (acc : Vec F S1536x128 .f32) : Vec F S1536x128 .f32 :=
  if k0_cond2 i = 1#1 then
    k0_pay5 (k0_pay13 k) (k0_pay23 (k0_pay13 k) (ds0 q k v dO lse delta))
      (k0_pay30 (k0_pay13 k) (k0_pay19 k (head1 q)) (k0_pay20 v (head1 dO)) (stat1 lse) (stat1 delta)) (p2 q k lse) (d2 v dO delta)
  else
    k0_pay6 (k0_pay13 k) (k0_pay23 (k0_pay13 k) (ds0 q k v dO lse delta))
      (k0_pay30 (k0_pay13 k) (k0_pay19 k (head1 q)) (k0_pay20 v (head1 dO)) (stat1 lse) (stat1 delta)) (p2 q k lse) (d2 v dO delta) acc

/-- The block of the query gradient written out from its slice of the accumulator: the three heads side by side, scaled. -/
def dqBlock (t : Vec F S1536x128 .f32) : Vec F S512x384 .f32 :=
  View.canon [⟨Rect.unit (s := S512x384) ![0, 256] S512x128.size inb_S512x384_S512x128_0_256, k0_pay9 t⟩,
    ⟨Rect.unit (s := S512x384) ![0, 128] S512x128.size inb_S512x384_S512x128_0_128, k0_pay8 t⟩,
    ⟨Rect.unit (s := S512x384) ![0, 0] S512x128.size inb_S512x384_S512x128_0_0, k0_pay7 t⟩]

/-- A store over the slice of block `q` is what the slice reads, and leaves the other slices. -/
theorem slice_hit (m : Memref sig .tc .vmem S12288x128 .f32) (f : m.view.ty.Contents (Elt F)) (q : Fin 8) (off : Fin 2 → ℕ)
    (h : off = ![1536 * q.val, 0]) (inb) (w : Vec F S1536x128 .f32) (L : List (View.Piece (Elt F) S12288x128 .f32)) :
    slice q (m.view.read (Elt F) (m.view.writes (Elt F) f (⟨Rect.unit (s := S12288x128) off S1536x128.size inb, w⟩ :: L))) = w :=
  funext fun x => by
    subst h
    exact View.read_writes_cons_emb m.view f (Rect.unit (s := S12288x128) ![1536 * q.val, 0] S1536x128.size inb) w L x

theorem slice_miss (m : Memref sig .tc .vmem S12288x128 .f32) (f : m.view.ty.Contents (Elt F)) (q q' : Fin 8) (off : Fin 2 → ℕ)
    (h : off = ![1536 * q.val, 0]) (inb) (w : Vec F S1536x128 .f32) (L : List (View.Piece (Elt F) S12288x128 .f32)) (hq : q' ≠ q) :
    slice q' (m.view.read (Elt F) (m.view.writes (Elt F) f (⟨Rect.unit (s := S12288x128) off S1536x128.size inb, w⟩ :: L)))
      = slice q' (m.view.read (Elt F) (m.view.writes (Elt F) f L)) :=
  funext fun x => by
    subst h
    have hne : q'.val ≠ q.val := fun e => hq (Fin.ext e)
    have hx : (x 0).val < 1536 := (x 0).isLt
    refine View.read_writes_cons_unit_of_not_mem m.view f inb w L _ rfl (0 : Fin 2) ?_
    show 1536 * q'.val + 1 * (x 0).val < 1536 * q.val ∨ 1536 * q.val + 1536 ≤ 1536 * q'.val + 1 * (x 0).val
    omega

/-- A load at the slice of block `q` reads the slice. -/
theorem slice_load (m : Memref sig .tc .vmem S12288x128 .f32) (f : m.view.ty.Contents (Elt F)) (q : Fin 8) (off : Fin 2 → ℕ)
    (h : off = ![1536 * q.val, 0]) (inb) :
    m.view.readAt (Elt F) (Rect.unit (s := S12288x128) off S1536x128.size inb).toLoadRect f = slice q (m.view.read (Elt F) f) := by
  subst h; rfl

/-- Loads of whole blocks, of one head's columns and of one head's statistics, off a block known whole; a load and the
    contents after a store of a whole block. -/
theorem load_block {e : EltTy} (m : Memref sig .tc .vmem S1024x128 e) (hm : m.IsWhole) (x : Vec F S1024x128 e) (inb) :
    m.view.readAt (Elt F) (Rect.unit (s := S1024x128) ![0, 0] ![1024, 128] inb).toLoadRect (hm.unread x) = x :=
  (View.readAt_full m.view _ inb).trans (hm.read_unread x)

theorem load_stored {e : EltTy} (m : Memref sig .tc .vmem S1024x128 e) (f : m.view.ty.Contents (Elt F)) (x : Vec F S1024x128 e) (inb inb' L) :
    m.view.readAt (Elt F) (Rect.unit (s := S1024x128) ![0, 0] ![1024, 128] inb).toLoadRect
      (m.view.writes (Elt F) f (⟨Rect.unit (s := S1024x128) ![0, 0] ![1024, 128] inb', x⟩ :: L)) = x :=
  View.readAt_writes_full m.view f inb inb' x L

theorem load_covered {e : EltTy} (m : Memref sig .tc .vmem S1024x128 e) (x : Vec F S1024x128 e) (inb inb' L) :
    m.view.readCov (Val := Elt F) (⟨Rect.unit (s := S1024x128) ![0, 0] ![1024, 128] inb', x⟩ :: L)
      (Rect.unit (s := S1024x128) ![0, 0] ![1024, 128] inb).toLoadRect = x :=
  View.readCov_full m.view inb inb' x L

theorem read_stored {e : EltTy} (m : Memref sig .tc .vmem S1024x128 e) (f : m.view.ty.Contents (Elt F)) (x : Vec F S1024x128 e) (inb L) :
    m.view.read (Elt F) (m.view.writes (Elt F) f (⟨Rect.unit (s := S1024x128) ![0, 0] ![1024, 128] inb, x⟩ :: L)) = x :=
  View.read_writes_full m.view f inb x L

theorem load_head {e : EltTy} (m : Memref sig .tc .vmem S512x384 e) (hm : m.IsWhole) (x : Vec F S512x384 e) (off : Fin 2 → ℕ) (inb) :
    m.view.readAt (Elt F) (Rect.unit (s := S512x384) off ![512, 128] inb).toLoadRect (hm.unread x)
      = View.ld x (Rect.unit (s := S512x384) off ![512, 128] inb) := by
  rw [View.readAt_eq_ld, hm.read_unread]

theorem load_stat {e : EltTy} (m : Memref sig .tc .vmem S1x1536x128 e) (hm : m.IsWhole) (x : Vec F S1x1536x128 e) (off : Fin 3 → ℕ) (inb) :
    m.view.readAt (Elt F) (Rect.unit (s := S1x1536x128) off ![1, 512, 1] inb).toLoadRect (hm.unread x)
      = View.ld x (Rect.unit (s := S1x1536x128) off ![1, 512, 1] inb) := by
  rw [View.readAt_eq_ld, hm.read_unread]

/-- Three stores of 128 columns each cover a block of 384. -/
theorem heads_cover (a b c : FVec F S512x128 .f32) (y : S512x384.Idx) :
    ∃ p ∈ ([⟨Rect.unit (s := S512x384) ![0, 256] S512x128.size inb_S512x384_S512x128_0_256, a⟩,
      ⟨Rect.unit (s := S512x384) ![0, 128] S512x128.size inb_S512x384_S512x128_0_128, b⟩,
      ⟨Rect.unit (s := S512x384) ![0, 0] S512x128.size inb_S512x384_S512x128_0_0, c⟩] : List (View.Piece (Elt F) S512x384 .f32)), y ∈ p.1.set := by
  have h0 : (y 0).val < 512 := (y 0).isLt
  have h1 : (y 1).val < 384 := (y 1).isLt
  have mem : ∀ (o : ℕ) (inb), o ≤ (y 1).val → (y 1).val < o + 128 → y ∈ (Rect.unit (s := S512x384) ![0, o] S512x128.size inb).set :=
    fun o inb ha hb => (Rect.mem_set_unit ..).mpr fun a => match a with
      | ⟨0, _⟩ => ⟨Nat.zero_le _, show (y 0).val < 0 + 512 by omega⟩
      | ⟨1, _⟩ => ⟨ha, hb⟩
  by_cases ha : (y 1).val < 128
  · exact ⟨_, List.mem_cons_of_mem _ (List.mem_cons_of_mem _ List.mem_cons_self), mem 0 inb_S512x384_S512x128_0_0 (Nat.zero_le _) (by omega)⟩
  · by_cases hb : (y 1).val < 256
    · exact ⟨_, List.mem_cons_of_mem _ List.mem_cons_self, mem 128 inb_S512x384_S512x128_0_128 (by omega) (by omega)⟩
    · exact ⟨_, List.mem_cons_self, mem 256 inb_S512x384_S512x128_0_256 (by omega) (by omega)⟩

set_option maxHeartbeats 4000000 in
theorem run (c : Dev nD) (i : grid0.Coords) (arg3 : Memref sig .tc .vmem S512x384 .bf16) (harg3 : arg3.IsWhole) (arg4 : Memref sig .tc .vmem S1024x128 .bf16) (harg4 : arg4.IsWhole) (arg5 : Memref sig .tc .vmem S1024x128 .bf16) (harg5 : arg5.IsWhole) (arg6 : Memref sig .tc .vmem S512x384 .bf16) (harg6 : arg6.IsWhole) (arg7 : Memref sig .tc .vmem S1x1536x128 .f32) (harg7 : arg7.IsWhole) (arg8 : Memref sig .tc .vmem S1x1536x128 .f32) (harg8 : arg8.IsWhole) (arg9 : Memref sig .tc .vmem S512x384 .f32) (harg9 : arg9.IsWhole) (arg10 : Memref sig .tc .vmem S1024x128 .f32) (harg10 : arg10.IsWhole) (arg11 : Memref sig .tc .vmem S1024x128 .f32) (harg11 : arg11.IsWhole) (arg12 : Memref sig .tc .vmem S12288x128 .f32) (harg12 : arg12.IsWhole) (arg13 : Memref sig .tc .vmem S1024x128 .f32) (harg13 : arg13.IsWhole) (arg14 : Memref sig .tc .vmem S1024x128 .f32) (harg14 : arg14.IsWhole) (x3 : Vec F S512x384 .bf16) (x4 : Vec F S1024x128 .bf16) (x5 : Vec F S1024x128 .bf16) (x6 : Vec F S512x384 .bf16) (x7 : Vec F S1x1536x128 .f32) (x8 : Vec F S1x1536x128 .f32) (x9 : Vec F S512x384 .f32) (x10 : Vec F S1024x128 .f32) (x11 : Vec F S1024x128 .f32) (x12 : Vec F S12288x128 .f32) (x13 : Vec F S1024x128 .f32) (x14 : Vec F S1024x128 .f32)
    (h23 : k0_cond3 i = 1#1 ↔ ¬ k0_cond2 i = 1#1) (E : Set ℕ) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ (iprop(owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8
        ∗ owns (c : Thread nD τ) arg9 fullShare (if k0_cond4 i = 1#1 then dqBlock (dqPart i x3 x4 x5 x6 x7 x8 (slice (i 2) x12)) else x9)
        ∗ owns (c : Thread nD τ) arg10 fullShare (if k0_cond5 i = 1#1 then k0_pay10 (dkNew x3 x4 x5 x6 x7 x8 (if cond1 i = 1#1 then k0_pay11 else x13)) else x10)
        ∗ owns (c : Thread nD τ) arg11 fullShare (if k0_cond5 i = 1#1 then dvNew x3 x4 x6 x7 (if cond1 i = 1#1 then k0_pay12 else x14) else x11)
        ∗ (∃ f, ⌜slice (i 2) f = dqPart i x3 x4 x5 x6 x7 x8 (slice (i 2) x12) ∧ ∀ q, q ≠ i 2 → slice q f = slice q x12⌝ ∗ owns (c : Thread nD τ) arg12 fullShare f)
        ∗ owns (c : Thread nD τ) arg13 fullShare (dkNew x3 x4 x5 x6 x7 x8 (if cond1 i = 1#1 then k0_pay11 else x13))
        ∗ owns (c : Thread nD τ) arg14 fullShare (dvNew x3 x4 x6 x7 (if cond1 i = 1#1 then k0_pay12 else x14))) -∗ K ⟨⟩)) ⊢ wp frame (wpE (defs₀ (F := F)) Variants.none c none) E
      (cc0_flash_bwd_4096 i arg3 harg3 arg4 harg4 arg5 harg5 arg6 harg6 arg7 harg7 arg8 harg8 arg9 harg9 arg10 harg10 arg11 harg11 arg12 harg12 arg13 harg13 arg14 harg14) K := by
  simp only [cc0_flash_bwd_4096_eq_skeleton]; unfold cc0_flash_bwd_4096_skel
  simp only [k0_part1_eq_skeleton, k0_part2_eq_skeleton]
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, Hk⟩
  obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14
  sl_exec

  sl_step
  iapply Hk
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; swap; · iexact H9
    ipureintro
    by_cases h4 : k0_cond4 i = 1#1
    · rw [dif_pos h4, if_pos h4]
      refine (View.read_writes_eq_canon _ _ _ (heads_cover _ _ _)).trans (congrArg dqBlock ?_)
      sl_unfold_run_names
      refine (slice_load arg12 _ (i 2) _ (k0_off3_eq i) _).trans ?_
      unfold dqPart
      by_cases h2 : k0_cond2 i = 1#1
      · rw [dif_neg (fun h => h23.mp h h2), dif_pos h2, if_pos h2]
        refine (slice_hit arg12 _ (i 2) _ (k0_off1_eq i) _ _ _).trans ?_
        simp only [load_block, load_stored, load_head, load_stat]
      · rw [dif_pos (h23.mpr h2), if_neg h2]
        refine (slice_hit arg12 _ (i 2) _ (k0_off2_eq i) _ _ _).trans ?_
        rw [slice_load arg12 _ (i 2) _ (k0_off2_eq i) _, dif_neg h2, hf12]
        simp only [load_block, load_stored, load_head, load_stat]
    · rw [dif_neg h4, if_neg h4]; exact hf9
  isplitl [H10]
  · iexists _; isplitr; swap; · iexact H10
    ipureintro
    by_cases h5 : k0_cond5 i = 1#1
    · rw [dif_pos h5, if_pos h5]
      refine (View.read_writes_full _ _ _ _ _).trans (congrArg k0_pay10 ?_)
      sl_unfold_run_names
      by_cases h1 : cond1 i = 1#1
      · simp only [dif_pos h1, if_pos h1, load_block, load_stored, load_covered, load_head, load_stat]
        rfl
      · simp only [dif_neg h1, if_neg h1, load_block, load_stored, load_covered, load_head, load_stat]
        rfl
    · rw [dif_neg h5, if_neg h5]; exact hf10
  isplitl [H11]
  · iexists _; isplitr; swap; · iexact H11
    ipureintro
    by_cases h5 : k0_cond5 i = 1#1
    · rw [dif_pos h5, if_pos h5]
      refine (View.read_writes_full _ _ _ _ _).trans ?_
      sl_unfold_run_names
      by_cases h1 : cond1 i = 1#1
      · simp only [dif_pos h1, if_pos h1, load_block, load_stored, load_covered, load_head, load_stat]
        rfl
      · simp only [dif_neg h1, if_neg h1, load_block, load_stored, load_covered, load_head, load_stat]
        rfl
    · rw [dif_neg h5, if_neg h5]; exact hf11
  isplitl [H12]
  · iexists (arg12.view.read (Elt F) _); isplitr
    swap
    · iexists _; isplitr
      swap
      · iexact H12
      · ipureintro; rfl
    ipureintro
    sl_unfold_run_names
    unfold dqPart
    by_cases h2 : k0_cond2 i = 1#1
    · rw [dif_neg (fun h => h23.mp h h2), dif_pos h2, if_pos h2]
      refine ⟨(slice_hit arg12 _ (i 2) _ (k0_off1_eq i) _ _ _).trans ?_, fun q hq => (slice_miss arg12 _ (i 2) q _ (k0_off1_eq i) _ _ _ hq).trans (congrArg (slice q) hf12)⟩
      simp only [load_block, load_stored, load_head, load_stat]
    · rw [dif_pos (h23.mpr h2), if_neg h2]
      refine ⟨(slice_hit arg12 _ (i 2) _ (k0_off2_eq i) _ _ _).trans ?_, fun q hq => (slice_miss arg12 _ (i 2) q _ (k0_off2_eq i) _ _ _ hq).trans ?_⟩
      · rw [slice_load arg12 _ (i 2) _ (k0_off2_eq i) _, dif_neg h2, hf12]
        simp only [load_block, load_stored, load_head, load_stat]
      · rw [dif_neg h2]; exact congrArg (slice q) hf12
  isplitl [H13]
  · iexists _; isplitr; swap; · iexact H13
    ipureintro
    sl_unfold_run_names
    by_cases h1 : cond1 i = 1#1
    · simp only [dif_pos h1, if_pos h1, read_stored, load_block, load_stored, load_head, load_stat]
      rfl
    · simp only [dif_neg h1, if_neg h1, read_stored, load_block, load_stored, load_head, load_stat]
      rfl
  · iexists _; isplitr; swap; · iexact H14
    ipureintro
    sl_unfold_run_names
    by_cases h1 : cond1 i = 1#1
    · simp only [dif_pos h1, if_pos h1, read_stored, load_block, load_stored, load_head, load_stat]
      rfl
    · simp only [dif_neg h1, if_neg h1, read_stored, load_block, load_stored, load_head, load_stat]
      rfl
end Cert.Proof.FlashRun
end
-- ==== Proof.FlashFrame.lean ====
module
public import proofs.«01_k».proof.Proof.FlashRun
public import proofs.«01_k».proof.Proof.Gen.KernelIdeal.Frame
public import Idealize.ShloMosaic.Lib.Claim

/-! The attention gradient's kernel over its grid: what each point leaves in the accumulators and in the written blocks, the
    invariant between points, the body at every point, the run of the whole program, and its frame. -/

@[expose] public section
set_option maxRecDepth 16384
noncomputable section
namespace Cert.Proof.FlashFrame
open Cert.KernelIdeal Cert.KernelIdeal.Gen Cert.Proof.FlashRun
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-! ## The grid -/

/-- Point `n` of the grid (the grid has 128 points). -/
def pt (n : ℕ) : Fin cfg0.N := ⟨n % 128, lt_of_lt_of_eq (Nat.mod_lt _ (by norm_num)) N_0.symm⟩

theorem pt_val (t : Fin cfg0.N) : pt t.val = t :=
  Fin.ext (Nat.mod_eq_of_lt (lt_of_lt_of_eq t.isLt N_0))

/-- The innermost coordinate counts the blocks of queries, the next the blocks of keys. -/
theorem qi_eq : ∀ t : Fin cfg0.N, (grid0.coords t 2).val = t.val % 8 := (by decide +kernel : ∀ t : Fin grid0.N, _)
theorem first_q : ∀ t : Fin cfg0.N, cond1 (grid0.coords t) = 1#1 ↔ t.val % 8 = 0 := (by decide +kernel : ∀ t : Fin grid0.N, _)
theorem first_k : ∀ t : Fin cfg0.N, k0_cond2 (grid0.coords t) = 1#1 ↔ t.val / 8 % 4 = 0 := (by decide +kernel : ∀ t : Fin grid0.N, _)
theorem later_k : ∀ t : Fin cfg0.N, k0_cond3 (grid0.coords t) = 1#1 ↔ ¬ k0_cond2 (grid0.coords t) = 1#1 := (by decide +kernel : ∀ t : Fin grid0.N, _)
theorem last_k : ∀ t : Fin cfg0.N, k0_cond4 (grid0.coords t) = 1#1 ↔ t.val / 8 % 4 = 3 := (by decide +kernel : ∀ t : Fin grid0.N, _)
theorem last_q : ∀ t : Fin cfg0.N, k0_cond5 (grid0.coords t) = 1#1 ↔ t.val % 8 = 7 := (by decide +kernel : ∀ t : Fin grid0.N, _)
/-- A block is written back only at points that write it. -/
theorem flush_dq : ∀ t : Fin cfg0.N, (cfg0.win 6).flush t = true ↔ t.val / 8 % 4 = 3 := (by decide +kernel : ∀ t : Fin grid0.N, _)

/-! ## What the points leave -/

abbrev qB (c : Dev nD) (t : Fin cfg0.N) : Vec F S512x384 .bf16 := iblk m c 0 t
abbrev kB (c : Dev nD) (t : Fin cfg0.N) : Vec F S1024x128 .bf16 := iblk m c 1 t
abbrev vB (c : Dev nD) (t : Fin cfg0.N) : Vec F S1024x128 .bf16 := iblk m c 2 t
abbrev oB (c : Dev nD) (t : Fin cfg0.N) : Vec F S512x384 .bf16 := X0_3 m c t
abbrev lB (c : Dev nD) (t : Fin cfg0.N) : Vec F S1x1536x128 .f32 := iblk m c 4 t
abbrev dB (c : Dev nD) (t : Fin cfg0.N) : Vec F S1x1536x128 .f32 := iblk m c 5 t

/-- One point's step of the three accumulators. -/
def dvStep (c : Dev nD) (t : Fin cfg0.N) (acc : Vec F S1024x128 .f32) : Vec F S1024x128 .f32 :=
  dvNew (qB m c t) (kB m c t) (oB m c t) (lB m c t) acc
def dkStep (c : Dev nD) (t : Fin cfg0.N) (acc : Vec F S1024x128 .f32) : Vec F S1024x128 .f32 :=
  dkNew (qB m c t) (kB m c t) (vB m c t) (oB m c t) (lB m c t) (dB m c t) acc
def dqStep (c : Dev nD) (t : Fin cfg0.N) (acc : Vec F S1536x128 .f32) : Vec F S1536x128 .f32 :=
  dqPart (grid0.coords t) (qB m c t) (kB m c t) (vB m c t) (oB m c t) (lB m c t) (dB m c t) acc

/-- The value gradient's accumulator after point `n`: begun anew at the first block of queries. -/
def dvAt (c : Dev nD) : ℕ → Vec F S1024x128 .f32
  | 0 => dvStep m c (pt 0) k0_pay12
  | n + 1 => dvStep m c (pt (n + 1)) (if (n + 1) % 8 = 0 then k0_pay12 else dvAt c n)

/-- The key gradient's. -/
def dkAt (c : Dev nD) : ℕ → Vec F S1024x128 .f32
  | 0 => dkStep m c (pt 0) k0_pay11
  | n + 1 => dkStep m c (pt (n + 1)) (if (n + 1) % 8 = 0 then k0_pay11 else dkAt c n)

/-- The slice of block `q` of queries of the query gradient's accumulator after the `b`-th block of keys. -/
def dqAt (c : Dev nD) (q : Fin 8) : ℕ → Vec F S1536x128 .f32
  | 0 => dqStep m c (pt q.val) (constant S1536x128 .f32 0x00000000#32)
  | b + 1 => dqStep m c (pt (8 * (b + 1) + q.val)) (dqAt c q b)

theorem dvAt_eq (c : Dev nD) (t : Fin cfg0.N) (x : Vec F S1024x128 .f32) (hx : t.val % 8 ≠ 0 → x = dvAt m c (t.val - 1)) :
    dvStep m c t (if cond1 (grid0.coords t) = 1#1 then k0_pay12 else x) = dvAt m c t.val := by
  obtain ⟨n, hn⟩ : ∃ n, t.val = n := ⟨_, rfl⟩
  cases n with
  | zero => rw [if_pos ((first_q t).mpr (by rw [hn])), ← pt_val t, hn]; rfl
  | succ n =>
    by_cases h : t.val % 8 = 0
    · rw [if_pos ((first_q t).mpr h)]
      conv_lhs => rw [← pt_val t]
      rw [hn] at h ⊢
      exact (congrArg (dvStep m c _) (if_pos h).symm)
    · rw [if_neg (fun h' => h ((first_q t).mp h')), hx h, show t.val - 1 = n by omega]
      conv_lhs => rw [← pt_val t]
      rw [hn] at h ⊢
      exact (congrArg (dvStep m c _) (if_neg h).symm)

theorem dkAt_eq (c : Dev nD) (t : Fin cfg0.N) (x : Vec F S1024x128 .f32) (hx : t.val % 8 ≠ 0 → x = dkAt m c (t.val - 1)) :
    dkStep m c t (if cond1 (grid0.coords t) = 1#1 then k0_pay11 else x) = dkAt m c t.val := by
  obtain ⟨n, hn⟩ : ∃ n, t.val = n := ⟨_, rfl⟩
  cases n with
  | zero => rw [if_pos ((first_q t).mpr (by rw [hn])), ← pt_val t, hn]; rfl
  | succ n =>
    by_cases h : t.val % 8 = 0
    · rw [if_pos ((first_q t).mpr h)]
      conv_lhs => rw [← pt_val t]
      rw [hn] at h ⊢
      exact (congrArg (dkStep m c _) (if_pos h).symm)
    · rw [if_neg (fun h' => h ((first_q t).mp h')), hx h, show t.val - 1 = n by omega]
      conv_lhs => rw [← pt_val t]
      rw [hn] at h ⊢
      exact (congrArg (dkStep m c _) (if_neg h).symm)

/-- The slices of the query gradient's accumulator before point `n`: each block's last visited slice. -/
def Slices (c : Dev nD) (n : ℕ) (f : Vec F S12288x128 .f32) : Prop :=
  ∀ (q : Fin 8) (b : ℕ), 8 * b + q.val < n → n ≤ 8 * b + q.val + 8 → slice q f = dqAt m c q b

theorem dqAt_eq (c : Dev nD) (t : Fin cfg0.N) (f : Vec F S12288x128 .f32) (hf : Slices m c t.val f) :
    dqStep m c t (slice (grid0.coords t 2) f) = dqAt m c (grid0.coords t 2) (t.val / 8) := by
  have hq := qi_eq t
  obtain ⟨b, hb⟩ : ∃ b, t.val / 8 = b := ⟨_, rfl⟩
  have ht : t.val = 8 * b + (grid0.coords t 2).val := by omega
  cases b with
  | zero =>
    have h2 : k0_cond2 (grid0.coords t) = 1#1 := (first_k t).mpr (by rw [hb])
    rw [hb]
    show _ = dqStep m c (pt _) _
    rw [show (grid0.coords t 2).val = t.val by omega, pt_val]
    unfold dqStep dqPart
    rw [if_pos h2, if_pos h2]
  | succ b =>
    rw [hb]
    show _ = dqStep m c (pt _) _
    rw [← ht, pt_val, hf (grid0.coords t 2) b (by omega) (by omega)]

theorem Slices.step {c : Dev nD} {t : Fin cfg0.N} {f g : Vec F S12288x128 .f32} (hf : Slices m c t.val f)
    (h : slice (grid0.coords t 2) g = dqStep m c t (slice (grid0.coords t 2) f))
    (h' : ∀ q, q ≠ grid0.coords t 2 → slice q g = slice q f) : Slices m c (t.val + 1) g := fun q b h1 h2 => by
  have hq := qi_eq t
  have hlt := q.isLt
  by_cases e : q = grid0.coords t 2
  · rw [e, h, dqAt_eq m c t f hf]
    have := congrArg Fin.val e
    rw [show t.val / 8 = b by omega]
  · have hne : q.val ≠ (grid0.coords t 2).val := fun h => e (Fin.ext h)
    rw [h' q e]
    exact hf q b (by omega) (by omega)

/-! ## The invariant and the proof data -/

/-- Before point `n`: the query gradient's accumulator at its visited slices; the other two, within a block of keys, at what the
    point before left; the generator register at some state. -/
def Phi (c : Dev nD) (n : ℕ) : sProp 𝕄 :=
  iprop((∃ f, ⌜Slices m c n f⌝ ∗ owns (c : Thread nD τ) (Memref.whole cc0_scratch0) fullShare f)
    ∗ (∃ g, ⌜n % 8 ≠ 0 → g = dkAt m c (n - 1)⌝ ∗ owns (c : Thread nD τ) (Memref.whole cc0_scratch1) fullShare g)
    ∗ (∃ h, ⌜n % 8 ≠ 0 → h = dvAt m c (n - 1)⌝ ∗ owns (c : Thread nD τ) (Memref.whole cc0_scratch2) fullShare h)
    ∗ (∃ r, prngReg c r))

theorem PhiA_eq (c : Dev nD) :
    (Pipeline.ΦA spec0 c : sProp 𝕄)
      = iprop(iprop((∃ d, owns (c : Thread nD τ) (Memref.whole cc0_scratch0) fullShare d)
        ∗ (∃ d, owns (c : Thread nD τ) (Memref.whole cc0_scratch1) fullShare d)
        ∗ (∃ d, owns (c : Thread nD τ) (Memref.whole cc0_scratch2) fullShare d)) ∗ (∃ r, prngReg c r)) := by
  unfold Pipeline.ΦA; rw [scopedRest0_eq]; simp only [owns_whole]; try rfl

/-- The proof data: arrays as the region finds them; inputs left in place; the written blocks from the accumulators. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => X0_3 m c t
    | ⟨4, _⟩ => iblk m c 4 t
    | ⟨5, _⟩ => iblk m c 5 t
    | ⟨6, _⟩ => dqBlock (dqAt m c (grid0.coords t 2) (t.val / 8))
    | ⟨7, _⟩ => k0_pay10 (dkAt m c t.val)
    | ⟨8, _⟩ => dvAt m c t.val
  Φ t := Phi m c t.val
  q _ := fullShare
  owed _ := 0

theorem A_eq (c : Dev nD) (w : Fin cfg0.W) : (dats m 0 c).A w = V m c (Pipeline.arrRef spec0 w) := by dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = X0_3 m c t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dqBlock (dqAt m c (grid0.coords t 2) (t.val / 8)) := by dsimp only [dats]
theorem after7 (c : Dev nD) (t : Fin cfg0.N) : (dats m 0 c).after 7 t = k0_pay10 (dkAt m c t.val) := by dsimp only [dats]
theorem after8 (c : Dev nD) (t : Fin cfg0.N) : (dats m 0 c).after 8 t = dvAt m c t.val := by dsimp only [dats]

theorem before0 (c : Dev nD) (t : Fin cfg0.N) (d) : (dats m 0 c).before 0 t d = iblk m c 0 t := before0_0_of m (dats m 0 c) (A_eq m c 0) (after0 m c) t d
theorem before1 (c : Dev nD) (t : Fin cfg0.N) (d) : (dats m 0 c).before 1 t d = iblk m c 1 t := before0_1_of m (dats m 0 c) (A_eq m c 1) (after1 m c) t d
theorem before2 (c : Dev nD) (t : Fin cfg0.N) (d) : (dats m 0 c).before 2 t d = iblk m c 2 t := before0_2_of m (dats m 0 c) (A_eq m c 2) (after2 m c) t d
theorem before3 (c : Dev nD) (t : Fin cfg0.N) (d) : (dats m 0 c).before 3 t d = X0_3 m c t := before0_3_of m (dats m 0 c) (A_eq m c 3) (after3 m c) t d
theorem before4 (c : Dev nD) (t : Fin cfg0.N) (d) : (dats m 0 c).before 4 t d = iblk m c 4 t := before0_4_of m (dats m 0 c) (A_eq m c 4) (after4 m c) t d
theorem before5 (c : Dev nD) (t : Fin cfg0.N) (d) : (dats m 0 c).before 5 t d = iblk m c 5 t := before0_5_of m (dats m 0 c) (A_eq m c 5) (after5 m c) t d

/-! ## The body at every point -/

/-- A written window's block after the body: the point's own where the point writes it, and as it was elsewhere. -/
theorem leaves6 (c : Dev nD) (t : Fin cfg0.N) (d) :
    owns (c : Thread nD τ) (st0_6 t) fullShare
        (if k0_cond4 (grid0.coords t) = 1#1 then dqBlock (dqAt m c (grid0.coords t 2) (t.val / 8)) else (dats m 0 c).before 6 t d)
      ⊢ ((dats m 0 c).leavesExact 6 t : sProp 𝕄) := by
  by_cases h : k0_cond4 (grid0.coords t) = 1#1
  · have hi : cfg0.idle 6 (cfg0.grid.coords t) = false := show (!(k0_cond4 (grid0.coords t) == 1#1)) = false by rw [h]; rfl
    unfold Dat.leavesExact
    rw [hi, if_pos h, ← after6]
    try exact Idealize.SL.BI.Entails.refl _
  · have hi : cfg0.idle 6 (cfg0.grid.coords t) = true := show (!(k0_cond4 (grid0.coords t) == 1#1)) = true by rw [beq_eq_false_iff_ne.mpr h]; rfl
    have hf : (cfg0.win 6).flush t = false := Bool.eq_false_iff.mpr fun e => h ((last_k t).mpr ((flush_dq t).mp e))
    rw [Dat.leavesExact_idle _ _ _ hi hf, if_neg h]
    iintro H
    iexists d; iexact H

theorem leaves7 (c : Dev nD) (t : Fin cfg0.N) (d) :
    owns (c : Thread nD τ) (st0_7 t) fullShare
        (if k0_cond5 (grid0.coords t) = 1#1 then k0_pay10 (dkAt m c t.val) else (dats m 0 c).before 7 t d)
      ⊢ ((dats m 0 c).leavesExact 7 t : sProp 𝕄) := by
  by_cases h : k0_cond5 (grid0.coords t) = 1#1
  · have hi : cfg0.idle 7 (cfg0.grid.coords t) = false := show (!(k0_cond5 (grid0.coords t) == 1#1)) = false by rw [h]; rfl
    unfold Dat.leavesExact
    rw [hi, if_pos h, ← after7]
    try exact Idealize.SL.BI.Entails.refl _
  · have hi : cfg0.idle 7 (cfg0.grid.coords t) = true := show (!(k0_cond5 (grid0.coords t) == 1#1)) = true by rw [beq_eq_false_iff_ne.mpr h]; rfl
    have hf : (cfg0.win 7).flush t = false := Bool.eq_false_iff.mpr fun e => h ((last_q t).mpr ((flush0_7 t).mp e))
    rw [Dat.leavesExact_idle _ _ _ hi hf, if_neg h]
    iintro H
    iexists d; iexact H

theorem leaves8 (c : Dev nD) (t : Fin cfg0.N) (d) :
    owns (c : Thread nD τ) (st0_8 t) fullShare
        (if k0_cond5 (grid0.coords t) = 1#1 then dvAt m c t.val else (dats m 0 c).before 8 t d)
      ⊢ ((dats m 0 c).leavesExact 8 t : sProp 𝕄) := by
  by_cases h : k0_cond5 (grid0.coords t) = 1#1
  · have hi : cfg0.idle 8 (cfg0.grid.coords t) = false := show (!(k0_cond5 (grid0.coords t) == 1#1)) = false by rw [h]; rfl
    unfold Dat.leavesExact
    rw [hi, if_pos h, ← after8]
    try exact Idealize.SL.BI.Entails.refl _
  · have hi : cfg0.idle 8 (cfg0.grid.coords t) = true := show (!(k0_cond5 (grid0.coords t) == 1#1)) = true by rw [beq_eq_false_iff_ne.mpr h]; rfl
    have hf : (cfg0.win 8).flush t = false := Bool.eq_false_iff.mpr fun e => h ((last_q t).mpr ((flush0_8 t).mp e))
    rw [Dat.leavesExact_idle _ _ _ hi hf, if_neg h]
    iintro H
    iexists d; iexact H

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t
    ∗ (dats m 0 c).leavesExact 7 t
    ∗ (dats m 0 c).leavesExact 8 t)

theorem Phi_castSucc (c : Dev nD) (t : Fin cfg0.N) : (dats m 0 c).Φ t.castSucc = Phi m c t.val := by
  dsimp only [dats]; rfl
theorem Phi_succ (c : Dev nD) (t : Fin cfg0.N) : (dats m 0 c).Φ t.succ = Phi m c (t.val + 1) := by
  dsimp only [dats]; rfl

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).owesAt () t.succ = (dats m 0 c).owesAt () t.castSucc from rfl, Phi_castSucc, Phi_succ,
    after0, after1, after2, after3, after4, after5]
  simp only [before0, before1, before2, before3, before4, before5]
  unfold Phi
  iintro ⟨⟨⟨%f, %hf, S0⟩, ⟨%g, %hg, S1⟩, ⟨%h, %hh, S2⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (run c (grid0.coords t) _ _ _ _ _ _ _ _ _ _ _ _ _ _ _ _ _ _ _ _ _ _ _ _ (qB m c t) (kB m c t) (vB m c t) (oB m c t) (lB m c t) (dB m c t) _ _ _ f g h (later_k t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  rw [show dqPart (grid0.coords t) (qB m c t) (kB m c t) (vB m c t) (oB m c t) (lB m c t) (dB m c t) (slice (grid0.coords t 2) f)
      = dqAt m c (grid0.coords t 2) (t.val / 8) from dqAt_eq m c t f hf,
    show dkNew (qB m c t) (kB m c t) (vB m c t) (oB m c t) (lB m c t) (dB m c t) (if cond1 (grid0.coords t) = 1#1 then k0_pay11 else g)
      = dkAt m c t.val from dkAt_eq m c t g hg,
    show dvNew (qB m c t) (kB m c t) (oB m c t) (lB m c t) (if cond1 (grid0.coords t) = 1#1 then k0_pay12 else h)
      = dvAt m c t.val from dvAt_eq m c t h hh]
  iintro ⟨H0, H1, H2, H3, H4, H5, H6, H7, H8, ⟨%f', %hf', S0⟩, S1, S2⟩
  isplitl [S0 S1 S2 Hr]
  · isplitl [S0]
    · iexists f'; isplitr
      · ipureintro; exact hf.step m (hf'.1.trans (dqAt_eq m c t f hf).symm) hf'.2
      iexact S0
    isplitl [S1]
    · iexists _; isplitr; swap; · iexact S1
      ipureintro; exact fun _ => rfl
    isplitl [S2]
    · iexists _; isplitr; swap; · iexact S2
      ipureintro; exact fun _ => rfl
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iapply (leaves6 m c t d6); iexact H6
  isplitl [H7]; · iapply (leaves7 m c t d7); iexact H7
  iapply (leaves8 m c t d8); iexact H8

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 from rfl, PhiA_eq]
  unfold Phi
  iintro ⟨⟨⟨%f, S0⟩, ⟨%g, S1⟩, ⟨%h, S2⟩⟩, Hr⟩
  isplitl [S0]
  · iexists f; isplitr
    · ipureintro; exact fun _ _ h _ => absurd h (Nat.not_lt_zero _)
    iexact S0
  isplitl [S1]
  · iexists g; isplitr
    · ipureintro; exact fun h => absurd rfl h
    iexact S1
  isplitl [S2]
  · iexists h; isplitr
    · ipureintro; exact fun h => absurd rfl h
    iexact S2
  iexact Hr

theorem hout (c : Dev nD) : (dats m 0 c).Φ (Fin.last cfg0.N) ⊢ Pipeline.ΦA spec0 c := by
  rw [show (dats m 0 c).Φ (Fin.last cfg0.N) = Phi m c cfg0.N from rfl, PhiA_eq]
  unfold Phi
  iintro ⟨⟨%f, -, S0⟩, ⟨%g, -, S1⟩, ⟨%h, -, S2⟩, Hr⟩
  isplitr [Hr]
  · isplitl [S0]; · iexists f; iexact S0
    isplitl [S1]; · iexists g; iexact S1
    iexists h; iexact S2
  iexact Hr

/-! ## The run and the frame -/

-- the launch theorem's implicit arguments are found by unifying its conclusion with this one
set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, over any values: the arguments end unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.Proof.FlashFrame
end
-- ==== Proof.FlashBits.lean ====
module
public import proofs.«01_k».proof.Proof.FlashFrame
public import proofs.«01_k».proof.Proof.Gen.Kernel
public import Idealize.ShloMosaic.PureOps.BitExact

/-! The frame of the kernel as compiled: the run over any values, at bit words, the named constant read as its own word. -/

@[expose] public section
set_option maxRecDepth 16384
noncomputable section
namespace Cert.Proof.FlashBits
open Idealize.ShloMosaic Idealize.ShloMosaic.TcCoe Idealize.SL.Sem

/-- A named constant at bit words is the word it stands for. -/
local instance bitsNamed : Named Bits := ⟨fun _ _ {φ} b => FloatOps.ofBits φ b⟩

set_option maxHeartbeats 1000000 in
theorem table_eq : Cert.Kernel.defs₀ (F := Bits) = Cert.KernelIdeal.defs₀ (F := Bits) := by
  unfold Cert.Kernel.defs₀ Cert.KernelIdeal.defs₀
  refine congrArg Defs.onTc (funext fun n => funext fun a => ?_)
  match n, a with
  | ⟨0, _⟩, (t, s) => exact rfl

theorem defs_eq : Cert.Kernel.defs (F := Bits) = Cert.KernelIdeal.defs (F := Bits) :=
  congrArg (Pipeline.defs Cert.KernelIdeal.pcfgs) table_eq

set_option maxHeartbeats 4000000 in
theorem main_eq : Cert.Kernel.main (F := Bits) = Cert.KernelIdeal.main (F := Bits) := by
  unfold Cert.Kernel.main Cert.KernelIdeal.main
  rfl

theorem frame (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0) := by
  rw [defs_eq, main_eq]
  exact FlashFrame.frame (F := Bits) m g

end Cert.Proof.FlashBits
end
-- ==== Proof.FlashBlock.lean ====
module
public import proofs.«01_k».proof.Proof.FlashRun
public import Idealize.ShloMosaic.Lib.Pointwise
public import Idealize.ShloMosaic.Lib.Pipeline.ValueKit.Tiles
public import Idealize.ShloMosaic.PureOps.Ideal.Laws

/-! What one point of the attention gradient's grid adds to its accumulators, element by element, over the extended reals. -/

@[expose] public section
set_option maxRecDepth 16384
noncomputable section
namespace Cert.Proof.FlashBlock
open Cert.KernelIdeal Cert.KernelIdeal.Gen Cert.Proof.FlashRun
open Idealize.ShloMosaic Idealize.ShloMosaic.TcCoe Idealize.SL.Sem

/-- Column `d` of head `g` in a block of queries, and row `r` of head `g` in a block of statistics. -/
abbrev hcol (g : Fin 3) (d : Fin 128) : Fin 384 := ⟨128 * g.val + d.val, by omega⟩
abbrev hrow (g : Fin 3) (r : Fin 512) : Fin 1536 := ⟨512 * g.val + r.val, by omega⟩

variable (q dO : Vec Ideal S512x384 .bf16) (k v : Vec Ideal S1024x128 .bf16) (lse delta : Vec Ideal S1x1536x128 .f32)

/-- The weight of key `s` for query `r` of head `g`, and the gradient of their score. -/
def weight (g : Fin 3) (r : Fin 512) (s : Fin 1024) : EReal :=
  FloatOps.exp2 (F := Ideal) (φ := .bf16) ((∑ d : Fin 128, q (ix2 r (hcol g d)) * k (ix2 s d) : EReal) - lse (ix3 0 (hrow g r) 0))
def dscore (g : Fin 3) (r : Fin 512) (s : Fin 1024) : EReal :=
  weight q k lse g r s * ((∑ d : Fin 128, dO (ix2 r (hcol g d)) * v (ix2 s d) : EReal) - delta (ix3 0 (hrow g r) 0))

/-- What a point adds to the value gradient, to the key gradient, and to the query gradient. -/
theorem dvNew_at (acc : Vec Ideal S1024x128 .f32) (s : Fin 1024) (d : Fin 128) :
    dvNew (F := Ideal) q k dO lse acc (ix2 s d) = (acc (ix2 s d) : EReal)
      + ((∑ r, weight q k lse 0 r s * dO (ix2 r (hcol 0 d)) + ∑ r, weight q k lse 1 r s * dO (ix2 r (hcol 1 d)))
        + ∑ r, weight q k lse 2 r s * dO (ix2 r (hcol 2 d)) : EReal) := by
  pointwise [dvNew, k0_pay2, k0_pay25, k0_pay28, k0_pay16, k0_pay18, k0_pay19, p0, p2, k0_pay31, k0_pay13, k0_pay21, k0_pay26,
    k0_pay15, k0_pay17, k0_pay24, head0, head1, head2, stat0, stat1, stat2]
  simp only [weight, dscore, hcol, hrow, Fin.isValue, Fin.val_zero, Fin.val_one, Fin.val_two, Nat.mul_zero, Nat.mul_one, Nat.reduceMul, Nat.zero_add]

set_option maxHeartbeats 1000000 in
theorem dkNew_at (acc : Vec Ideal S1024x128 .f32) (s : Fin 1024) (d : Fin 128) :
    dkNew (F := Ideal) q k v dO lse delta acc (ix2 s d) = (acc (ix2 s d) : EReal)
      + ((∑ r, dscore q dO k v lse delta 0 r s * q (ix2 r (hcol 0 d)) + ∑ r, dscore q dO k v lse delta 1 r s * q (ix2 r (hcol 1 d)))
        + ∑ r, dscore q dO k v lse delta 2 r s * q (ix2 r (hcol 2 d)) : EReal) := by
  pointwise [dkNew, k0_pay3, k0_pay1, k0_pay25, k0_pay29, k0_pay16, k0_pay18, k0_pay19, k0_pay20, p2, d2, ds0, k0_pay31, k0_pay32, k0_pay13, k0_pay14,
    k0_pay21, k0_pay22, k0_pay26, k0_pay27, k0_pay15, k0_pay17, k0_pay24, head0, head1, head2, stat0, stat1, stat2]
  simp only [weight, dscore, hcol, hrow, Fin.isValue, Fin.val_zero, Fin.val_one, Fin.val_two, Nat.mul_zero, Nat.mul_one, Nat.reduceMul, Nat.zero_add]

set_option maxHeartbeats 1000000 in
theorem dqPart_at (i : grid0.Coords) (acc : Vec Ideal S1536x128 .f32) (g : Fin 3) (r : Fin 512) (d : Fin 128) :
    dqPart (F := Ideal) i q k v dO lse delta acc (ix2 (hrow g r) d)
      = (if k0_cond2 i = 1#1 then (0 : EReal) else acc (ix2 (hrow g r) d)) + (∑ s, dscore q dO k v lse delta g r s * k (ix2 s d) : EReal) := by
  unfold dqPart
  split
  all_goals
    obtain rfl | rfl | rfl : g = 0 ∨ g = 1 ∨ g = 2 := by omega
    all_goals
      pointwise [k0_pay5, k0_pay6, k0_pay4, k0_pay23, k0_pay30, k0_pay1, k0_pay25, k0_pay16, k0_pay18, k0_pay19, k0_pay20, p2, d2, ds0, k0_pay31, k0_pay32, k0_pay13, k0_pay14,
        k0_pay21, k0_pay22, k0_pay26, k0_pay27, k0_pay15, k0_pay17, k0_pay24, head0, head1, head2, stat0, stat1, stat2]
      try rw [dif_neg (by omega), dif_neg (by omega)]
      simp only [weight, dscore, hcol, hrow, Fin.isValue, Fin.val_zero, Fin.val_one, Fin.val_two, Nat.mul_zero, Nat.mul_one, Nat.reduceMul, Nat.zero_add,
        show 1024 + ↑r - 512 - 512 = ↑r from by omega, Fin.eta]
end Cert.Proof.FlashBlock
end
-- ==== Proof.FlashHost.lean ====
module
public import proofs.«01_k».proof.Proof.Gen.KernelIdeal.Frame
public import Idealize.ShloMosaic.Lib.Claim
public import Idealize.ShloMosaic.Lib.Pointwise
public import Idealize.ShloMosaic.Lib.StableHlo.RunRead

/-! What the host computes before the attention gradient's kernel runs: each array named, and the kernel's operands in their terms. -/

@[expose] public section
set_option maxRecDepth 16384
noncomputable section
namespace Cert.Proof.FlashHost
open Cert.KernelIdeal Cert.KernelIdeal.Gen
open Idealize.ShloMosaic Idealize.ShloMosaic.TcCoe Idealize.SL.Sem

section arrays
variable (Q : FVec Ideal S4096x1536 .f32) (K W : FVec Ideal S4096x512 .f32) (D : FVec Ideal S4096x2048 .f32)

def scores : FVec Ideal S4x3x4096x4096 .f32 :=
  mulf (transpose S4x3x4096x4096 [0, 3, 2, 1]
      (Host.dotGeneral dot_S4096x4x128_S4096x4x3x128_S4x4096x4096x3_2_3_0_02_1_1 none
        (shapeCast S4096x4x128 K shapeCasts_S4096x512_S4096x4x128) (shapeCast S4096x4x3x128 Q shapeCasts_S4096x1536_S4096x4x3x128))
      transposes_S4x4096x4096x3_S4x3x4096x4096_0_3_2_1)
    (broadcastInDim S4x3x4096x4096 ![] bcast_S_S4x3x4096x4096 (constant S_ .f32 0x3DB504F3#32))

def rowMax : FVec Ideal S4x3x4096 .f32 :=
  Host.reduce FloatOps.maximumf (scores Q K) (constant S_ .f32 0xFF800000#32) reducesTo_S4x3x4096x4096_S4x3x4096_d3 h_S_

def column (x : FVec Ideal S4x3x4096 .f32) : FVec Ideal S4x3x4096x1 .f32 :=
  broadcastInDim S4x3x4096x1 ![0, 1, 2] bcast_S4x3x4096_S4x3x4096x1_0_1_2 x

def masses : FVec Ideal S4x3x4096x4096 .f32 :=
  Host.exp (subf (scores Q K)
    (broadcastInDim S4x3x4096x4096 ![0, 1, 2, 3] bcast_S4x3x4096x1_S4x3x4096x4096_0_1_2_3 (column (rowMax Q K))))

def totals : FVec Ideal S4x3x4096 .f32 :=
  Host.reduceAdd (masses Q K) (constant S_ .f32 0x00000000#32) reducesTo_S4x3x4096x4096_S4x3x4096_d3 h_S_

def logTwo : FVec Ideal S_ .f32 := Host.log (constant S_ .f32 0x40000000#32)

def logSums : FVec Ideal S4x3x4096 .f32 :=
  shapeCast S4x3x4096 (Host.divf (addf (column (rowMax Q K)) (Host.log (column (totals Q K))))
    (broadcastInDim S4x3x4096x1 ![] bcast_S_S4x3x4096x1 logTwo)) shapeCasts_S4x3x4096x1_S4x3x4096

def outputs : FVec Ideal S4x3x4096x128 .f32 :=
  Host.dotGeneral dot_S4x3x4096x4096_S4096x4x128_S4x3x4096x128_3_0_12_2_0_1 none
    (Host.divf (masses Q K)
      (broadcastInDim S4x3x4096x4096 ![0, 1, 2, 3] bcast_S4x3x4096x1_S4x3x4096x4096_0_1_2_3 (column (totals Q K))))
    (shapeCast S4096x4x128 W shapeCasts_S4096x512_S4096x4x128)

def cotangents : FVec Ideal S4x3x4096x128 .f32 :=
  transpose S4x3x4096x128 [1, 2, 0, 3]
    (shapeCast S4096x4x3x128 (extractStridedSlice S4096x1536 ![0, 0] D slices_S4096x2048_S4096x1536_0_0) shapeCasts_S4096x1536_S4096x4x3x128)
    transposes_S4096x4x3x128_S4x3x4096x128_1_2_0_3

def deltas : FVec Ideal S4x3x4096 .f32 :=
  Host.reduceAdd (mulf (outputs Q K W) (cotangents D)) (constant S_ .f32 0x00000000#32) reducesTo_S4x3x4096x128_S4x3x4096_d3 h_S_

/-- A row statistic in the order the kernel reads it. -/
def rowsOfBlocks (x : FVec Ideal S4x3x4096 .f32) : FVec Ideal S4x12288x128 .f32 :=
  broadcastInDim S4x12288x128 ![0, 1, 2] bcast_S4x12288x1_S4x12288x128_0_1_2
    (shapeCast S4x12288x1 (transpose S4x8x3x512 [0, 2, 1, 3] (shapeCast S4x3x8x512 x shapeCasts_S4x3x4096_S4x3x8x512)
      transposes_S4x3x8x512_S4x8x3x512_0_2_1_3) shapeCasts_S4x8x3x512_S4x12288x1)

def scaled : FVec Ideal S4096x1536 .bf16 :=
  truncf .bf16 (Host.divf (mulf Q (broadcastInDim S4096x1536 ![] bcast_S_S4096x1536 (constant S_ .f32 0x3DB504F3#32)))
    (broadcastInDim S4096x1536 ![] bcast_S_S4096x1536 logTwo)) bitsLt_bf16_f32
end arrays

section entry
variable (m : (ℓ : Loc nD τ sig) → Buf (Elt Ideal) ℓ) (c : Dev nD)

theorem v43_eq : V m c main_v43 = rowsOfBlocks (logSums (m ((c.tc : Thread nD τ).loc main_arg0)) (m ((c.tc : Thread nD τ).loc main_arg1))) := by
  unfold_abbrev_sides
  after_reads_simp
  rfl

theorem v38_eq : V m c main_v38 = rowsOfBlocks (deltas (m ((c.tc : Thread nD τ).loc main_arg0)) (m ((c.tc : Thread nD τ).loc main_arg1))
    (m ((c.tc : Thread nD τ).loc main_arg2)) (m ((c.tc : Thread nD τ).loc main_arg3))) := by
  unfold_abbrev_sides
  after_reads_simp
  rfl

theorem v32_eq : V m c main_v32 = scaled (m ((c.tc : Thread nD τ).loc main_arg0)) := by
  unfold_abbrev_sides
  after_reads_simp
  rfl
theorem v33_eq : V m c main_v33 = (truncf .bf16 (m ((c.tc : Thread nD τ).loc main_arg1) : FVec Ideal S4096x512 .f32) bitsLt_bf16_f32 : FVec Ideal S4096x512 .bf16) := by
  unfold_abbrev_sides
  after_reads_simp
theorem v34_eq : V m c main_v34 = (truncf .bf16 (m ((c.tc : Thread nD τ).loc main_arg2) : FVec Ideal S4096x512 .f32) bitsLt_bf16_f32 : FVec Ideal S4096x512 .bf16) := by
  unfold_abbrev_sides
  after_reads_simp
theorem v39_eq : V m c main_v39 = (truncf .bf16 (m ((c.tc : Thread nD τ).loc main_arg3) : FVec Ideal S4096x2048 .f32) bitsLt_bf16_f32 : FVec Ideal S4096x2048 .bf16) := by
  unfold_abbrev_sides
  after_reads_simp
end entry
end Cert.Proof.FlashHost
end
-- ==== Proof.FlashMath.lean ====
module
public import Mathlib.Analysis.SpecialFunctions.Pow.Real
public import Mathlib.Data.EReal.Operations
public import Mathlib.Algebra.BigOperators.Fin

/-! The mathematics of attention's gradient, over the reals: the softmax weights of the scores with any row offset subtracted, the
    gradient of a score, and the gradients of queries, keys and values; the kernel's base-2 form of the weights, and the two
    ways to sum output times cotangent. -/

@[expose] public section
noncomputable section
namespace Cert.Proof.FlashMath

variable (q d : Fin 4096 → Fin 4 → Fin 3 → Fin 128 → ℝ) (k v : Fin 4096 → Fin 4 → Fin 128 → ℝ) (c : ℝ) (M : Fin 4 → Fin 3 → Fin 4096 → ℝ)

/-- The score of key `j` for query `i` of head `g` in group `h`; its exponential, offset by `M`; a row's sum; the weight. -/
def score (h : Fin 4) (g : Fin 3) (i j : Fin 4096) : ℝ := (∑ x, k j h x * q i h g x) * c
def mass (h : Fin 4) (g : Fin 3) (i j : Fin 4096) : ℝ := Real.exp (score q k c h g i j - M h g i)
def total (h : Fin 4) (g : Fin 3) (i : Fin 4096) : ℝ := ∑ j, mass q k c M h g i j
def prob (h : Fin 4) (g : Fin 3) (i j : Fin 4096) : ℝ := mass q k c M h g i j / total q k c M h g i

/-- The gradient of a weight, its mean over a row, and the gradient of a score. -/
def dprob (h : Fin 4) (g : Fin 3) (i j : Fin 4096) : ℝ := ∑ x, d i h g x * v j h x
def delta (h : Fin 4) (g : Fin 3) (i : Fin 4096) : ℝ := ∑ j, dprob d v h g i j * prob q k c M h g i j
def dscore (h : Fin 4) (g : Fin 3) (i j : Fin 4096) : ℝ := prob q k c M h g i j * (dprob d v h g i j - delta q d k v c M h g i)

/-- The gradients of queries, keys and values. -/
def dquery (i : Fin 4096) (h : Fin 4) (g : Fin 3) (x : Fin 128) : ℝ := ∑ j, dscore q d k v c M h g i j * c * k j h x
def dkey (j : Fin 4096) (h : Fin 4) (x : Fin 128) : ℝ := ∑ i, ∑ g, dscore q d k v c M h g i j * c * q i h g x
def dvalue (j : Fin 4096) (h : Fin 4) (x : Fin 128) : ℝ := ∑ i, ∑ g, prob q k c M h g i j * d i h g x

theorem total_pos (h : Fin 4) (g : Fin 3) (i : Fin 4096) : 0 < total q k c M h g i :=
  Finset.sum_pos (fun _ _ => Real.exp_pos _) ⟨0, Finset.mem_univ _⟩

theorem log_two_ne : Real.log 2 ≠ 0 := (Real.log_pos (by norm_num)).ne'

/-- The weight as a power of two. -/
theorem two_rpow (h : Fin 4) (g : Fin 3) (i j : Fin 4096) :
    (2 : ℝ) ^ ((∑ x, q i h g x * c / Real.log 2 * k j h x) - (M h g i + Real.log (total q k c M h g i)) / Real.log 2) = prob q k c M h g i j := by
  have e : (∑ x, q i h g x * c / Real.log 2 * k j h x) = score q k c h g i j / Real.log 2 := by
    unfold score
    simp only [div_eq_mul_inv, Finset.sum_mul]
    exact Finset.sum_congr rfl fun x _ => by ring
  rw [e, ← sub_div, Real.rpow_def_of_pos (by norm_num), mul_div_cancel₀ _ log_two_ne, ← sub_sub, Real.exp_sub, Real.exp_log (total_pos q k c M h g i)]
  rfl

/-- Output times cotangent, summed over the lanes, is the mean of the weights' gradient. -/
theorem delta_eq (h : Fin 4) (g : Fin 3) (i : Fin 4096) :
    (∑ x, (∑ j, prob q k c M h g i j * v j h x) * d i h g x) = delta q d k v c M h g i := by
  simp only [delta, dprob, Finset.sum_mul]
  rw [Finset.sum_comm]
  exact Finset.sum_congr rfl fun j _ => Finset.sum_congr rfl fun x _ => by ring

/-- The gradient of a score as the quotient rule writes it. -/
theorem dscore_eq (h : Fin 4) (g : Fin 3) (i j : Fin 4096) :
    (dprob d v h g i j / total q k c M h g i
      + -(∑ j', dprob d v h g i j' * (1 / (total q k c M h g i * total q k c M h g i)) * mass q k c M h g i j')) * mass q k c M h g i j
      = dscore q d k v c M h g i j := by
  have ht := (total_pos q k c M h g i).ne'
  have e : (∑ j', dprob d v h g i j' * (1 / (total q k c M h g i * total q k c M h g i)) * mass q k c M h g i j')
      = delta q d k v c M h g i / total q k c M h g i := by
    unfold delta prob
    simp only [div_eq_mul_inv, Finset.sum_mul, one_mul]
    exact Finset.sum_congr rfl fun j' _ => by field_simp
  rw [e]
  unfold dscore prob
  field_simp
  ring

/-- The kernel scales the queries' gradient at the end, and undoes the queries' base-2 scale in the keys' gradient. -/
theorem dquery_eq (i : Fin 4096) (h : Fin 4) (g : Fin 3) (x : Fin 128) :
    (∑ j, dscore q d k v c M h g i j * k j h x) * c = dquery q d k v c M i h g x := by
  unfold dquery
  rw [Finset.sum_mul]
  exact Finset.sum_congr rfl fun j _ => by ring

theorem dkey_eq (j : Fin 4096) (h : Fin 4) (x : Fin 128) :
    (∑ i, ∑ g, dscore q d k v c M h g i j * (q i h g x * c / Real.log 2)) * Real.log 2 = dkey q d k v c M j h x := by
  unfold dkey
  simp only [Finset.sum_mul]
  refine Finset.sum_congr rfl fun i _ => Finset.sum_congr rfl fun g _ => ?_
  have := log_two_ne
  field_simp

/-! ## Reals among the extended reals -/

theorem sum_coe {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

theorem fold_max_coe {ι : Type} [Fintype ι] [Nonempty ι] (f : ι → ℝ) : ∃ r : ℝ, Finset.univ.fold max (⊥ : EReal) (fun i => (f i : EReal)) = r := by
  classical
  have key : ∀ s : Finset ι, s.fold max (⊥ : EReal) (fun i => (f i : EReal)) = ⊥ ∧ s = ∅ ∨ ∃ r : ℝ, s.fold max (⊥ : EReal) (fun i => (f i : EReal)) = r := by
    intro s
    induction s using Finset.induction_on with
    | empty => exact .inl ⟨rfl, rfl⟩
    | insert a s ha ih =>
      refine .inr ?_
      rw [Finset.fold_insert ha]
      rcases ih with ⟨e, -⟩ | ⟨r, e⟩
      · exact ⟨f a, by rw [e]; exact max_eq_left bot_le⟩
      · exact ⟨max (f a) r, by rw [e]; exact (EReal.coe_strictMono.monotone.map_max).symm⟩
  rcases key Finset.univ with ⟨-, e⟩ | h
  · exact absurd e Finset.univ_nonempty.ne_empty
  · exact h

end Cert.Proof.FlashMath
end
-- ==== Proof.FlashRows.lean ====
module
public import proofs.«01_k».proof.Proof.FlashHost
public import proofs.«01_k».proof.Proof.FlashMath

/-! The host's arrays at one entry, over real arguments. -/

@[expose] public section
set_option maxRecDepth 16384
noncomputable section
namespace Cert.Proof.FlashRows
open Cert.KernelIdeal Cert.KernelIdeal.Gen
open Idealize.ShloMosaic Idealize.ShloMosaic.TcCoe Idealize.SL.Sem
open Cert.Proof Cert.Proof.FlashHost

/-- The column of a query's, a cotangent's and a key's coordinate. -/
def qcol (h : Fin 4) (g : Fin 3) (x : Fin 128) : Fin 1536 := ⟨h.val * 384 + g.val * 128 + x.val, by omega⟩
def dcol (h : Fin 4) (g : Fin 3) (x : Fin 128) : Fin 2048 := ⟨h.val * 384 + g.val * 128 + x.val, by omega⟩
def kcol (h : Fin 4) (x : Fin 128) : Fin 512 := ⟨h.val * 128 + x.val, by omega⟩

/-- The score's scale. -/
def scale : ℝ := 11863283 / 134217728

theorem scale_word : Ideal.ofBits .f32 0x3DB504F3#32 = ((scale : ℝ) : EReal) := by
  unfold scale
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num
theorem bot_word : Ideal.ofBits .f32 0xFF800000#32 = (⊥ : EReal) := by
  simp [Ideal.ofBits, Ideal.ieee, -EReal.coe_mul]

theorem log_coe' {r : ℝ} (h : 0 < r) : Ideal.log (r : EReal) = ((Real.log r : ℝ) : EReal) := by
  rw [Ideal.log_coe, if_neg (not_le.mpr h)]
theorem div_coe' {y : ℝ} (h : y ≠ 0) (x : ℝ) : Ideal.div (x : EReal) (y : EReal) = ((x / y : ℝ) : EReal) := by
  rw [Ideal.div_coe h, ← EReal.coe_mul, mul_one_div]

/-- Real arrays, and the arguments they are. -/
structure Args (Q : FVec Ideal S4096x1536 .f32) (K W : FVec Ideal S4096x512 .f32) (D : FVec Ideal S4096x2048 .f32) where
  q : Fin 4096 → Fin 4 → Fin 3 → Fin 128 → ℝ
  d : Fin 4096 → Fin 4 → Fin 3 → Fin 128 → ℝ
  k : Fin 4096 → Fin 4 → Fin 128 → ℝ
  v : Fin 4096 → Fin 4 → Fin 128 → ℝ
  hq : ∀ i h g x, Q (ix2 i (qcol h g x)) = (q i h g x : EReal)
  hk : ∀ j h x, K (ix2 j (kcol h x)) = (k j h x : EReal)
  hv : ∀ j h x, W (ix2 j (kcol h x)) = (v j h x : EReal)
  hd : ∀ i h g x, D (ix2 i (dcol h g x)) = (d i h g x : EReal)

variable {Q : FVec Ideal S4096x1536 .f32} {K W : FVec Ideal S4096x512 .f32} {D : FVec Ideal S4096x2048 .f32}

theorem scores_raw (h : Fin 4) (g : Fin 3) (i j : Fin 4096) :
    scores Q K (ix4 h g i j) = (∑ x, K (ix2 j (kcol h x)) * Q (ix2 i (qcol h g x))) * Ideal.ofBits .f32 0x3DB504F3#32 := by
  pointwise [scores]
  rfl

theorem rowMax_raw (h : Fin 4) (g : Fin 3) (i : Fin 4096) :
    rowMax Q K (ix3 h g i) = Finset.univ.fold max (Ideal.ofBits .f32 0xFF800000#32) (fun j => scores Q K (ix4 h g i j)) := by
  unfold rowMax
  generalize scores Q K = s
  pointwise

theorem masses_raw (h : Fin 4) (g : Fin 3) (i j : Fin 4096) :
    masses Q K (ix4 h g i j) = Ideal.exp (scores Q K (ix4 h g i j) - rowMax Q K (ix3 h g i)) := by
  unfold masses
  generalize scores Q K = s
  generalize rowMax Q K = r
  pointwise [column]

theorem totals_raw (h : Fin 4) (g : Fin 3) (i : Fin 4096) : totals Q K (ix3 h g i) = ∑ j, masses Q K (ix4 h g i j) := by
  unfold totals
  generalize masses Q K = s
  pointwise

theorem drop_lane (x : FVec Ideal S4x3x4096x1 .f32) (h : Fin 4) (g : Fin 3) (i : Fin 4096) :
    shapeCast S4x3x4096 x shapeCasts_S4x3x4096x1_S4x3x4096 (ix3 h g i) = x (ix4 h g i 0) := by
  pointwise

theorem column_raw (x : FVec Ideal S4x3x4096 .f32) (h : Fin 4) (g : Fin 3) (i : Fin 4096) : column x (ix4 h g i 0) = x (ix3 h g i) := by
  pointwise [column]

/-- A constant's logarithm, read off whichever constant. -/
theorem log_constant (y : FVec Ideal S_ .f32) (i : S_.Idx) : Host.log y i = Ideal.log (y i) := rfl

theorem quotient_raw (a b : FVec Ideal S4x3x4096x1 .f32) (y : FVec Ideal S_ .f32) (h : Fin 4) (g : Fin 3) (i : Fin 4096) :
    Host.divf (addf a (Host.log b)) (broadcastInDim S4x3x4096x1 ![] bcast_S_S4x3x4096x1 y) (ix4 h g i 0)
      = Ideal.div (a (ix4 h g i 0) + Ideal.log (b (ix4 h g i 0))) (y default) := by
  pointwise
  exact congrArg _ (congrArg y (Subsingleton.elim _ _))

theorem logTwo_raw (i : S_.Idx) : logTwo i = Ideal.log (Ideal.ofBits .f32 0x40000000#32) := by
  unfold logTwo
  rw [log_constant]
  exact congrArg Ideal.log (constant_apply _ _ _ i)

theorem logSums_raw (h : Fin 4) (g : Fin 3) (i : Fin 4096) :
    logSums Q K (ix3 h g i) = Ideal.div (rowMax Q K (ix3 h g i) + Ideal.log (totals Q K (ix3 h g i))) (Ideal.log (Ideal.ofBits .f32 0x40000000#32)) := by
  rw [logSums, drop_lane, quotient_raw, column_raw, column_raw, logTwo_raw]

theorem outputs_raw (h : Fin 4) (g : Fin 3) (i : Fin 4096) (x : Fin 128) :
    outputs Q K W (ix4 h g i x) = ∑ j, Ideal.div (masses Q K (ix4 h g i j)) (totals Q K (ix3 h g i)) * W (ix2 j (kcol h x)) := by
  unfold outputs
  generalize masses Q K = s
  generalize totals Q K = r
  pointwise [column]
  rfl

theorem cotangents_raw (h : Fin 4) (g : Fin 3) (i : Fin 4096) (x : Fin 128) : cotangents D (ix4 h g i x) = D (ix2 i (dcol h g x)) := by
  pointwise [cotangents]
  rfl

theorem deltas_raw (h : Fin 4) (g : Fin 3) (i : Fin 4096) :
    deltas Q K W D (ix3 h g i) = ∑ x, outputs Q K W (ix4 h g i x) * cotangents D (ix4 h g i x) := by
  unfold deltas
  generalize outputs Q K W = s
  generalize cotangents D = r
  pointwise

/-- The row of the kernel's statistics for block `b`, head `g`, row `r`. -/
theorem rowsOfBlocks_raw (x : FVec Ideal S4x3x4096 .f32) (h : Fin 4) (r : Fin 12288) (l : Fin 128) :
    rowsOfBlocks x (ix3 h r l) = x (ix3 h ⟨r.val / 512 % 3, by omega⟩ ⟨r.val / 1536 * 512 + r.val % 512, by omega⟩) := by
  pointwise [rowsOfBlocks]

theorem scaled_raw (i : Fin 4096) (n : Fin 1536) :
    scaled Q (ix2 i n) = Ideal.div (Q (ix2 i n) * Ideal.ofBits .f32 0x3DB504F3#32) (Ideal.log (Ideal.ofBits .f32 0x40000000#32)) := by
  pointwise [scaled, logTwo]

variable (A : Args Q K W D)

namespace Args
open FlashMath

theorem scores_at (h : Fin 4) (g : Fin 3) (i j : Fin 4096) :
    scores Q K (ix4 h g i j) = ((score A.q A.k scale h g i j : ℝ) : EReal) := by
  rw [scores_raw, scale_word]
  simp only [A.hq, A.hk, ← EReal.coe_mul, sum_coe]
  rfl

include A in
theorem exists_max (h : Fin 4) (g : Fin 3) (i : Fin 4096) : ∃ r : ℝ, rowMax Q K (ix3 h g i) = (r : EReal) := by
  rw [rowMax_raw, bot_word]
  simp only [scores_at A]
  exact fold_max_coe _

/-- A row's greatest score. -/
def top (h : Fin 4) (g : Fin 3) (i : Fin 4096) : ℝ := (exists_max A h g i).choose

theorem rowMax_at (h : Fin 4) (g : Fin 3) (i : Fin 4096) : rowMax Q K (ix3 h g i) = ((A.top h g i : ℝ) : EReal) :=
  (exists_max A h g i).choose_spec

theorem masses_at (h : Fin 4) (g : Fin 3) (i j : Fin 4096) :
    masses Q K (ix4 h g i j) = ((mass A.q A.k scale A.top h g i j : ℝ) : EReal) := by
  rw [masses_raw, scores_at A, A.rowMax_at, ← EReal.coe_sub, Ideal.exp_coe]
  rfl

theorem totals_at (h : Fin 4) (g : Fin 3) (i : Fin 4096) :
    totals Q K (ix3 h g i) = ((total A.q A.k scale A.top h g i : ℝ) : EReal) := by
  rw [totals_raw]
  simp only [A.masses_at, sum_coe]
  rfl

theorem logSums_at (h : Fin 4) (g : Fin 3) (i : Fin 4096) :
    logSums Q K (ix3 h g i) = (((A.top h g i + Real.log (total A.q A.k scale A.top h g i)) / Real.log 2 : ℝ) : EReal) := by
  rw [logSums_raw, A.rowMax_at, A.totals_at, two_word, log_coe' (total_pos A.q A.k scale A.top h g i), log_coe' two_pos, ← EReal.coe_add,
    div_coe' log_two_ne]

theorem deltas_at (h : Fin 4) (g : Fin 3) (i : Fin 4096) :
    deltas Q K W D (ix3 h g i) = ((delta A.q A.d A.k A.v scale A.top h g i : ℝ) : EReal) := by
  rw [deltas_raw, ← delta_eq]
  simp only [outputs_raw, cotangents_raw, A.masses_at, A.totals_at, A.hv, A.hd, div_coe' (total_pos A.q A.k scale A.top _ _ _).ne',
    ← EReal.coe_mul, sum_coe]
  rfl

theorem scaled_at (i : Fin 4096) (h : Fin 4) (g : Fin 3) (x : Fin 128) :
    scaled Q (ix2 i (qcol h g x)) = ((A.q i h g x * scale / Real.log 2 : ℝ) : EReal) := by
  rw [scaled_raw, A.hq, scale_word, two_word, log_coe' two_pos, ← EReal.coe_mul, div_coe' log_two_ne]

end Args
end Cert.Proof.FlashRows
end
-- ==== Proof.FlashPoint.lean ====
module
public import proofs.«01_k».proof.Proof.FlashFrame
public import proofs.«01_k».proof.Proof.FlashBlock
public import proofs.«01_k».proof.Proof.FlashRows
public import Idealize.ShloMosaic.Lib.Pipeline.ValueKit.Acc
public import Idealize.ShloMosaic.Lib.Pipeline.ValueKit.Geometry

/-! What the blocks of a grid point hold, over real arguments, and what the point adds to its accumulators. -/

@[expose] public section
set_option maxRecDepth 16384
noncomputable section
namespace Cert.Proof.FlashPoint
open Cert.KernelIdeal Cert.KernelIdeal.Gen
open Idealize.ShloMosaic Idealize.ShloMosaic.TcCoe Idealize.SL.Sem
open Cert.Proof.FlashFrame Cert.Proof.FlashRun Cert.Proof.FlashBlock Cert.Proof.FlashRows Cert.Proof.FlashHost Cert.Proof.FlashMath

/-- The group, the rows and the keys of a grid point. -/
def grp (t : Fin cfg0.N) : Fin 4 := ⟨t.val / 32, by have := lt_of_lt_of_eq t.isLt N_0; omega⟩
def row (t : Fin cfg0.N) (r : Fin 512) : Fin 4096 := ⟨512 * (t.val % 8) + r.val, by omega⟩
def key (t : Fin cfg0.N) (s : Fin 1024) : Fin 4096 := ⟨1024 * (t.val / 8 % 4) + s.val, by omega⟩

/-- Which block each window holds at a grid point. -/
theorem idx : ∀ t : Fin cfg0.N, win0_0.index t = ![t.val % 8, t.val / 32] ∧ win0_1.index t = ![t.val / 8 % 4, t.val / 32]
    ∧ win0_2.index t = ![t.val / 8 % 4, t.val / 32] ∧ win0_3.index t = ![t.val % 8, t.val / 32]
    ∧ win0_4.index t = ![t.val / 32, t.val % 8, 0] ∧ win0_5.index t = ![t.val / 32, t.val % 8, 0] :=
  (by decide +kernel : ∀ t : Fin grid0.N, _)

variable {m : (ℓ : Loc nD τ sig) → Buf (Elt Ideal) ℓ} {c : Dev nD}
variable (A : Args (m ((c.tc : Thread nD τ).loc main_arg0)) (m ((c.tc : Thread nD τ).loc main_arg1))
  (m ((c.tc : Thread nD τ).loc main_arg2)) (m ((c.tc : Thread nD τ).loc main_arg3))) (t : Fin cfg0.N)

theorem emb0 (r : Fin 512) (g : Fin 3) (x : Fin 128) :
    (win0_0.blk t).view.emb (ix2 r (hcol g x)) = ix2 (row t r) (qcol (grp t) g x) := by
  obtain ⟨e, -, -, -, -, -⟩ := idx t
  blk_ext [e, ix2, row, qcol, grp, hcol]
theorem emb1 (s : Fin 1024) (x : Fin 128) : (win0_1.blk t).view.emb (ix2 s x) = ix2 (key t s) (kcol (grp t) x) := by
  obtain ⟨-, e, -, -, -, -⟩ := idx t
  blk_ext [e, ix2, key, kcol, grp]
theorem emb2 (s : Fin 1024) (x : Fin 128) : (win0_2.blk t).view.emb (ix2 s x) = ix2 (key t s) (kcol (grp t) x) := by
  obtain ⟨-, -, e, -, -, -⟩ := idx t
  blk_ext [e, ix2, key, kcol, grp]
theorem emb4 (r : Fin 512) (g : Fin 3) : (win0_4.blk t).view.emb (ix3 0 (hrow g r) 0)
    = ix3 (grp t) (⟨1536 * (t.val % 8) + (512 * g.val + r.val), by omega⟩ : Fin 12288) (0 : Fin 128) := by
  obtain ⟨-, -, -, -, e, -⟩ := idx t
  blk_ext [e, ix3, grp, hrow]
theorem emb5 (r : Fin 512) (g : Fin 3) : (win0_5.blk t).view.emb (ix3 0 (hrow g r) 0)
    = ix3 (grp t) (⟨1536 * (t.val % 8) + (512 * g.val + r.val), by omega⟩ : Fin 12288) (0 : Fin 128) := by
  obtain ⟨-, -, -, -, -, e⟩ := idx t
  blk_ext [e, ix3, grp, hrow]

theorem qB_at (r : Fin 512) (g : Fin 3) (x : Fin 128) :
    qB m c t (ix2 r (hcol g x)) = ((A.q (row t r) (grp t) g x * scale / Real.log 2 : ℝ) : EReal) := by
  refine Eq.trans ?_ (A.scaled_at (row t r) (grp t) g x)
  rw [← v32_eq, ← emb0]
  rfl
theorem kB_at (s : Fin 1024) (x : Fin 128) : kB m c t (ix2 s x) = ((A.k (key t s) (grp t) x : ℝ) : EReal) := by
  refine Eq.trans ?_ (A.hk (key t s) (grp t) x)
  refine Eq.trans ?_ (congrFun (v33_eq m c) (ix2 (key t s) (kcol (grp t) x)))
  rw [← emb1]
  rfl
theorem vB_at (s : Fin 1024) (x : Fin 128) : vB m c t (ix2 s x) = ((A.v (key t s) (grp t) x : ℝ) : EReal) := by
  refine Eq.trans ?_ (A.hv (key t s) (grp t) x)
  refine Eq.trans ?_ (congrFun (v34_eq m c) (ix2 (key t s) (kcol (grp t) x)))
  rw [← emb2]
  rfl

/-- A row's place among its head's statistics. -/
theorem stat_row (z : FVec Ideal S4x3x4096 .f32) (r : Fin 512) (g : Fin 3) :
    rowsOfBlocks z (ix3 (grp t) (⟨1536 * (t.val % 8) + (512 * g.val + r.val), by omega⟩ : Fin 12288) (0 : Fin 128)) = z (ix3 (grp t) g (row t r)) := by
  rw [rowsOfBlocks_raw]
  congr 2
  · exact Fin.ext (by dsimp only; omega)
  · exact Fin.ext (by dsimp only [row]; omega)

theorem lB_at (r : Fin 512) (g : Fin 3) : lB m c t (ix3 0 (hrow g r) 0)
    = (((A.top (grp t) g (row t r) + Real.log (total A.q A.k scale A.top (grp t) g (row t r))) / Real.log 2 : ℝ) : EReal) := by
  refine Eq.trans ?_ ((stat_row t _ r g).trans (A.logSums_at (grp t) g (row t r)))
  rw [← v43_eq, ← emb4]
  rfl
theorem dB_at (r : Fin 512) (g : Fin 3) : dB m c t (ix3 0 (hrow g r) 0)
    = ((delta A.q A.d A.k A.v scale A.top (grp t) g (row t r) : ℝ) : EReal) := by
  refine Eq.trans ?_ ((stat_row t _ r g).trans (A.deltas_at (grp t) g (row t r)))
  rw [← v38_eq, ← emb5]
  rfl

theorem oB_at (r : Fin 512) (g : Fin 3) (x : Fin 128) : oB m c t (ix2 r (hcol g x)) = ((A.d (row t r) (grp t) g x : ℝ) : EReal) := by
  refine Eq.trans ?_ (A.hd (row t r) (grp t) g x)
  refine Eq.trans ?_ (congrFun (v39_eq m c) (ix2 (row t r) (dcol (grp t) g x)))
  show X0_3 m c t (ix2 r (hcol g x)) = _
  unfold X0_3 Pipeline.Window.fill
  rw [dif_pos (moved0_3 t _)]
  show V m c main_v39 _ = V m c main_v39 _
  congr 1
  obtain ⟨-, -, -, e, -, -⟩ := idx t
  blk_ext [e, ix2, row, dcol, grp, hcol]

/-! ## The point's weights and score gradients -/

theorem weight_at (g : Fin 3) (r : Fin 512) (s : Fin 1024) :
    weight (qB m c t) (kB m c t) (lB m c t) g r s = ((prob A.q A.k scale A.top (grp t) g (row t r) (key t s) : ℝ) : EReal) := by
  unfold weight
  simp only [qB_at A t, kB_at A t, lB_at A t, ← EReal.coe_mul, sum_coe, ← EReal.coe_sub]
  rw [← two_rpow]
  rfl

theorem dscore_at (g : Fin 3) (r : Fin 512) (s : Fin 1024) :
    FlashBlock.dscore (qB m c t) (oB m c t) (kB m c t) (vB m c t) (lB m c t) (dB m c t) g r s
      = ((FlashMath.dscore A.q A.d A.k A.v scale A.top (grp t) g (row t r) (key t s) : ℝ) : EReal) := by
  unfold FlashBlock.dscore
  rw [weight_at A t]
  simp only [oB_at A t, vB_at A t, dB_at A t, ← EReal.coe_mul, sum_coe, ← EReal.coe_sub]
  rfl

/-- What the point adds to the gradients of the values, keys and queries. -/
def dvTerm (s : Fin 1024) (x : Fin 128) : ℝ :=
  ∑ r, ∑ g, prob A.q A.k scale A.top (grp t) g (row t r) (key t s) * A.d (row t r) (grp t) g x
def dkTerm (s : Fin 1024) (x : Fin 128) : ℝ :=
  ∑ r, ∑ g, FlashMath.dscore A.q A.d A.k A.v scale A.top (grp t) g (row t r) (key t s) * (A.q (row t r) (grp t) g x * scale / Real.log 2)
def dqTerm (g : Fin 3) (r : Fin 512) (x : Fin 128) : ℝ :=
  ∑ s, FlashMath.dscore A.q A.d A.k A.v scale A.top (grp t) g (row t r) (key t s) * A.k (key t s) (grp t) x

theorem dvStep_at (acc : Vec Ideal S1024x128 .f32) (s : Fin 1024) (x : Fin 128) :
    dvStep m c t acc (ix2 s x) = (acc (ix2 s x) : EReal) + ((dvTerm A t s x : ℝ) : EReal) := by
  unfold dvStep
  rw [dvNew_at]
  simp only [weight_at A t, oB_at A t, ← EReal.coe_mul, sum_coe, ← EReal.coe_add]
  congr 2
  rw [← Finset.sum_add_distrib, ← Finset.sum_add_distrib]
  exact Finset.sum_congr rfl fun r _ => by rw [Fin.sum_univ_three]

theorem dkStep_at (acc : Vec Ideal S1024x128 .f32) (s : Fin 1024) (x : Fin 128) :
    dkStep m c t acc (ix2 s x) = (acc (ix2 s x) : EReal) + ((dkTerm A t s x : ℝ) : EReal) := by
  unfold dkStep
  rw [dkNew_at]
  simp only [dscore_at A t, qB_at A t, ← EReal.coe_mul, sum_coe, ← EReal.coe_add]
  congr 2
  rw [← Finset.sum_add_distrib, ← Finset.sum_add_distrib]
  exact Finset.sum_congr rfl fun r _ => by rw [Fin.sum_univ_three]

theorem dqStep_at (acc : Vec Ideal S1536x128 .f32) (g : Fin 3) (r : Fin 512) (x : Fin 128) :
    dqStep m c t acc (ix2 (hrow g r) x)
      = (if t.val / 8 % 4 = 0 then (0 : EReal) else acc (ix2 (hrow g r) x)) + ((dqTerm A t g r x : ℝ) : EReal) := by
  unfold dqStep
  rw [dqPart_at]
  simp only [dscore_at A t, kB_at A t, ← EReal.coe_mul, sum_coe, first_k t]
  rfl

end Cert.Proof.FlashPoint
end
-- ==== Proof.FlashArray.lean ====
module
public import proofs.«01_k».proof.Proof.FlashPoint

/-! The accumulators after each point as sums over the points since they were begun, and the three result arrays. -/

@[expose] public section
set_option maxRecDepth 16384
noncomputable section
namespace Cert.Proof.FlashArray
open Cert.KernelIdeal Cert.KernelIdeal.Gen
open Idealize.ShloMosaic Idealize.ShloMosaic.TcCoe Idealize.SL.Sem
open Cert.Proof.FlashFrame Cert.Proof.FlashRun Cert.Proof.FlashBlock Cert.Proof.FlashRows Cert.Proof.FlashPoint Cert.Proof.FlashMath

/-- An accumulator begun anew every `p` steps holds the sum of the terms since. -/
theorem since (p : ℕ) (hp : 0 < p) (f : ℕ → ℝ) (a : ℕ → EReal) (h0 : a 0 = (f 0 : EReal))
    (h : ∀ n, a (n + 1) = (if (n + 1) % p = 0 then 0 else a n) + (f (n + 1) : EReal)) (n : ℕ) :
    a n = ((∑ i ∈ Finset.range (n % p + 1), f (n - n % p + i) : ℝ) : EReal) := by
  induction n with
  | zero => rw [h0, Nat.zero_mod]; simp
  | succ n ih =>
    rw [h]
    by_cases e : (n + 1) % p = 0
    · rw [if_pos e, e, zero_add]; simp
    · have hm : (n + 1) % p = n % p + 1 := by
        have h1 := Nat.mod_lt n hp
        rw [Nat.add_mod] at e ⊢
        rcases Nat.lt_or_ge 1 p with h2 | h2
        · rw [Nat.mod_eq_of_lt h2] at e ⊢
          rcases Nat.lt_or_ge (n % p + 1) p with h3 | h3
          · exact Nat.mod_eq_of_lt h3
          · rw [show n % p + 1 = p by omega, Nat.mod_self] at e; exact absurd rfl e
        · obtain rfl : p = 1 := by omega
          exact absurd (Nat.mod_one _) e
      rw [if_neg e, ih, hm, Finset.sum_range_succ _ (n % p + 1), EReal.coe_add]
      have h4 := Nat.mod_le n p
      rw [show n + 1 - (n % p + 1) = n - n % p by omega, show n - n % p + (n % p + 1) = n + 1 by omega]

variable {m : (ℓ : Loc nD τ sig) → Buf (Elt Ideal) ℓ} {c : Dev nD}
variable (A : Args (m ((c.tc : Thread nD τ).loc main_arg0)) (m ((c.tc : Thread nD τ).loc main_arg1))
  (m ((c.tc : Thread nD τ).loc main_arg2)) (m ((c.tc : Thread nD τ).loc main_arg3)))

theorem pay12_at (s : Fin 1024) (x : Fin 128) : k0_pay12 (F := Ideal) (ix2 s x) = (0 : EReal) := by
  pointwise [k0_pay12]
theorem pay11_at (s : Fin 1024) (x : Fin 128) : k0_pay11 (F := Ideal) (ix2 s x) = (0 : EReal) := by
  pointwise [k0_pay11]

theorem dvAt_sum (n : ℕ) (s : Fin 1024) (x : Fin 128) :
    dvAt m c n (ix2 s x) = ((∑ i ∈ Finset.range (n % 8 + 1), dvTerm A (pt (n - n % 8 + i)) s x : ℝ) : EReal) := by
  refine since 8 (by norm_num) (fun n => dvTerm A (pt n) s x) (fun n => dvAt m c n (ix2 s x)) ?_ (fun n => ?_) n
  · exact (dvStep_at A (pt 0) _ s x).trans (by rw [pay12_at, zero_add])
  · refine (dvStep_at A (pt (n + 1)) _ s x).trans ?_
    by_cases e : (n + 1) % 8 = 0
    · rw [if_pos e, if_pos e, pay12_at]
    · rw [if_neg e, if_neg e]

theorem dkAt_sum (n : ℕ) (s : Fin 1024) (x : Fin 128) :
    dkAt m c n (ix2 s x) = ((∑ i ∈ Finset.range (n % 8 + 1), dkTerm A (pt (n - n % 8 + i)) s x : ℝ) : EReal) := by
  refine since 8 (by norm_num) (fun n => dkTerm A (pt n) s x) (fun n => dkAt m c n (ix2 s x)) ?_ (fun n => ?_) n
  · exact (dkStep_at A (pt 0) _ s x).trans (by rw [pay11_at, zero_add])
  · refine (dkStep_at A (pt (n + 1)) _ s x).trans ?_
    by_cases e : (n + 1) % 8 = 0
    · rw [if_pos e, if_pos e, pay11_at]
    · rw [if_neg e, if_neg e]

theorem dqAt_sum (q : Fin 8) (b : ℕ) (g : Fin 3) (r : Fin 512) (x : Fin 128) :
    dqAt m c q b (ix2 (hrow g r) x) = ((∑ i ∈ Finset.range (b % 4 + 1), dqTerm A (pt (8 * (b - b % 4 + i) + q.val)) g r x : ℝ) : EReal) := by
  refine since 4 (by norm_num) (fun b => dqTerm A (pt (8 * b + q.val)) g r x) (fun b => dqAt m c q b (ix2 (hrow g r) x)) ?_ (fun b => ?_) b
  · refine (dqStep_at A (pt q.val) _ g r x).trans ?_
    have h0 : (pt q.val).val / 8 % 4 = 0 := show (q.val % 128) / 8 % 4 = 0 by omega
    rw [if_pos h0, zero_add]
    simp
  · refine (dqStep_at A (pt (8 * (b + 1) + q.val)) _ g r x).trans ?_
    have hb : (pt (8 * (b + 1) + q.val)).val / 8 % 4 = (b + 1) % 4 := show (8 * (b + 1) + q.val) % 128 / 8 % 4 = (b + 1) % 4 by omega
    by_cases e : (b + 1) % 4 = 0
    · rw [if_pos (hb.trans e), if_pos e]
    · rw [if_neg (fun h => e (hb.symm.trans h)), if_neg e]

/-! ## The written blocks -/

theorem dv_block (t : Fin cfg0.N) (ht : t.val % 8 = 7) (s : Fin 1024) (x : Fin 128) :
    dvAt m c t.val (ix2 s x) = ((dvalue A.q A.d A.k scale A.top (key t s) (grp t) x : ℝ) : EReal) := by
  have hN := lt_of_lt_of_eq t.isLt N_0
  rw [dvAt_sum A, ht, Finset.sum_range, dvalue, Fin.sum_univ_tiles 8 512 rfl]
  refine congrArg _ (Finset.sum_congr rfl fun i _ => Finset.sum_congr rfl fun r _ => Finset.sum_congr rfl fun g _ => ?_)
  have hv : (pt (t.val - 7 + i.val)).val = t.val - 7 + i.val := Nat.mod_eq_of_lt (by omega)
  rw [show grp (pt (t.val - 7 + i.val)) = grp t from Fin.ext (by dsimp only [grp]; omega),
    show key (pt (t.val - 7 + i.val)) s = key t s from Fin.ext (by dsimp only [key]; omega),
    show row (pt (t.val - 7 + i.val)) r = ⟨i.val * 512 + r.val, by omega⟩ from Fin.ext (by dsimp only [row]; omega)]

theorem dk_block (t : Fin cfg0.N) (ht : t.val % 8 = 7) (s : Fin 1024) (x : Fin 128) :
    k0_pay10 (dkAt m c t.val) (ix2 s x) = ((dkey A.q A.d A.k A.v scale A.top (key t s) (grp t) x : ℝ) : EReal) := by
  have hN := lt_of_lt_of_eq t.isLt N_0
  have e : k0_pay10 (dkAt m c t.val) (ix2 s x) = (dkAt m c t.val (ix2 s x) : EReal) * ((Real.log 2 : ℝ) : EReal) := by
    generalize dkAt m c t.val = y
    rfl
  rw [e, dkAt_sum A, ht, Finset.sum_range, ← EReal.coe_mul, ← dkey_eq, Fin.sum_univ_tiles 8 512 rfl]
  refine congrArg _ (congrArg (· * _) (Finset.sum_congr rfl fun i _ => Finset.sum_congr rfl fun r _ => Finset.sum_congr rfl fun g _ => ?_))
  have hv : (pt (t.val - 7 + i.val)).val = t.val - 7 + i.val := Nat.mod_eq_of_lt (by omega)
  rw [show grp (pt (t.val - 7 + i.val)) = grp t from Fin.ext (by dsimp only [grp]; omega),
    show key (pt (t.val - 7 + i.val)) s = key t s from Fin.ext (by dsimp only [key]; omega),
    show row (pt (t.val - 7 + i.val)) r = ⟨i.val * 512 + r.val, by omega⟩ from Fin.ext (by dsimp only [row]; omega)]

/-- The written block of the query gradient: each head's rows, scaled. -/
theorem dqBlock_at (y : Vec Ideal S1536x128 .f32) (r : Fin 512) (n : Fin 384) :
    dqBlock y (ix2 r n) = (y (ix2 ⟨512 * (n.val / 128) + r.val, by omega⟩ ⟨n.val % 128, by omega⟩) : EReal) * ((scale : ℝ) : EReal) := by
  unfold dqBlock
  canon_tiles x h using heads_cover ..
  all_goals
    rw [eq_ix2 x, ← scale_word]
    pointwise [k0_pay7, k0_pay8, k0_pay9]
    dsimp [ix2] at h0 h1
    congr 3 <;> exact Fin.ext (by dsimp only; omega)

theorem dq_block (t : Fin cfg0.N) (ht : t.val / 8 % 4 = 3) (q : Fin 8) (hq : q.val = t.val % 8) (r : Fin 512) (g : Fin 3) (x : Fin 128) :
    dqBlock (dqAt m c q (t.val / 8)) (ix2 r (hcol g x))
      = ((dquery A.q A.d A.k A.v scale A.top (row t r) (grp t) g x : ℝ) : EReal) := by
  have hN := lt_of_lt_of_eq t.isLt N_0
  have e : (ix2 ⟨512 * ((hcol g x).val / 128) + r.val, by omega⟩ ⟨(hcol g x).val % 128, by omega⟩ : S1536x128.Idx) = ix2 (hrow g r) x := by
    congr 1 <;> exact Fin.ext (by dsimp only [hcol, hrow]; omega)
  rw [dqBlock_at, e, dqAt_sum A, ht, Finset.sum_range, ← EReal.coe_mul, ← dquery_eq, Fin.sum_univ_tiles 4 1024 rfl]
  refine congrArg _ (congrArg (· * _) (Finset.sum_congr rfl fun i _ => Finset.sum_congr rfl fun s _ => ?_))
  have hv : (pt (8 * (t.val / 8 - 3 + i.val) + q.val)).val = 8 * (t.val / 8 - 3 + i.val) + q.val :=
    Nat.mod_eq_of_lt (by omega)
  rw [show grp (pt (8 * (t.val / 8 - 3 + i.val) + q.val)) = grp t from Fin.ext (by dsimp only [grp]; omega),
    show row (pt (8 * (t.val / 8 - 3 + i.val) + q.val)) r = row t r from Fin.ext (by dsimp only [row]; omega),
    show key (pt (8 * (t.val / 8 - 3 + i.val) + q.val)) s = ⟨i.val * 1024 + s.val, by omega⟩ from Fin.ext (by dsimp only [key]; omega)]

/-! ## The result arrays -/

/-- The gradients laid out as the arguments are. -/
def queries : Vec Ideal S4096x1536 .f32 := fun i =>
  ((dquery A.q A.d A.k A.v scale A.top (i 0) ⟨(i 1).val / 384, by have := (i 1).isLt; simp only [S4096x1536] at this; dsimp at this; omega⟩
    ⟨(i 1).val / 128 % 3, by omega⟩ ⟨(i 1).val % 128, by omega⟩ : ℝ) : EReal)
def keys : Vec Ideal S4096x512 .f32 := fun i =>
  ((dkey A.q A.d A.k A.v scale A.top (i 0) ⟨(i 1).val / 128, by have := (i 1).isLt; simp only [S4096x512] at this; dsimp at this; omega⟩
    ⟨(i 1).val % 128, by omega⟩ : ℝ) : EReal)
def values : Vec Ideal S4096x512 .f32 := fun i =>
  ((dvalue A.q A.d A.k scale A.top (i 0) ⟨(i 1).val / 128, by have := (i 1).isLt; simp only [S4096x512] at this; dsimp at this; omega⟩
    ⟨(i 1).val % 128, by omega⟩ : ℝ) : EReal)

theorem out_idx : ∀ t : Fin cfg0.N, (t.val / 8 % 4 = 3 → win0_6.index t = ![t.val % 8, t.val / 32])
    ∧ win0_7.index t = ![t.val / 8 % 4, t.val / 32] ∧ win0_8.index t = ![t.val / 8 % 4, t.val / 32] :=
  (by decide +kernel : ∀ t : Fin grid0.N, _)

theorem emb6 (t : Fin cfg0.N) (ht : t.val / 8 % 4 = 3) (r : Fin 512) (g : Fin 3) (x : Fin 128) :
    (win0_6.blk t).view.emb (ix2 r (hcol g x)) = ix2 (row t r) (qcol (grp t) g x) := by
  have e := (out_idx t).1 ht
  blk_ext [e, ix2, row, qcol, grp, hcol]
theorem emb7 (t : Fin cfg0.N) (s : Fin 1024) (x : Fin 128) : (win0_7.blk t).view.emb (ix2 s x) = ix2 (key t s) (kcol (grp t) x) := by
  obtain ⟨-, e, -⟩ := out_idx t
  blk_ext [e, ix2, key, kcol, grp]
theorem emb8 (t : Fin cfg0.N) (s : Fin 1024) (x : Fin 128) : (win0_8.blk t).view.emb (ix2 s x) = ix2 (key t s) (kcol (grp t) x) := by
  obtain ⟨-, -, e⟩ := out_idx t
  blk_ext [e, ix2, key, kcol, grp]

theorem queries_at (i : Fin 4096) (h : Fin 4) (g : Fin 3) (x : Fin 128) :
    queries A (ix2 i (qcol h g x)) = ((dquery A.q A.d A.k A.v scale A.top i h g x : ℝ) : EReal) := by
  unfold queries
  refine congrArg _ (congr (congr (congr (congrArg _ rfl) ?_) ?_) ?_) <;> exact Fin.ext (by dsimp only [ix2, qcol]; omega)
theorem keys_at (j : Fin 4096) (h : Fin 4) (x : Fin 128) :
    keys A (ix2 j (kcol h x)) = ((dkey A.q A.d A.k A.v scale A.top j h x : ℝ) : EReal) := by
  unfold keys
  refine congrArg _ (congr (congr (congrArg _ rfl) ?_) ?_) <;> exact Fin.ext (by dsimp only [ix2, kcol]; omega)
theorem values_at (j : Fin 4096) (h : Fin 4) (x : Fin 128) :
    values A (ix2 j (kcol h x)) = ((dvalue A.q A.d A.k scale A.top j h x : ℝ) : EReal) := by
  unfold values
  refine congrArg _ (congr (congr (congrArg _ rfl) ?_) ?_) <;> exact Fin.ext (by dsimp only [ix2, kcol]; omega)

theorem queries_final : (dats m 0 c).arrAt 6 cfg0.N = queries A := by
  refine (dats m 0 c).arrAt_eq_of_covers 6 _ (by decide +kernel) fun t hf y => ?_
  have ht := (flush_dq t).mp hf
  have hy : y = (ix2 (y 0) (hcol ⟨(y 1).val / 128, by have := (y 1).isLt; dsimp at this; omega⟩ ⟨(y 1).val % 128, by omega⟩) : S512x384.Idx) := by
    refine (eq_ix2 y).trans ?_
    congr 1
    exact Fin.ext (by dsimp only [hcol]; omega)
  rw [hy]
  refine ((congrFun (after6 m c t) _).trans (dq_block A t ht (grid0.coords t 2) (qi_eq t) _ _ _)).trans ?_
  refine (queries_at A _ _ _ _).symm.trans ?_
  exact congrArg (queries A) (emb6 t ht (y 0) _ _).symm

theorem keys_final : (dats m 0 c).arrAt 7 cfg0.N = keys A := by
  refine (dats m 0 c).arrAt_eq_of_covers 7 _ (by decide +kernel) fun t hf y => ?_
  have ht := (flush0_7 t).mp hf
  rw [eq_ix2 y]
  refine ((congrFun (after7 m c t) _).trans (dk_block A t ht _ _)).trans ?_
  refine (keys_at A _ _ _).symm.trans ?_
  exact congrArg (keys A) (emb7 t (y 0) (y 1)).symm

theorem values_final : (dats m 0 c).arrAt 8 cfg0.N = values A := by
  refine (dats m 0 c).arrAt_eq_of_covers 8 _ (by decide +kernel) fun t hf y => ?_
  have ht := (flush0_8 t).mp hf
  rw [eq_ix2 y]
  refine ((congrFun (after8 m c t) _).trans (dv_block A t ht _ _)).trans ?_
  refine (values_at A _ _ _).symm.trans ?_
  exact congrArg (values A) (emb8 t (y 0) (y 1)).symm

end Cert.Proof.FlashArray
end
-- ==== Proof.FlashReference.lean ====
module
public import proofs.«01_k».proof.Proof.FlashRows
public import proofs.«01_k».proof.Proof.Gen.ReferenceIdeal.Read

/-! The plain gradient of attention, read array by array over real arguments: its three results are the gradients of the mathematics. -/

@[expose] public section
set_option maxRecDepth 16384
noncomputable section
namespace Cert.Proof.FlashReference
open Cert.ReferenceIdeal Cert.ReferenceIdeal.Read
open Idealize.ShloMosaic Idealize.ShloMosaic.TcCoe Idealize.SL.Sem
open Cert.Proof.FlashRows Cert.Proof.FlashHost Cert.Proof.FlashMath

variable {Q : FVec Ideal S4096x1536 .f32} {K W : FVec Ideal S4096x512 .f32} {D : FVec Ideal S4096x2048 .f32}

/-! ## The arrays in terms of the ones before -/

theorem v6_eq : val_main_v6 (F := Ideal) Q K = scores Q K := rfl
theorem v7_eq : val_main_v7 (F := Ideal) Q K = rowMax Q K := rfl

theorem v13_raw (i : S4x3x4096.Idx) : val_main_v13 (F := Ideal) i = Ideal.ofBits .f32 0xFF800000#32 := by
  unfold val_main_v13 val_main_cst_2
  pointwise

theorem v27_raw (h : Fin 4) (g : Fin 3) (i j : Fin 4096) : val_main_v27 (F := Ideal) Q K (ix4 h g i j)
    = Ideal.exp (val_main_v6 (F := Ideal) Q K (ix4 h g i j) - val_main_v14 (F := Ideal) Q K (ix3 h g i)) := by
  unfold val_main_v27 val_main_v26 val_main_v25 val_main_v24
  generalize val_main_v6 (F := Ideal) Q K = s
  generalize val_main_v14 (F := Ideal) Q K = r
  pointwise

theorem v28_raw (h : Fin 4) (g : Fin 3) (i : Fin 4096) : val_main_v28 (F := Ideal) Q K (ix3 h g i)
    = ∑ j, val_main_v27 (F := Ideal) Q K (ix4 h g i j) := by
  unfold val_main_v28 val_main_cst_8
  generalize val_main_v27 (F := Ideal) Q K = s
  pointwise

theorem v31_raw (h : Fin 4) (g : Fin 3) (i j : Fin 4096) : val_main_v31 (F := Ideal) Q K (ix4 h g i j)
    = Ideal.div (val_main_v27 (F := Ideal) Q K (ix4 h g i j)) (val_main_v28 (F := Ideal) Q K (ix3 h g i)) := by
  unfold val_main_v31 val_main_v30 val_main_v29
  generalize val_main_v27 (F := Ideal) Q K = s
  generalize val_main_v28 (F := Ideal) Q K = r
  pointwise

theorem v40_raw (i : Fin 4096) (h : Fin 4) (g : Fin 3) (x : Fin 128) : val_main_v40 (F := Ideal) D (ix4 h x g i) = D (ix2 i (dcol h g x)) := by
  unfold val_main_v40 val_main_v39 val_main_v38
  pointwise
  rfl

theorem v41_raw (h : Fin 4) (g : Fin 3) (i j : Fin 4096) : val_main_v41 (F := Ideal) W D (ix4 h g i j)
    = ∑ x, val_main_v40 (F := Ideal) D (ix4 h x g i) * W (ix2 j (kcol h x)) := by
  unfold val_main_v41 val_main_v2
  generalize val_main_v40 (F := Ideal) D = s
  pointwise
  rfl

theorem v46_raw (h : Fin 4) (g : Fin 3) (i j : Fin 4096) : val_main_v46 (F := Ideal) Q K W D (ix4 h g i j)
    = val_main_v41 (F := Ideal) W D (ix4 h g i j)
      * Ideal.div 1 (val_main_v28 (F := Ideal) Q K (ix3 h g i) * val_main_v28 (F := Ideal) Q K (ix3 h g i)) * val_main_v27 (F := Ideal) Q K (ix4 h g i j) := by
  unfold val_main_v46 val_main_v45 val_main_v44 val_main_v34 val_main_v33 val_main_v32 val_main_v29 val_main_cst_9
  generalize val_main_v27 (F := Ideal) Q K = s
  generalize val_main_v28 (F := Ideal) Q K = r
  generalize val_main_v41 (F := Ideal) W D = u
  pointwise

theorem v49_raw (h : Fin 4) (g : Fin 3) (i : Fin 4096) : val_main_v49 (F := Ideal) Q K W D (ix4 h g i 0)
    = -∑ j, val_main_v46 (F := Ideal) Q K W D (ix4 h g i j) := by
  unfold val_main_v49 val_main_v48 val_main_v47 val_main_cst_10
  generalize val_main_v46 (F := Ideal) Q K W D = s
  pointwise

theorem v55_raw (h : Fin 4) (g : Fin 3) (i j : Fin 4096) : val_main_v55 (F := Ideal) Q K W D (ix4 h g i j)
    = (Ideal.div (val_main_v41 (F := Ideal) W D (ix4 h g i j)) (val_main_v28 (F := Ideal) Q K (ix3 h g i))
        + val_main_v49 (F := Ideal) Q K W D (ix4 h g i 0)) * val_main_v27 (F := Ideal) Q K (ix4 h g i j) := by
  unfold val_main_v55 val_main_v54 val_main_v53 val_main_v52 val_main_v51 val_main_v50 val_main_v29 val_main_cst_11
  generalize val_main_v27 (F := Ideal) Q K = s
  generalize val_main_v28 (F := Ideal) Q K = r
  generalize val_main_v41 (F := Ideal) W D = u
  generalize val_main_v49 (F := Ideal) Q K W D = y
  pointwise
  rw [Fin.sum_univ_one]

theorem v58_raw (h : Fin 4) (g : Fin 3) (i j : Fin 4096) : val_main_v58 (F := Ideal) Q K W D (ix4 h j i g)
    = val_main_v55 (F := Ideal) Q K W D (ix4 h g i j) * Ideal.ofBits .f32 0x3DB504F3#32 := by
  unfold val_main_v58 val_main_v57 val_main_v56 val_main_cst_12
  generalize val_main_v55 (F := Ideal) Q K W D = y
  pointwise

theorem v65_raw (i : Fin 4096) (h : Fin 4) (g : Fin 3) (x : Fin 128) : val_main_v65 (F := Ideal) Q K W D (ix2 i (qcol h g x))
    = ∑ j, val_main_v58 (F := Ideal) Q K W D (ix4 h j i g) * K (ix2 j (kcol h x)) := by
  have e : val_main_v60 (F := Ideal) Q K W D (ix4 i h g x) = ∑ j, val_main_v58 (F := Ideal) Q K W D (ix4 h j i g) * K (ix2 j (kcol h x)) := by
    unfold val_main_v60 val_main_v59 val_main_v1
    generalize val_main_v58 (F := Ideal) Q K W D = y
    pointwise
    rfl
  rw [← e]
  unfold val_main_v65
  generalize val_main_v60 (F := Ideal) Q K W D = y
  pointwise
  refine congrArg y ?_
  congr 1 <;> exact Fin.ext (by dsimp only [qcol]; omega)

theorem v64_raw (j : Fin 4096) (h : Fin 4) (x : Fin 128) : val_main_v64 (F := Ideal) Q K W D (ix2 j (kcol h x))
    = ∑ i, ∑ g, val_main_v58 (F := Ideal) Q K W D (ix4 h j i g) * Q (ix2 i (qcol h g x)) := by
  have e : val_main_v62 (F := Ideal) Q K W D (ix3 j h x) = ∑ i, ∑ g, val_main_v58 (F := Ideal) Q K W D (ix4 h j i g) * Q (ix2 i (qcol h g x)) := by
    unfold val_main_v62 val_main_v61 val_main_v0
    generalize val_main_v58 (F := Ideal) Q K W D = y
    pointwise
    rfl
  rw [← e]
  unfold val_main_v64
  generalize val_main_v62 (F := Ideal) Q K W D = y
  pointwise
  refine congrArg y ?_
  congr 1 <;> exact Fin.ext (by dsimp only [kcol]; omega)

theorem v63_raw (j : Fin 4096) (h : Fin 4) (x : Fin 128) : val_main_v63 (F := Ideal) Q K D (ix2 j (kcol h x))
    = ∑ i, ∑ g, val_main_v40 (F := Ideal) D (ix4 h x g i) * val_main_v31 (F := Ideal) Q K (ix4 h g i j) := by
  have e : val_main_v43 (F := Ideal) Q K D (ix3 j h x) = ∑ i, ∑ g, val_main_v40 (F := Ideal) D (ix4 h x g i) * val_main_v31 (F := Ideal) Q K (ix4 h g i j) := by
    unfold val_main_v43 val_main_v42
    generalize val_main_v40 (F := Ideal) D = y
    generalize val_main_v31 (F := Ideal) Q K = z
    pointwise
    exact Finset.sum_comm
  rw [← e]
  unfold val_main_v63
  generalize val_main_v43 (F := Ideal) Q K D = y
  pointwise
  refine congrArg y ?_
  congr 1 <;> exact Fin.ext (by dsimp only [kcol]; omega)

/-! ## Over real arguments -/

variable (A : Args Q K W D)
include A

theorem mass_at (h : Fin 4) (g : Fin 3) (i j : Fin 4096) : val_main_v27 (F := Ideal) Q K (ix4 h g i j)
    = ((mass A.q A.k scale A.top h g i j : ℝ) : EReal) := by
  rw [v27_raw, v6_eq, A.scores_at, val_main_v14_apply, v13_raw, bot_word, v7_eq, A.rowMax_at,
    show FloatOps.maximumf (F := Ideal) (φ := .f32) (⊥ : EReal) ((A.top h g i : ℝ) : EReal) = ((A.top h g i : ℝ) : EReal) from max_eq_right bot_le,
    ← EReal.coe_sub, Ideal.exp_coe]
  rfl

theorem total_at (h : Fin 4) (g : Fin 3) (i : Fin 4096) : val_main_v28 (F := Ideal) Q K (ix3 h g i)
    = ((total A.q A.k scale A.top h g i : ℝ) : EReal) := by
  rw [v28_raw]
  simp only [mass_at A, sum_coe]
  rfl

theorem prob_at (h : Fin 4) (g : Fin 3) (i j : Fin 4096) : val_main_v31 (F := Ideal) Q K (ix4 h g i j)
    = ((prob A.q A.k scale A.top h g i j : ℝ) : EReal) := by
  rw [v31_raw, mass_at A, total_at A, div_coe' (total_pos A.q A.k scale A.top h g i).ne']
  rfl

theorem dprob_at (h : Fin 4) (g : Fin 3) (i j : Fin 4096) : val_main_v41 (F := Ideal) W D (ix4 h g i j)
    = ((dprob A.d A.v h g i j : ℝ) : EReal) := by
  rw [v41_raw]
  simp only [v40_raw, A.hd, A.hv, ← EReal.coe_mul, sum_coe]
  rfl

theorem dscore_at (h : Fin 4) (g : Fin 3) (i j : Fin 4096) : val_main_v55 (F := Ideal) Q K W D (ix4 h g i j)
    = ((dscore A.q A.d A.k A.v scale A.top h g i j : ℝ) : EReal) := by
  have ht := (total_pos A.q A.k scale A.top h g i).ne'
  rw [v55_raw, v49_raw, ← dscore_eq]
  simp only [v46_raw, mass_at A, total_at A, dprob_at A, ← EReal.coe_mul, ← EReal.coe_one, div_coe' (mul_ne_zero ht ht), div_coe' ht,
    sum_coe, ← EReal.coe_neg, ← EReal.coe_add]

theorem queries_at (i : Fin 4096) (h : Fin 4) (g : Fin 3) (x : Fin 128) : val_main_v65 (F := Ideal) Q K W D (ix2 i (qcol h g x))
    = ((dquery A.q A.d A.k A.v scale A.top i h g x : ℝ) : EReal) := by
  rw [v65_raw]
  simp only [v58_raw, dscore_at A, scale_word, A.hk, ← EReal.coe_mul, sum_coe]
  rfl

theorem keys_at (j : Fin 4096) (h : Fin 4) (x : Fin 128) : val_main_v64 (F := Ideal) Q K W D (ix2 j (kcol h x))
    = ((dkey A.q A.d A.k A.v scale A.top j h x : ℝ) : EReal) := by
  rw [v64_raw]
  simp only [v58_raw, dscore_at A, scale_word, A.hq, ← EReal.coe_mul, sum_coe]
  rfl

theorem values_at (j : Fin 4096) (h : Fin 4) (x : Fin 128) : val_main_v63 (F := Ideal) Q K D (ix2 j (kcol h x))
    = ((dvalue A.q A.d A.k scale A.top j h x : ℝ) : EReal) := by
  rw [v63_raw]
  simp only [v40_raw, prob_at A, A.hd, ← EReal.coe_mul, sum_coe]
  unfold dvalue
  simp only [mul_comm]

end Cert.Proof.FlashReference
end
-- ==== Proof.FlashClaims.lean ====
module
public import proofs.«01_k».proof.Defs
public import proofs.«01_k».proof.Proof.Finite
public import proofs.«01_k».proof.Proof.FlashBits
public import proofs.«01_k».proof.Proof.FlashArray
public import proofs.«01_k».proof.Proof.FlashReference
public import proofs.«01_k».proof.Proof.Gen.ReferenceIdeal.Run
public import proofs.«01_k».proof.Proof.Gen.Pre_finite
public import Idealize.ShloMosaic.Lib.Quiescent

/-! The claims about attention's gradient: the kernel and its plain reference run, keep their arguments and leave every counter
    at zero; over the extended reals, from finite arguments, the two leave the same arrays. -/

@[expose] public section
noncomputable section
namespace Cert.Proof.FlashClaims
open Idealize.ShloMosaic Idealize.ShloMosaic.TcCoe Idealize.SL.Sem
open Cert.Proof.FlashRows

theorem frame : Cert.quiescent_Kernel := fun m ρ _ => FlashBits.frame m ρ
theorem frame_ideal : Cert.quiescent_KernelIdeal := fun m ρ _ => FlashFrame.frame m ρ
theorem frame_ideal_finite : Cert.quiescent_KernelIdeal_pre_finite := fun m ρ _ => FlashFrame.frame m ρ

theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)
theorem frame_reference_finite : Cert.quiescent_ReferenceIdeal_pre_finite := fun m ρ _ => frame_reference m ρ trivial

theorem preserves : Cert.preserves_Kernel_KernelIdeal :=
  IdealRules.named_const.statement Cert.KernelIdeal.κ "ln2" .f32 0x3F317218#32 ((Real.log 2 : ℝ) : EReal) rfl

/-- Finite arguments are real arrays. -/
def args {Q : FVec Ideal KernelIdeal.S4096x1536 .f32} {K W : FVec Ideal KernelIdeal.S4096x512 .f32} {D : FVec Ideal KernelIdeal.S4096x2048 .f32}
    (hQ : ∀ i, ∃ r : ℝ, Q i = (r : EReal)) (hK : ∀ i, ∃ r : ℝ, K i = (r : EReal)) (hW : ∀ i, ∃ r : ℝ, W i = (r : EReal))
    (hD : ∀ i, ∃ r : ℝ, D i = (r : EReal)) : Args Q K W D where
  q i h g x := (hQ (ix2 i (qcol h g x))).choose
  d i h g x := (hD (ix2 i (dcol h g x))).choose
  k j h x := (hK (ix2 j (kcol h x))).choose
  v j h x := (hW (ix2 j (kcol h x))).choose
  hq i h g x := (hQ (ix2 i (qcol h g x))).choose_spec
  hk j h x := (hK (ix2 j (kcol h x))).choose_spec
  hv j h x := (hW (ix2 j (kcol h x))).choose_spec
  hd i h g x := (hD (ix2 i (dcol h g x))).choose_spec

theorem real_of_pre {m} (h : Cert.Pre_KernelIdeal_finite m) (c : Dev Cert.KernelIdeal.nD) :
    Nonempty (Args (m (c.tc.loc Cert.KernelIdeal.main_arg0)) (m (c.tc.loc Cert.KernelIdeal.main_arg1))
      (m (c.tc.loc Cert.KernelIdeal.main_arg2)) (m (c.tc.loc Cert.KernelIdeal.main_arg3))) :=
  ⟨args (fun i => Finite.exists_real _ (congrFun (h c).1 i)) (fun i => Finite.exists_real _ (congrFun (h c).2.1 i))
    (fun i => Finite.exists_real _ (congrFun (h c).2.2.1 i)) (fun i => Finite.exists_real _ (congrFun (h c).2.2.2 i))⟩

/-- Every place of a result is some head's. -/
theorem query_place (i : KernelIdeal.S4096x1536.Idx) : ∃ r h g x, i = ix2 r (qcol h g x) := by
  have hi : (i 1).val < 1536 := (i 1).isLt
  refine ⟨i 0, ⟨(i 1).val / 384, by omega⟩, ⟨(i 1).val / 128 % 3, by omega⟩, ⟨(i 1).val % 128, by omega⟩, (eq_ix2 i).trans ?_⟩
  congr 1
  exact Fin.ext (by dsimp only [qcol]; omega)
theorem key_place (i : KernelIdeal.S4096x512.Idx) : ∃ r h x, i = ix2 r (kcol h x) := by
  have hi : (i 1).val < 512 := (i 1).isLt
  refine ⟨i 0, ⟨(i 1).val / 128, by omega⟩, ⟨(i 1).val % 128, by omega⟩, (eq_ix2 i).trans ?_⟩
  congr 1
  exact Fin.ext (by dsimp only [kcol]; omega)

section results
variable {m : (ℓ : Loc KernelIdeal.nD KernelIdeal.τ KernelIdeal.sig) → Buf (Elt Ideal) ℓ} {c : Dev KernelIdeal.nD}
variable (A : Args (m (c.tc.loc Cert.KernelIdeal.main_arg0)) (m (c.tc.loc Cert.KernelIdeal.main_arg1))
      (m (c.tc.loc Cert.KernelIdeal.main_arg2)) (m (c.tc.loc Cert.KernelIdeal.main_arg3)))
include A

theorem queries_eq : ReferenceIdeal.Read.val_main_v65 (F := Ideal) (m (c.tc.loc Cert.KernelIdeal.main_arg0)) (m (c.tc.loc Cert.KernelIdeal.main_arg1))
    (m (c.tc.loc Cert.KernelIdeal.main_arg2)) (m (c.tc.loc Cert.KernelIdeal.main_arg3)) = (FlashFrame.dats m 0 c).arrAt 6 KernelIdeal.cfg0.N := by
  rw [FlashArray.queries_final A]
  funext i
  obtain ⟨r, h, g, x, rfl⟩ := query_place i
  exact (FlashReference.queries_at A r h g x).trans (FlashArray.queries_at A r h g x).symm
theorem keys_eq : ReferenceIdeal.Read.val_main_v64 (F := Ideal) (m (c.tc.loc Cert.KernelIdeal.main_arg0)) (m (c.tc.loc Cert.KernelIdeal.main_arg1))
    (m (c.tc.loc Cert.KernelIdeal.main_arg2)) (m (c.tc.loc Cert.KernelIdeal.main_arg3)) = (FlashFrame.dats m 0 c).arrAt 7 KernelIdeal.cfg0.N := by
  rw [FlashArray.keys_final A]
  funext i
  obtain ⟨r, h, x, rfl⟩ := key_place i
  exact (FlashReference.keys_at A r h x).trans (FlashArray.keys_at A r h x).symm
theorem values_eq : ReferenceIdeal.Read.val_main_v63 (F := Ideal) (m (c.tc.loc Cert.KernelIdeal.main_arg0)) (m (c.tc.loc Cert.KernelIdeal.main_arg1))
    (m (c.tc.loc Cert.KernelIdeal.main_arg3)) = (FlashFrame.dats m 0 c).arrAt 8 KernelIdeal.cfg0.N := by
  rw [FlashArray.values_final A]
  funext i
  obtain ⟨r, h, x, rfl⟩ := key_place i
  exact (FlashReference.values_at A r h x).trans (FlashArray.values_at A r h x).symm
end results

/-- The kernel's run: the three results are the arrays its grid leaves, the arguments unchanged. -/
theorem run (m : (ℓ : Loc KernelIdeal.nD KernelIdeal.τ KernelIdeal.sig) → Buf (Elt Ideal) ℓ) (ρ : Dev KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread KernelIdeal.nD KernelIdeal.τ).loc Cert.KernelIdeal.main_v44_0) = (FlashFrame.dats m 0 c).arrAt 6 KernelIdeal.cfg0.N
        ∧ r.2.mem ((c.tc : Thread KernelIdeal.nD KernelIdeal.τ).loc Cert.KernelIdeal.main_v44_1) = (FlashFrame.dats m 0 c).arrAt 7 KernelIdeal.cfg0.N
        ∧ r.2.mem ((c.tc : Thread KernelIdeal.nD KernelIdeal.τ).loc Cert.KernelIdeal.main_v44_2) = (FlashFrame.dats m 0 c).arrAt 8 KernelIdeal.cfg0.N
        ∧ r.2.mem ((c.tc : Thread KernelIdeal.nD KernelIdeal.τ).loc Cert.KernelIdeal.main_arg0) = m ((c.tc : Thread KernelIdeal.nD KernelIdeal.τ).loc Cert.KernelIdeal.main_arg0)
        ∧ r.2.mem ((c.tc : Thread KernelIdeal.nD KernelIdeal.τ).loc Cert.KernelIdeal.main_arg1) = m ((c.tc : Thread KernelIdeal.nD KernelIdeal.τ).loc Cert.KernelIdeal.main_arg1)
        ∧ r.2.mem ((c.tc : Thread KernelIdeal.nD KernelIdeal.τ).loc Cert.KernelIdeal.main_arg2) = m ((c.tc : Thread KernelIdeal.nD KernelIdeal.τ).loc Cert.KernelIdeal.main_arg2)
        ∧ r.2.mem ((c.tc : Thread KernelIdeal.nD KernelIdeal.τ).loc Cert.KernelIdeal.main_arg3) = m ((c.tc : Thread KernelIdeal.nD KernelIdeal.τ).loc Cert.KernelIdeal.main_arg3)) :=
  (θ_run Cert.KernelIdeal.defs _ _).mono (fun _ h c => ⟨(h.1 c).1 6, (h.1 c).1 7, (h.1 c).1 8, h.2.1 c⟩)
    (θ_run_and (FlashFrame.run_main m ρ) (FlashFrame.frame m ρ))

theorem algebraic : Cert.algebraic_KernelIdeal_ReferenceIdeal_pre_finite := by
  intro m ρ m' ρ' hpre hagree
  refine ⟨_, _, _, run m ρ,
    (θ_run Cert.ReferenceIdeal.defs _ _).mono (fun r h c => ⟨(h c).1.trans ?_, (h c).2.1.trans ?_, (h c).2.2.1.trans ?_, (h c).2.2.2⟩)
      (Cert.ReferenceIdeal.Value.run (F := Ideal) m' ρ')⟩
  · obtain ⟨h0, h1, h2, h3⟩ := hagree c
    obtain ⟨A⟩ := real_of_pre hpre c
    refine (Cert.ReferenceIdeal.Read.val_main_v65_eq _ _).trans ?_
    rw [h0, h1, h2, h3]
    exact queries_eq A
  · obtain ⟨h0, h1, h2, h3⟩ := hagree c
    obtain ⟨A⟩ := real_of_pre hpre c
    refine (Cert.ReferenceIdeal.Read.val_main_v64_eq _ _).trans ?_
    rw [h0, h1, h2, h3]
    exact keys_eq A
  · obtain ⟨h0, h1, h2, h3⟩ := hagree c
    obtain ⟨A⟩ := real_of_pre hpre c
    refine (Cert.ReferenceIdeal.Read.val_main_v63_eq (m' (c.tc.loc ReferenceIdeal.main_arg0)) (m' (c.tc.loc ReferenceIdeal.main_arg1))
      (m' (c.tc.loc ReferenceIdeal.main_arg3))).trans ?_
    rw [h0, h1, h3]
    exact values_eq A

end Cert.Proof.FlashClaims
-- ==== Proof.BranchMath.lean ====
/-
  THE TWO BRANCHES' GRADIENTS SIDE BY SIDE: the cotangent of `h @ w_gate_up` before it is split in two halves of columns.
-/
module

public import Idealize.ShloMosaic.PureOps
public import Idealize.ShloMosaic.Lib.Pointwise

@[expose] public section

noncomputable section

namespace Cert.Proof.Branch

open Idealize.ShloMosaic

/-- The gate's columns and then the other branch's. -/
def both (g u : Vec Ideal ⟨2, ![4096, 5632]⟩ .bf16) (r : Fin 4096) (l : Fin 11264) : EReal :=
  if h : l.val < 5632 then g (ix2 r ⟨l.val, h⟩) else u (ix2 r ⟨l.val - 5632, by omega⟩)

theorem both_left (g u : Vec Ideal ⟨2, ![4096, 5632]⟩ .bf16) (r : Fin 4096) (l : Fin 11264) (k : Fin 5632) (h : l.val = k.val) :
    both g u r l = g (ix2 r k) := by
  refine (dif_pos (h ▸ k.isLt)).trans (congrArg (fun k => g (ix2 r k)) ?_)
  exact Fin.ext h

theorem both_right (g u : Vec Ideal ⟨2, ![4096, 5632]⟩ .bf16) (r : Fin 4096) (l : Fin 11264) (k : Fin 5632)
    (h : l.val = 5632 + k.val) : both g u r l = u (ix2 r k) := by
  refine (dif_neg (by omega)).trans (congrArg (fun k => u (ix2 r k)) ?_)
  exact Fin.ext (by dsimp only; omega)

end Cert.Proof.Branch
-- ==== Proof.JoinArray.lean ====
/-
  THE GRADIENT OF THE JOINED GATE AND UP WEIGHT. The result lies in eight shards of 1408 columns. A block is accumulated
  over two grid points; each takes 2048 rows of the input and of one of the two branches' gradients. Summed up and with the
  shards put side by side, the result array is the plain product over all 4096 rows.
-/
module

public import proofs.«01_k».proof.Proof.BranchMath
public import proofs.«01_k».proof.Proof.Gen.Kernel3Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Claim
public import Idealize.ShloMosaic.Lib.StableHlo.RunRead

@[expose] public section

set_option maxRecDepth 16384

noncomputable section

namespace Cert.Kernel3Ideal.Array

open Idealize.ShloMosaic Idealize.ShloMosaic.TcCoe Idealize.SL.Sem Cert.Kernel3Ideal Cert.Kernel3Ideal.Gen Cert.Proof.Branch

/-! ## One grid point -/

/-- Of the two branches' blocks the first four shards take the first and the others the second. -/
theorem pick (n : Fin 8) {α : Type} (a b : α) :
    Scalar.select (Scalar.cmpi .sge (BitVec.ofNat 32 n.val) 4#32) a b = if 4 ≤ n.val then a else b := by
  fin_cases n <;> rfl

/-- The part of a block that 2048 rows give. -/
def rows (h : Vec Ideal S2048x1024 .bf16) (s : Vec Ideal S2048x1408 .bf16) : FVec Ideal S1024x1408 .f32 :=
  matmul (φ₁ := .bf16) (φ₂ := .bf16) dot_S2048x1024_S2048x1408_S1024x1408_0_0_1_1_n_n none h s (constant S1024x1408 .f32 0x00000000#32)

theorem rows_at (h : Vec Ideal S2048x1024 .bf16) (s : Vec Ideal S2048x1408 .bf16) (n : Fin 1024) (q : Fin 1408) :
    rows h s (ix2 n q) = (∑ k : Fin 2048, (h (ix2 k n) : EReal) * s (ix2 k q) : EReal) := by
  pointwise [rows]

theorem pay1_eq (i : grid0.Coords) (h : Vec Ideal S2048x1024 .bf16) (g u : Vec Ideal S2048x1408 .bf16) :
    k0_pay1 (F := Ideal) i h g u = rows h (if 4 ≤ (i 1).val then u else g) :=
  congrArg (rows h) (pick (i 1) u g)

theorem first_at (i : grid0.Coords) (h : Vec Ideal S2048x1024 .bf16) (g u : Vec Ideal S2048x1408 .bf16) (n : Fin 1024) (q : Fin 1408) :
    k0_pay2 (F := Ideal) i h g u (ix3 0 n q) = (0 + (rows h (if 4 ≤ (i 1).val then u else g) (ix2 n q) : EReal) : EReal) := by
  rw [zero_add, ← pay1_eq]
  unfold k0_pay2
  generalize k0_pay1 i h g u = z
  pointwise

theorem next_at (i : grid0.Coords) (h : Vec Ideal S2048x1024 .bf16) (g u : Vec Ideal S2048x1408 .bf16)
    (s : Vec Ideal S1x1024x1408 .f32) (n : Fin 1024) (q : Fin 1408) :
    k0_pay3 (F := Ideal) i h g u s (ix3 0 n q)
      = ((s (ix3 0 n q) : EReal) + (rows h (if 4 ≤ (i 1).val then u else g) (ix2 n q) : EReal) : EReal) := by
  rw [← pay1_eq]
  unfold k0_pay3
  generalize k0_pay1 i h g u = z
  pointwise

variable (m : (ℓ : Loc nD τ sig) → Buf (Elt Ideal) ℓ) (c : Dev nD)

/-- The rows of the input and of a branch's gradient that a point takes. -/
def input (t : Fin cfg0.N) : Vec Ideal S2048x1024 .bf16 := iblk m c 0 t
def branch (t : Fin cfg0.N) : Vec Ideal S2048x1408 .bf16 :=
  if 4 ≤ (grid0.coords t 1).val then iblk m c 2 t else iblk m c 1 t

/-- What a point adds to its block. -/
def part (t : Fin cfg0.N) (y : S1x1024x1408.Idx) : EReal := rows (input m c t) (branch m c t) (ix2 (y 1) (y 2))

theorem idx3 (y : S1x1024x1408.Idx) : y = ix3 0 (y 1) (y 2) := by
  refine (ValueIdx.eq_ix3 y).trans ?_
  congr 1
  exact Subsingleton.elim (α := Fin 1) _ _

theorem acc_first (t : Fin cfg0.N) (h : t.val % 2 = 0) (y : S1x1024x1408.Idx) :
    ((outsAt0 m c t.val t.isLt).2 y : EReal) = 0 + part m c t y := by
  rw [outsAt0_A m c t h (by omega) (by omega)]
  frame_out
  exact (congrArg _ (idx3 y)).trans (first_at _ _ _ _ (y 1) (y 2))

theorem acc_next (t : Fin cfg0.N) (h : ¬t.val % 2 = 0) (y : S1x1024x1408.Idx) :
    ((outsAt0 m c t.val t.isLt).2 y : EReal)
      = (outsAt0 m c (t.val - 1) (Nat.lt_of_le_of_lt (Nat.sub_le _ _) t.isLt)).2 y + part m c t y := by
  rw [outsAt0_B m c t h (by omega) (by omega)]
  frame_out
  refine (congrArg _ (idx3 y)).trans ((next_at _ _ _ _ _ (y 1) (y 2)).trans (congrArg (· + part m c t y) ?_))
  exact (congrFun (Memref.IsWhole.read_unread _ _) _).trans (congrArg _ (idx3 y).symm)

theorem acc_last (t : Fin cfg0.N) (h : t.val % 2 = 1) (y : S1x1024x1408.Idx) :
    ((outsAt0 m c t.val t.isLt).1 y : EReal) = (outsAt0 m c t.val t.isLt).2 y := by
  rw [outsAt0_B m c t (by omega) (by omega) h]
  frame_out
  rfl

/-! ## The blocks a point holds, as parts of the argument arrays -/

/-- Which block each window holds at a grid point. -/
theorem idx : ∀ t : Fin cfg0.N, win0_0.index t = ![t.val % 2, t.val / 16] ∧ win0_1.index t = ![t.val % 2, min 3 (t.val / 2 % 8)]
    ∧ win0_2.index t = ![t.val % 2, t.val / 2 % 8 - 4] ∧ win0_3.index t = ![t.val / 2 % 8, t.val / 16, 0]
    ∧ (grid0.coords t 1).val = t.val / 2 % 8 :=
  (by decide +kernel : ∀ t : Fin grid0.N, _)

theorem input_emb (t : Fin cfg0.N) (k : Fin 2048) (n : Fin 1024) (l : Fin 4096) (N : Fin 2048)
    (hl : l.val = t.val % 2 * 2048 + k.val) (hN : N.val = t.val / 16 * 1024 + n.val) :
    (win0_0.blk t).view.emb (ix2 k n) = ix2 l N := by
  obtain ⟨e, -⟩ := idx t
  blk_ext [e, ix2, hl, hN]

theorem left_emb (t : Fin cfg0.N) (h : t.val / 2 % 8 < 4) (k : Fin 2048) (q : Fin 1408) (l : Fin 4096) (x : Fin 5632)
    (hl : l.val = t.val % 2 * 2048 + k.val) (hx : x.val = t.val / 2 % 8 * 1408 + q.val) :
    (win0_1.blk t).view.emb (ix2 k q) = ix2 l x := by
  obtain ⟨-, e, -⟩ := idx t
  rw [min_eq_right (by omega)] at e
  blk_ext [e, ix2, hl, hx]

theorem right_emb (t : Fin cfg0.N) (k : Fin 2048) (q : Fin 1408) (l : Fin 4096) (x : Fin 5632)
    (hl : l.val = t.val % 2 * 2048 + k.val) (hx : x.val = (t.val / 2 % 8 - 4) * 1408 + q.val) :
    (win0_2.blk t).view.emb (ix2 k q) = ix2 l x := by
  obtain ⟨-, -, e, -⟩ := idx t
  blk_ext [e, ix2, hl, hx]

theorem input_at (t : Fin cfg0.N) (k : Fin 2048) (n : Fin 1024) (l : Fin 4096) (N : Fin 2048)
    (hl : l.val = t.val % 2 * 2048 + k.val) (hN : N.val = t.val / 16 * 1024 + n.val) :
    input m c t (ix2 k n) = m ((c : Thread nD τ).loc main_arg0) (ix2 l N) :=
  congrArg (m ((c : Thread nD τ).loc main_arg0)) (input_emb t k n l N hl hN)

theorem branch_at (t : Fin cfg0.N) (k : Fin 2048) (q : Fin 1408) (l : Fin 4096) (x : Fin 11264)
    (hl : l.val = t.val % 2 * 2048 + k.val) (hx : x.val = t.val / 2 % 8 * 1408 + q.val) :
    (branch m c t (ix2 k q) : EReal)
      = both (m ((c : Thread nD τ).loc main_arg1)) (m ((c : Thread nD τ).loc main_arg2)) l x := by
  obtain ⟨-, -, -, -, e⟩ := idx t
  unfold branch
  by_cases h : 4 ≤ t.val / 2 % 8
  · rw [if_pos (e.symm ▸ h)]
    refine Eq.trans ?_ (both_right _ _ l x ⟨(t.val / 2 % 8 - 4) * 1408 + q.val, by omega⟩ (by dsimp only; omega)).symm
    exact congrArg (m ((c : Thread nD τ).loc main_arg2)) (right_emb t k q l _ hl rfl)
  · rw [if_neg (e.symm ▸ h)]
    refine Eq.trans ?_ (both_left _ _ l x ⟨t.val / 2 % 8 * 1408 + q.val, by omega⟩ hx).symm
    exact congrArg (m ((c : Thread nD τ).loc main_arg1)) (left_emb t (by omega) k q l _ hl rfl)

/-! ## The result array -/

/-- One term of an entry: row `l` of the input times row `l` of the two branches' gradients. -/
def term (h : Vec Ideal S4096x2048 .bf16) (g u : Vec Ideal S4096x5632 .bf16) (n : Fin 2048) (x : Fin 11264) (l : Fin 4096) : EReal :=
  (h (ix2 l n) : EReal) * both g u l x

/-- The plain product: columns of the input against columns of the two branches' gradients. -/
def join (h : Vec Ideal S4096x2048 .bf16) (g u : Vec Ideal S4096x5632 .bf16) : Vec Ideal S2048x11264 .bf16 :=
  fun i => (∑ l : Fin 4096, term h g u (i 0) (i 1) l : EReal)

/-- The column of the product that column `q` of shard `s` is. -/
def column (s : Fin 8) (q : Fin 1408) : Fin 11264 := ⟨s.val * 1408 + q.val, by omega⟩

/-- The same in eight shards. -/
def shards (h : Vec Ideal S4096x2048 .bf16) (g u : Vec Ideal S4096x5632 .bf16) : Vec Ideal S8x2048x1408 .bf16 :=
  fun i => (∑ l : Fin 4096, term h g u (i 1) (column (i 0) (i 2)) l : EReal)

/-- What a point adds, in the arrays' entries: the terms of its 2048 rows. -/
theorem part_at (t : Fin cfg0.N) (n : Fin 1024) (q : Fin 1408) (N : Fin 2048) (x : Fin 11264)
    (hN : N.val = t.val / 16 * 1024 + n.val) (hx : x.val = t.val / 2 % 8 * 1408 + q.val) :
    part m c t (ix3 0 n q) = ∑ k : Fin 2048, term (m ((c : Thread nD τ).loc main_arg0)) (m ((c : Thread nD τ).loc main_arg1))
      (m ((c : Thread nD τ).loc main_arg2)) N x ⟨t.val % 2 * 2048 + k.val, by omega⟩ := by
  refine (rows_at (input m c t) (branch m c t) n q).trans (Finset.sum_congr rfl fun k _ => ?_)
  rw [input_at m c t k n ⟨t.val % 2 * 2048 + k.val, by omega⟩ N rfl hN, branch_at m c t k q ⟨t.val % 2 * 2048 + k.val, by omega⟩ x rfl hx]
  rfl

theorem out_emb (t : Fin cfg0.N) (y : S1x1024x1408.Idx) :
    ((win0_3.blk t).view.emb y 0 : ℕ) = t.val / 2 % 8 ∧ ((win0_3.blk t).view.emb y 1 : ℕ) = t.val / 16 * 1024 + (y 1).val
      ∧ ((win0_3.blk t).view.emb y 2 : ℕ) = (y 2).val := by
  obtain ⟨-, -, -, e, -⟩ := idx t
  have h0 : (y 0).val < 1 := (y 0).isLt
  refine ⟨?_, ?_, ?_⟩ <;> blk_simp [e] <;> omega

theorem final : (dats m 0 c).arrAt 3 cfg0.N = shards (m ((c : Thread nD τ).loc main_arg0)) (m ((c : Thread nD τ).loc main_arg1))
    (m ((c : Thread nD τ).loc main_arg2)) := by
  refine (dats m 0 c).arrAt_eq_of_covers 3 _ (by decide +kernel) fun t hf y => ?_
  have hN := lt_of_lt_of_eq t.isLt N_0
  have h1 : t.val % 2 = 1 := (flush0_3 t).mp hf
  obtain ⟨e0, e1, e2⟩ := out_emb t y
  refine (congrFun (after0_3 m c t) y).trans ((acc_last m c t h1 y).trans ?_)
  refine (Pipeline.eq_sum_fin_of_reset_step_apply_of_flush (M := EReal) (fun n h => (outsAt0 m c n h).2) 2 (fun _ => 0) (part m c)
    (fun t h y => acc_first m c t h y) (fun t h y => acc_next m c t h y) t h1 y).trans ?_
  rw [zero_add]
  show _ = ∑ l : Fin 4096, term (m ((c : Thread nD τ).loc main_arg0)) (m ((c : Thread nD τ).loc main_arg1))
    (m ((c : Thread nD τ).loc main_arg2)) ((win0_3.blk t).view.emb y 1)
    (column ((win0_3.blk t).view.emb y 0) ((win0_3.blk t).view.emb y 2)) l
  refine Eq.trans ?_ (Fin.sum_univ_tiles 2 2048 rfl _).symm
  refine Finset.sum_congr rfl fun s _ => (congrArg (part m c _) (idx3 y)).trans ?_
  refine (part_at m c _ (y 1) (y 2) ((win0_3.blk t).view.emb y 1) (column ((win0_3.blk t).view.emb y 0) ((win0_3.blk t).view.emb y 2))
    (e1.trans (by dsimp only; omega))
    ((congrArg₂ (fun a b : ℕ => a * 1408 + b) e0 e2).trans (by dsimp only; omega))).trans ?_
  refine Finset.sum_congr rfl fun k _ => congrArg _ (Fin.ext ?_)
  dsimp only
  omega

/-! ## The shards put side by side -/

theorem side_at (z : Vec Ideal S8x2048x1408 .bf16) (n : Fin 2048) (x : Fin 11264) :
    shapeCast S2048x11264 (transpose S2048x8x1408 [1, 0, 2] z transposes_S8x2048x1408_S2048x8x1408_1_0_2)
      shapeCasts_S2048x8x1408_S2048x11264 (ix2 n x)
      = z (ix3 (⟨x.val / 1408, by omega⟩ : Fin 8) n (⟨x.val % 1408, by omega⟩ : Fin 1408)) := by
  pointwise

theorem side_by_side (h : Vec Ideal S4096x2048 .bf16) (g u : Vec Ideal S4096x5632 .bf16) :
    shapeCast S2048x11264 (transpose S2048x8x1408 [1, 0, 2] (shards h g u) transposes_S8x2048x1408_S2048x8x1408_1_0_2)
      shapeCasts_S2048x8x1408_S2048x11264 = join h g u := by
  funext i
  refine (congrArg _ (ValueIdx.eq_ix2 i)).trans ((side_at (shards h g u) (i 0) (i 1)).trans ?_)
  refine Finset.sum_congr rfl fun l _ => congrArg (fun x => term h g u (i 0) x l) (Fin.ext ?_)
  show (i 1).val / 1408 * 1408 + (i 1).val % 1408 = (i 1).val
  omega

/-- What the result buffer holds at the end. -/
theorem result : Pipeline.afterTail₀ cfgs (dats m) 0 (V0 m) [hostOps1] c main_v2
    = join (m ((c : Thread nD τ).loc main_arg0)) (m ((c : Thread nD τ).loc main_arg1)) (m ((c : Thread nD τ).loc main_arg2)) := by
  refine Eq.trans ?_ (side_by_side _ _ _)
  rw [← final m c]
  unfold Pipeline.afterTail₀
  after_reads_simp
  funext i
  exact congrFun (congrArg (fun z : Vec Ideal S8x2048x1408 .bf16 => shapeCast S2048x11264
    (transpose S2048x8x1408 [1, 0, 2] z transposes_S8x2048x1408_S2048x8x1408_1_0_2) shapeCasts_S2048x8x1408_S2048x11264)
    (Pipeline.withArrays_arr (cfgs 0).spec (by decide) c (V0 m c) (fun w => (dats m 0 c).arrAt w (cfgs 0).N) 3)) i

end Cert.Kernel3Ideal.Array
-- ==== Proof.JoinReference.lean ====
/-
  THE PLAIN GRADIENT OF THE JOINED WEIGHT. The reference differentiates the two halves of `h @ w_gate_up` with respect to
  the weight: it puts the two cotangents side by side and multiplies their columns by those of the input.
-/
module

public import proofs.«01_k».proof.Proof.JoinArray
public import proofs.«01_k».proof.Proof.Gen.Reference3Ideal.Read

@[expose] public section

noncomputable section

namespace Cert.Reference3Ideal.Entry

open Idealize.ShloMosaic Cert.Reference3Ideal Cert.Reference3Ideal.Gen Cert.Reference3Ideal.Read Cert.Proof.Branch

theorem both_apply (g u : Vec Ideal S4096x5632 .bf16) (r : Fin 4096) (l : Fin 11264) :
    val_main_v8 (F := Ideal) g u (ix2 r l) = both g u r l := by
  unfold both
  pointwise [val_main_v8, val_main_v6, val_main_v7]

theorem join_eq (h : Vec Ideal S4096x2048 .bf16) (g u : Vec Ideal S4096x5632 .bf16) :
    val_main_v11 (F := Ideal) h g u = Cert.Kernel3Ideal.Array.join h g u := by
  funext i
  unfold Cert.Kernel3Ideal.Array.join
  rw [val_main_v11_apply, val_main_v10_apply, val_main_v9_apply]
  refine Finset.sum_congr rfl fun l _ => ?_
  rw [val_main_v1_apply, mul_comm]
  have hl : lidx_main_v9 (idx_main_v10 i) l = ix2 l (i 1) := ValueIdx.eq_ix2 _
  have hr : ridx_main_v9 (idx_main_v10 i) l = ix2 l (i 0) := ValueIdx.eq_ix2 _
  rw [hl, hr]
  exact congrArg ((h (ix2 l (i 0)) : EReal) * ·) (both_apply g u l (i 1))

end Cert.Reference3Ideal.Entry
-- ==== Proof.JoinClaims.lean ====
/-
  THE CLAIMS ABOUT THE GRADIENT OF THE JOINED GATE AND UP WEIGHT: the kernel and its plain reference run, keep their
  arguments and leave every counter at zero; read over the extended reals the two leave the same array.
-/
module

public import proofs.«01_k».proof.Defs
public import proofs.«01_k».proof.Proof.JoinReference
public import proofs.«01_k».proof.Proof.Gen.Kernel3.Frame
public import proofs.«01_k».proof.Proof.Gen.Reference3Ideal.Run
public import Idealize.ShloMosaic.Lib.Quiescent

@[expose] public section

noncomputable section

namespace Cert.Proof.JoinClaims

open Idealize.ShloMosaic Idealize.ShloMosaic.TcCoe Idealize.SL.Sem

theorem frame : Cert.quiescent_Kernel3 := fun m ρ _ => Cert.Kernel3.Gen.frame m ρ
theorem frame_ideal : Cert.quiescent_Kernel3Ideal := fun m ρ _ => Cert.Kernel3Ideal.Gen.frame m ρ

/-- The reference's run with its counters: it has none. -/
theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The kernel's program leaves the plain product: the lines after the call put its shards side by side. -/
theorem run_result (m : (ℓ : Loc Cert.Kernel3Ideal.nD Cert.Kernel3Ideal.τ Cert.Kernel3Ideal.sig) → Buf (Elt Ideal) ℓ)
    (ρ : Dev Cert.Kernel3Ideal.nD → PrngReg) :
    θ_run (Cert.Kernel3Ideal.defs (F := Ideal)) (onTc (τ := Cert.Kernel3Ideal.τ) (Cert.Kernel3Ideal.main (F := Ideal))) ⟨m, fun _ => 0, ρ⟩
      (fun r => ∀ c : Dev Cert.Kernel3Ideal.nD, r.2.mem ((c.tc : Thread Cert.Kernel3Ideal.nD Cert.Kernel3Ideal.τ).loc Cert.Kernel3Ideal.main_v2)
        = Cert.Kernel3Ideal.Array.join (m ((c.tc : Thread Cert.Kernel3Ideal.nD Cert.Kernel3Ideal.τ).loc Cert.Kernel3Ideal.main_arg0))
          (m ((c.tc : Thread Cert.Kernel3Ideal.nD Cert.Kernel3Ideal.τ).loc Cert.Kernel3Ideal.main_arg1))
          (m ((c.tc : Thread Cert.Kernel3Ideal.nD Cert.Kernel3Ideal.τ).loc Cert.Kernel3Ideal.main_arg2))) :=
  (θ_run Cert.Kernel3Ideal.defs _ _).mono
    (fun r h c => ((h c).2 Cert.Kernel3Ideal.main_v2 (by decide)).trans (Cert.Kernel3Ideal.Array.result m c))
    (Cert.Kernel3Ideal.Gen.run_main m ρ)

theorem algebraic : Cert.algebraic_Kernel3Ideal_Reference3Ideal := by
  intro m ρ m' ρ' _ hagree
  refine ⟨_,
    (θ_run Cert.Kernel3Ideal.defs _ _).mono (fun r h c => ⟨h.1 c, h.2 c⟩)
      (θ_run_and (run_result m ρ) (Cert.Kernel3Ideal.Gen.unchanged (F := Ideal) m ρ)),
    (θ_run Cert.Reference3Ideal.defs _ _).mono (fun r h c => ⟨(h c).1.trans ?_, (h c).2⟩)
      (Cert.Reference3Ideal.Value.run (F := Ideal) m' ρ')⟩
  obtain ⟨h0, h1, h2⟩ := hagree c
  rw [h0, h1, h2]
  exact (Cert.Reference3Ideal.Read.val_main_v11_eq _ _ _).trans (Cert.Reference3Ideal.Entry.join_eq _ _ _)

end Cert.Proof.JoinClaims
-- ==== Proof.HiddenArray.lean ====
/-
  THE GRADIENT OF THE FEED-FORWARD BLOCK'S INPUT. The weight lies in eight shards of 1408 columns. A block of 512 rows is
  accumulated over four grid points; each takes 2816 columns of one of the two branches' gradients, in two pieces, against
  two shards. Summed up, the result array is the plain product over all 11264 columns.
-/
module

public import proofs.«01_k».proof.Proof.BranchMath
public import proofs.«01_k».proof.Proof.Gen.Kernel4Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Claim
public import Idealize.ShloMosaic.Lib.StableHlo.RunRead

@[expose] public section

set_option maxRecDepth 16384

noncomputable section

namespace Cert.Kernel4Ideal.Array

open Idealize.ShloMosaic Idealize.ShloMosaic.TcCoe Cert.Kernel4Ideal Cert.Kernel4Ideal.Gen Cert.Proof.Branch

/-! ## One grid point -/

/-- Of the two branches' blocks a point takes the first in its first two steps and the second in the others. -/
theorem pick (n : Fin 4) {α : Type} (a b : α) :
    Scalar.select (Scalar.cmpi .sge (BitVec.ofNat 32 n.val) 2#32) a b = if 2 ≤ n.val then a else b := by
  fin_cases n <;> rfl

/-- The part of a block that two shards give. -/
def two (s : Vec Ideal S512x2816 .bf16) (v w : Vec Ideal S1x2048x1408 .bf16) : FVec Ideal S512x2048 .f32 :=
  addf
    (matmul (φ₁ := .bf16) (φ₂ := .bf16) dot_S512x1408_S2048x1408_S512x2048_1_1_0_0_n_n none
      (extractStridedSlice S512x1408 ![0, 0] s slices_S512x2816_o0_0_S512x1408)
      (shapeCast S2048x1408 v shapeCasts_S1x2048x1408_S2048x1408) (constant S512x2048 .f32 0x00000000#32))
    (matmul (φ₁ := .bf16) (φ₂ := .bf16) dot_S512x1408_S2048x1408_S512x2048_1_1_0_0_n_n none
      (extractStridedSlice S512x1408 ![0, 1408] s slices_S512x2816_o0_1408_S512x1408)
      (shapeCast S2048x1408 w shapeCasts_S1x2048x1408_S2048x1408) (constant S512x2048 .f32 0x00000000#32))

theorem two_at (s : Vec Ideal S512x2816 .bf16) (v w : Vec Ideal S1x2048x1408 .bf16) (r : Fin 512) (n : Fin 2048) :
    two s v w (ix2 r n) = ((∑ q : Fin 1408, (s (ix2 r ⟨q.val, by omega⟩) : EReal) * v (ix3 0 n q))
      + ∑ q : Fin 1408, (s (ix2 r ⟨1408 + q.val, by omega⟩) : EReal) * w (ix3 0 n q) : EReal) := by
  pointwise [two]

theorem pay1_eq (i : grid0.Coords) (g u : Vec Ideal S512x2816 .bf16) (v w : Vec Ideal S1x2048x1408 .bf16) :
    k0_pay1 (F := Ideal) i g u v w = two (if 2 ≤ (i 1).val then u else g) v w :=
  congrArg (fun s => two s v w) (pick (i 1) u g)

theorem first_at (i : grid0.Coords) (g u : Vec Ideal S512x2816 .bf16) (v w : Vec Ideal S1x2048x1408 .bf16) (y : S512x2048.Idx) :
    k0_pay2 (F := Ideal) i g u v w y = (0 + (two (if 2 ≤ (i 1).val then u else g) v w y : EReal) : EReal) := by
  rw [zero_add, ← pay1_eq]
  unfold k0_pay2
  generalize k0_pay1 i g u v w = z
  pointwise

theorem next_at (i : grid0.Coords) (g u : Vec Ideal S512x2816 .bf16) (v w : Vec Ideal S1x2048x1408 .bf16)
    (s : Vec Ideal S512x2048 .f32) (y : S512x2048.Idx) :
    k0_pay3 (F := Ideal) i g u v w s y = ((s y : EReal) + (two (if 2 ≤ (i 1).val then u else g) v w y : EReal) : EReal) := by
  rw [← pay1_eq]
  unfold k0_pay3
  generalize k0_pay1 i g u v w = z
  pointwise

variable (m : (ℓ : Loc nD τ sig) → Buf (Elt Ideal) ℓ) (c : Dev nD)

/-- The columns of a branch's gradient that a point takes, and its two shards. -/
def branch (t : Fin cfg0.N) : Vec Ideal S512x2816 .bf16 :=
  if 2 ≤ (grid0.coords t 1).val then iblk m c 1 t else iblk m c 0 t
def shard0 (t : Fin cfg0.N) : Vec Ideal S1x2048x1408 .bf16 :=
  View.ld (iblk m c 2 t) (Rect.unit (s := S2x2048x1408) ![0, 0, 0] ![1, 2048, 1408] inb_S2x2048x1408_S1x2048x1408_0_0_0)
def shard1 (t : Fin cfg0.N) : Vec Ideal S1x2048x1408 .bf16 :=
  View.ld (iblk m c 2 t) (Rect.unit (s := S2x2048x1408) ![1, 0, 0] ![1, 2048, 1408] inb_S2x2048x1408_S1x2048x1408_1_0_0)

/-- What a point adds to its block. -/
def part (t : Fin cfg0.N) (y : S512x2048.Idx) : EReal := two (branch m c t) (shard0 m c t) (shard1 m c t) y

theorem acc_first (t : Fin cfg0.N) (h : t.val % 4 = 0) (y : S512x2048.Idx) :
    ((outsAt0 m c t.val t.isLt).2 y : EReal) = 0 + part m c t y := by
  rw [outsAt0_A m c t h (by omega) (by omega)]
  frame_out
  exact first_at _ _ _ _ _ y

theorem acc_next (t : Fin cfg0.N) (h : ¬t.val % 4 = 0) (y : S512x2048.Idx) :
    ((outsAt0 m c t.val t.isLt).2 y : EReal)
      = (outsAt0 m c (t.val - 1) (Nat.lt_of_le_of_lt (Nat.sub_le _ _) t.isLt)).2 y + part m c t y := by
  by_cases h3 : t.val % 4 = 3
  · rw [outsAt0_C m c t h (by omega) h3]
    frame_out
    refine (next_at _ _ _ _ _ _ y).trans (congrArg (· + part m c t y) ?_)
    exact congrFun (Memref.IsWhole.read_unread _ _) y
  · rw [outsAt0_B m c t h (by omega) h3]
    frame_out
    refine (next_at _ _ _ _ _ _ y).trans (congrArg (· + part m c t y) ?_)
    exact congrFun (Memref.IsWhole.read_unread _ _) y

theorem acc_last (t : Fin cfg0.N) (h : t.val % 4 = 3) (y : S512x2048.Idx) :
    ((outsAt0 m c t.val t.isLt).1 y : EReal) = (outsAt0 m c t.val t.isLt).2 y := by
  rw [outsAt0_C m c t (by omega) (by omega) h]
  frame_out

/-! ## The blocks a point holds, as parts of the argument arrays -/

/-- The weight split along its columns into eight shards. -/
def shards (w : Vec Ideal S2048x11264 .bf16) : Vec Ideal S8x2048x1408 .bf16 :=
  transpose S8x2048x1408 [1, 0, 2] (shapeCast S2048x8x1408 w shapeCasts_S2048x11264_S2048x8x1408) transposes_S2048x8x1408_S8x2048x1408_1_0_2

theorem V_shards : V m c main_v1 = shards (m ((c : Thread nD τ).loc main_arg2)) := by
  unfold_abbrev_sides; after_reads_simp; rfl

theorem shards_at (w : Vec Ideal S2048x11264 .bf16) (s : Fin 8) (n : Fin 2048) (q : Fin 1408) :
    shards w (ix3 s n q) = w (ix2 n ⟨s.val * 1408 + q.val, by omega⟩) := by
  pointwise [shards]

/-- Which block each window holds at a grid point. -/
theorem idx : ∀ t : Fin cfg0.N, win0_0.index t = ![t.val / 4, min 1 (t.val % 4)] ∧ win0_1.index t = ![t.val / 4, t.val % 4 - 2]
    ∧ win0_2.index t = ![t.val % 4, 0, 0] ∧ win0_3.index t = ![t.val / 4, 0] ∧ (grid0.coords t 1).val = t.val % 4 :=
  (by decide +kernel : ∀ t : Fin grid0.N, _)

theorem left_emb (t : Fin cfg0.N) (h : t.val % 4 < 2) (r : Fin 512) (x : Fin 2816) (R : Fin 4096) (l : Fin 5632)
    (hR : R.val = t.val / 4 * 512 + r.val) (hl : l.val = t.val % 4 * 2816 + x.val) :
    (win0_0.blk t).view.emb (ix2 r x) = ix2 R l := by
  obtain ⟨e, -⟩ := idx t
  rw [min_eq_right (by omega)] at e
  blk_ext [e, ix2, hR, hl]

theorem right_emb (t : Fin cfg0.N) (r : Fin 512) (x : Fin 2816) (R : Fin 4096) (l : Fin 5632)
    (hR : R.val = t.val / 4 * 512 + r.val) (hl : l.val = (t.val % 4 - 2) * 2816 + x.val) :
    (win0_1.blk t).view.emb (ix2 r x) = ix2 R l := by
  obtain ⟨-, e, -⟩ := idx t
  blk_ext [e, ix2, hR, hl]

theorem shard_emb (t : Fin cfg0.N) (p : Fin 2) (n : Fin 2048) (q : Fin 1408) (s : Fin 8) (hs : s.val = t.val % 4 * 2 + p.val) :
    (win0_2.blk t).view.emb (ix3 p n q) = ix3 s n q := by
  obtain ⟨-, -, e, -⟩ := idx t
  blk_ext [e, ix3, hs]

theorem branch_at (t : Fin cfg0.N) (r : Fin 512) (x : Fin 2816) (R : Fin 4096) (l : Fin 11264)
    (hR : R.val = t.val / 4 * 512 + r.val) (hl : l.val = t.val % 4 * 2816 + x.val) :
    (branch m c t (ix2 r x) : EReal)
      = both (m ((c : Thread nD τ).loc main_arg0)) (m ((c : Thread nD τ).loc main_arg1)) R l := by
  obtain ⟨-, -, -, -, e⟩ := idx t
  unfold branch
  by_cases h : 2 ≤ t.val % 4
  · rw [if_pos (e.symm ▸ h)]
    refine Eq.trans ?_ (both_right _ _ R l ⟨(t.val % 4 - 2) * 2816 + x.val, by omega⟩ (by dsimp only; omega)).symm
    exact congrArg (m ((c : Thread nD τ).loc main_arg1)) (right_emb t r x R _ hR rfl)
  · rw [if_neg (e.symm ▸ h)]
    refine Eq.trans ?_ (both_left _ _ R l ⟨t.val % 4 * 2816 + x.val, by omega⟩ hl).symm
    exact congrArg (m ((c : Thread nD τ).loc main_arg0)) (left_emb t (by omega) r x R _ hR rfl)

/-- An entry of a point's shard is an entry of the weight. -/
theorem shard_at (t : Fin cfg0.N) (p : Fin 2) (n : Fin 2048) (q : Fin 1408) (l : Fin 11264)
    (hl : l.val = t.val % 4 * 2816 + (p.val * 1408 + q.val)) :
    (iblk m c 2 t (ix3 p n q) : Elt Ideal .bf16) = m ((c : Thread nD τ).loc main_arg2) (ix2 n l) := by
  refine Eq.trans ?_ ((shards_at (m ((c : Thread nD τ).loc main_arg2)) ⟨t.val % 4 * 2 + p.val, by omega⟩ n q).trans ?_)
  · rw [← V_shards, ← shard_emb t p n q ⟨t.val % 4 * 2 + p.val, by omega⟩ rfl]
    rfl
  · exact congrArg (fun l => m ((c : Thread nD τ).loc main_arg2) (ix2 n l)) (Fin.ext (by dsimp only; omega))

theorem shard0_at (t : Fin cfg0.N) (n : Fin 2048) (q : Fin 1408) : shard0 m c t (ix3 0 n q) = iblk m c 2 t (ix3 (0 : Fin 2) n q) :=
  View.ld_unit_apply_of _ _ _ _ _ _ fun i => match i with
    | ⟨0, _⟩ => rfl
    | ⟨1, _⟩ => (Nat.zero_add _).symm
    | ⟨2, _⟩ => (Nat.zero_add _).symm
theorem shard1_at (t : Fin cfg0.N) (n : Fin 2048) (q : Fin 1408) : shard1 m c t (ix3 0 n q) = iblk m c 2 t (ix3 (1 : Fin 2) n q) :=
  View.ld_unit_apply_of _ _ _ _ _ _ fun i => match i with
    | ⟨0, _⟩ => rfl
    | ⟨1, _⟩ => (Nat.zero_add _).symm
    | ⟨2, _⟩ => (Nat.zero_add _).symm

/-! ## The result array -/

/-- The plain product: rows of the two branches' gradients against rows of the weight. -/
def hidden (g u : Vec Ideal S4096x5632 .bf16) (w : Vec Ideal S2048x11264 .bf16) : Vec Ideal S4096x2048 .f32 :=
  fun i => (∑ l : Fin 11264, both g u (i 0) l * (w (ix2 (i 1) l) : EReal) : EReal)

/-- What a point adds, in the arrays' entries: the terms of its 2816 columns. -/
theorem part_at (t : Fin cfg0.N) (r : Fin 512) (n : Fin 2048) (R : Fin 4096) (hR : R.val = t.val / 4 * 512 + r.val) :
    part m c t (ix2 r n) = ∑ x : Fin 2816, both (m ((c : Thread nD τ).loc main_arg0)) (m ((c : Thread nD τ).loc main_arg1)) R
        ⟨t.val % 4 * 2816 + x.val, by omega⟩
      * (m ((c : Thread nD τ).loc main_arg2) (ix2 n (⟨t.val % 4 * 2816 + x.val, by omega⟩ : Fin 11264)) : EReal) := by
  unfold part
  rw [two_at, Fin.sum_univ_tiles 2 1408 rfl, Fin.sum_univ_two]
  refine congr (congrArg _ ?_) ?_
  · refine Finset.sum_congr rfl fun q _ => ?_
    rw [branch_at m c t r _ R ⟨t.val % 4 * 2816 + (0 * 1408 + q.val), by omega⟩ hR (by dsimp only; omega), shard0_at,
      shard_at m c t 0 n q ⟨t.val % 4 * 2816 + (0 * 1408 + q.val), by omega⟩ rfl]
    rfl
  · refine Finset.sum_congr rfl fun q _ => ?_
    rw [branch_at m c t r _ R ⟨t.val % 4 * 2816 + (1 * 1408 + q.val), by omega⟩ hR (by dsimp only), shard1_at,
      shard_at m c t 1 n q ⟨t.val % 4 * 2816 + (1 * 1408 + q.val), by omega⟩ rfl]
    rfl

theorem row_emb (t : Fin cfg0.N) (y : S512x2048.Idx) :
    ((win0_3.blk t).view.emb y 0 : ℕ) = t.val / 4 * 512 + (y 0).val ∧ ((win0_3.blk t).view.emb y 1 : ℕ) = (y 1).val := by
  obtain ⟨-, -, -, e, -⟩ := idx t
  constructor <;> blk_simp [e] <;> omega

theorem final : (dats m 0 c).arrAt 3 cfg0.N = hidden (m ((c : Thread nD τ).loc main_arg0)) (m ((c : Thread nD τ).loc main_arg1))
    (m ((c : Thread nD τ).loc main_arg2)) := by
  refine (dats m 0 c).arrAt_eq_of_covers 3 _ (by decide +kernel) fun t hf y => ?_
  have hN := lt_of_lt_of_eq t.isLt N_0
  have h3 : t.val % 4 = 3 := (flush0_3 t).mp hf
  obtain ⟨e0, e1⟩ := row_emb t y
  refine (congrFun (after0_3 m c t) y).trans ((acc_last m c t h3 y).trans ?_)
  refine (Pipeline.eq_sum_fin_of_reset_step_apply_of_flush (M := EReal) (fun n h => (outsAt0 m c n h).2) 4 (fun _ => 0) (part m c)
    (fun t h y => acc_first m c t h y) (fun t h y => acc_next m c t h y) t h3 y).trans ?_
  rw [zero_add]
  refine Eq.trans ?_ (Fin.sum_univ_tiles 4 2816 rfl _).symm
  refine Finset.sum_congr rfl fun s _ => ?_
  refine (congrArg (part m c _) (ValueIdx.eq_ix2 y)).trans ?_
  refine (part_at m c _ (y 0) (y 1) ((win0_3.blk t).view.emb y 0) (e0.trans (by dsimp only; omega))).trans ?_
  refine Finset.sum_congr rfl fun x _ => ?_
  have ec : (y 1 : Fin 2048) = (win0_3.blk t).view.emb y 1 := Fin.ext e1.symm
  have es : (⟨(4 * (t.val / 4) + s.val) % 4 * 2816 + x.val, by omega⟩ : Fin 11264) = ⟨s.val * 2816 + x.val, by omega⟩ :=
    Fin.ext (by dsimp only; omega)
  dsimp only
  rw [es, ec]

end Cert.Kernel4Ideal.Array
-- ==== Proof.HiddenReference.lean ====
/-
  THE PLAIN GRADIENT OF THE FEED-FORWARD BLOCK'S INPUT. The reference differentiates the two halves of `h @ w_gate_up` with
  respect to `h`: it puts the two cotangents side by side and multiplies them by the weight's rows.
-/
module

public import proofs.«01_k».proof.Proof.HiddenArray
public import proofs.«01_k».proof.Proof.Gen.Reference4Ideal.Read

@[expose] public section

noncomputable section

namespace Cert.Reference4Ideal.Entry

open Idealize.ShloMosaic Cert.Reference4Ideal Cert.Reference4Ideal.Gen Cert.Reference4Ideal.Read Cert.Proof.Branch

theorem both_apply (g u : Vec Ideal S4096x5632 .bf16) (r : Fin 4096) (l : Fin 11264) :
    val_main_v7 (F := Ideal) g u (ix2 r l) = both g u r l := by
  unfold both
  pointwise [val_main_v7, val_main_v5, val_main_v6]

theorem hidden_eq (g u : Vec Ideal S4096x5632 .bf16) (w : Vec Ideal S2048x11264 .bf16) :
    val_main_v8 (F := Ideal) g u w = Cert.Kernel4Ideal.Array.hidden g u w := by
  funext i
  unfold Cert.Kernel4Ideal.Array.hidden
  rw [val_main_v8_apply]
  refine Finset.sum_congr rfl fun l _ => ?_
  rw [val_main_v1_apply]
  have hl : lidx_main_v8 i l = ix2 (i 0) l := ValueIdx.eq_ix2 _
  have hr : ridx_main_v8 i l = ix2 (i 1) l := ValueIdx.eq_ix2 _
  rw [hl, hr]
  exact congrArg (· * (w (ix2 (i 1) l) : EReal)) (both_apply g u (i 0) l)

end Cert.Reference4Ideal.Entry
-- ==== Proof.HiddenClaims.lean ====
/-
  THE CLAIMS ABOUT THE GRADIENT OF THE FEED-FORWARD BLOCK'S INPUT: the kernel and its plain reference run, keep their arguments and leave
  every counter at zero; read over the extended reals the two leave the same array.
-/
module

public import proofs.«01_k».proof.Defs
public import proofs.«01_k».proof.Proof.HiddenReference
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent

@[expose] public section

noncomputable section

namespace Cert.Proof.HiddenClaims

open Idealize.ShloMosaic Idealize.ShloMosaic.TcCoe Idealize.SL.Sem

theorem frame : Cert.quiescent_Kernel4 := fun m ρ _ => Cert.Kernel4.Gen.frame m ρ
theorem frame_ideal : Cert.quiescent_Kernel4Ideal := fun m ρ _ => Cert.Kernel4Ideal.Gen.frame m ρ

/-- The reference's run with its counters: it has none. -/
theorem frame_reference : Cert.quiescent_Reference4Ideal := fun m ρ _ =>
  (θ_run Cert.Reference4Ideal.defs _ _).mono
    (fun r h => ⟨fun c => (h c).2, sem_eq_zero_of_no_sems (by decide) r.2⟩)
    (Cert.Reference4Ideal.Value.run (F := Ideal) m ρ)

theorem algebraic : Cert.algebraic_Kernel4Ideal_Reference4Ideal := by
  intro m ρ m' ρ' _ hagree
  refine ⟨_,
    (θ_run Cert.Kernel4Ideal.defs _ _).mono (fun r h c => ⟨(h c).1.trans (Cert.Kernel4Ideal.Array.final m c), (h c).2⟩)
      (Cert.Kernel4Ideal.Value.run_blocks m ρ),
    (θ_run Cert.Reference4Ideal.defs _ _).mono (fun r h c => ⟨(h c).1.trans ?_, (h c).2⟩)
      (Cert.Reference4Ideal.Value.run (F := Ideal) m' ρ')⟩
  obtain ⟨h0, h1, h2⟩ := hagree c
  rw [h0, h1, h2]
  exact (Cert.Reference4Ideal.Read.val_main_v8_eq _ _ _).trans (Cert.Reference4Ideal.Entry.hidden_eq _ _ _)

end Cert.Proof.HiddenClaims
-- ==== Proof.WeightArray.lean ====
/-
  THE GRADIENT OF THE DOWN WEIGHT. A result block is accumulated over four grid points, each of which adds the product of
  1024 rows; the fourth rounds it and writes it back. Summed up, the result array is the plain product.
-/
module

public import proofs.«01_k».proof.Proof.Gen.Kernel5Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

@[expose] public section

set_option maxRecDepth 16384

noncomputable section

namespace Cert.Kernel5Ideal.Array

open Idealize.ShloMosaic Idealize.ShloMosaic.TcCoe Cert.Kernel5Ideal Cert.Kernel5Ideal.Gen

/-- The part of a block that 1024 rows give. -/
theorem first_at (a : Vec Ideal S1024x1408 .bf16) (d : Vec Ideal S1024x1024 .bf16) (y : S1408x1024.Idx) :
    k0_pay2 (F := Ideal) a d y = (0 + ∑ k : Fin 1024, (a (ix2 k (y 0)) : EReal) * d (ix2 k (y 1)) : EReal) := by
  pointwise [k0_pay2, k0_pay1]

theorem next_at (a : Vec Ideal S1024x1408 .bf16) (d : Vec Ideal S1024x1024 .bf16) (s : Vec Ideal S1408x1024 .f32) (y : S1408x1024.Idx) :
    k0_pay3 (F := Ideal) a d s y = ((s y : EReal) + ∑ k : Fin 1024, (a (ix2 k (y 0)) : EReal) * d (ix2 k (y 1)) : EReal) := by
  pointwise [k0_pay3, k0_pay1]

variable (m : (ℓ : Loc nD τ sig) → Buf (Elt Ideal) ℓ) (c : Dev nD)

/-- The rows of the activation and of the cotangent that a point holds. -/
def act (t : Fin cfg0.N) : Vec Ideal S1024x1408 .bf16 := iblk m c 0 t
def cot (t : Fin cfg0.N) : Vec Ideal S1024x1024 .bf16 := iblk m c 1 t

/-- What a point adds to its block. -/
def part (t : Fin cfg0.N) (y : S1408x1024.Idx) : EReal :=
  ∑ k : Fin 1024, (act m c t (ix2 k (y 0)) : EReal) * cot m c t (ix2 k (y 1))

theorem acc_first (t : Fin cfg0.N) (h : t.val % 4 = 0) (y : S1408x1024.Idx) :
    ((outsAt0 m c t.val t.isLt).2 y : EReal) = 0 + part m c t y := by
  rw [outsAt0_A m c t h (by omega) (by omega)]
  frame_out
  exact first_at _ _ y

theorem acc_next (t : Fin cfg0.N) (h : ¬t.val % 4 = 0) (y : S1408x1024.Idx) :
    ((outsAt0 m c t.val t.isLt).2 y : EReal)
      = (outsAt0 m c (t.val - 1) (Nat.lt_of_le_of_lt (Nat.sub_le _ _) t.isLt)).2 y + part m c t y := by
  by_cases h3 : t.val % 4 = 3
  · rw [outsAt0_C m c t h (by omega) h3]
    frame_out
    refine (next_at _ _ _ y).trans (congrArg (· + part m c t y) ?_)
    exact congrFun (Memref.IsWhole.read_unread _ _) y
  · rw [outsAt0_B m c t h (by omega) h3]
    frame_out
    refine (next_at _ _ _ y).trans (congrArg (· + part m c t y) ?_)
    exact congrFun (Memref.IsWhole.read_unread _ _) y

theorem acc_last (t : Fin cfg0.N) (h : t.val % 4 = 3) (y : S1408x1024.Idx) :
    ((outsAt0 m c t.val t.isLt).1 y : EReal) = (outsAt0 m c t.val t.isLt).2 y := by
  rw [outsAt0_C m c t (by omega) (by omega) h]
  frame_out
  rfl

/-- The plain product: columns of the activation against columns of the cotangent. -/
def down (a : Vec Ideal S4096x5632 .bf16) (d : Vec Ideal S4096x2048 .bf16) : Vec Ideal S5632x2048 .bf16 :=
  fun i => (∑ l : Fin 4096, (a (ix2 l (i 0)) : EReal) * d (ix2 l (i 1)) : EReal)

/-- Which block each window holds at a grid point. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

theorem act_emb (t u : Fin cfg0.N) (h : u.val / 8 = t.val / 8) (y : S1408x1024.Idx) (k : Fin 1024) (l : Fin 4096)
    (hl : l.val = u.val % 4 * 1024 + k.val) :
    (win0_0.blk u).view.emb (ix2 k (y 0)) = ix2 l ((win0_2.blk t).view.emb y 0) := by
  obtain ⟨e0, -, -⟩ := idx u
  obtain ⟨-, -, e2⟩ := idx t
  blk_ext [e0, e2, ix2, hl, h]

theorem cot_emb (t u : Fin cfg0.N) (h : u.val / 4 % 2 = t.val / 4 % 2) (y : S1408x1024.Idx) (k : Fin 1024) (l : Fin 4096)
    (hl : l.val = u.val % 4 * 1024 + k.val) :
    (win0_1.blk u).view.emb (ix2 k (y 1)) = ix2 l ((win0_2.blk t).view.emb y 1) := by
  obtain ⟨-, e1, -⟩ := idx u
  obtain ⟨-, -, e2⟩ := idx t
  blk_ext [e1, e2, ix2, hl, h]

theorem final : (dats m 0 c).arrAt 2 cfg0.N
    = down (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have h3 : t.val % 4 = 3 := (flush0_2 t).mp hf
  refine (congrFun (after0_2 m c t) y).trans ((acc_last m c t h3 y).trans ?_)
  refine (Pipeline.eq_sum_fin_of_reset_step_apply_of_flush (M := EReal) (fun n h => (outsAt0 m c n h).2) 4 (fun _ => 0) (part m c)
    (fun t h y => acc_first m c t h y) (fun t h y => acc_next m c t h y) t h3 y).trans ?_
  rw [zero_add]
  refine Eq.trans ?_ (Fin.sum_univ_tiles 4 1024 rfl _).symm
  refine Finset.sum_congr rfl fun s _ => Finset.sum_congr rfl fun k _ => ?_
  refine congr (congrArg _ ?_) ?_
  · exact congrArg (m ((c : Thread nD τ).loc main_arg0)) (act_emb t _ (by dsimp only; omega) y k _ (by dsimp only; omega))
  · exact congrArg (m ((c : Thread nD τ).loc main_arg1)) (cot_emb t _ (by dsimp only; omega) y k _ (by dsimp only; omega))

end Cert.Kernel5Ideal.Array
-- ==== Proof.WeightReference.lean ====
/-
  THE PLAIN GRADIENT OF THE DOWN WEIGHT. The reference differentiates `act @ w_down` with respect to the weight; its result
  is the product of `WeightArray` with the factors in the other order.
-/
module

public import proofs.«01_k».proof.Proof.WeightArray
public import proofs.«01_k».proof.Proof.Gen.Reference5Ideal.Read

@[expose] public section

noncomputable section

namespace Cert.Reference5Ideal.Entry

open Idealize.ShloMosaic Cert.Reference5Ideal Cert.Reference5Ideal.Gen Cert.Reference5Ideal.Read

theorem down_eq (a : Vec Ideal S4096x5632 .bf16) (d : Vec Ideal S4096x2048 .bf16) :
    val_main_v7 (F := Ideal) a d = Cert.Kernel5Ideal.Array.down a d := by
  funext i
  unfold Cert.Kernel5Ideal.Array.down
  rw [val_main_v7_apply, val_main_v6_apply, val_main_v5_apply]
  refine Finset.sum_congr rfl fun k _ => ?_
  rw [val_main_v4_apply, val_main_v1_apply]
  have hl : lidx_main_v5 (idx_main_v6 i) k = ix2 k (i 1) := ValueIdx.eq_ix2 _
  have hr : ridx_main_v5 (idx_main_v6 i) k = ix2 k (i 0) := ValueIdx.eq_ix2 _
  rw [hl, hr]
  exact mul_comm (d (ix2 k (i 1)) : EReal) (a (ix2 k (i 0)))

end Cert.Reference5Ideal.Entry
-- ==== Proof.WeightClaims.lean ====
/-
  THE CLAIMS ABOUT THE DOWN WEIGHT'S GRADIENT: the kernel and its plain reference run, keep their arguments and leave
  every counter at zero; read over the extended reals the two leave the same array.
-/
module

public import proofs.«01_k».proof.Defs
public import proofs.«01_k».proof.Proof.WeightReference
public import proofs.«01_k».proof.Proof.Gen.Kernel5.Frame
public import proofs.«01_k».proof.Proof.Gen.Kernel5Ideal.Value
public import proofs.«01_k».proof.Proof.Gen.Reference5Ideal.Run
public import Idealize.ShloMosaic.Lib.Quiescent

@[expose] public section

noncomputable section

namespace Cert.Proof.WeightClaims

open Idealize.ShloMosaic Idealize.ShloMosaic.TcCoe Idealize.SL.Sem

theorem frame : Cert.quiescent_Kernel5 := fun m ρ _ => Cert.Kernel5.Gen.frame m ρ
theorem frame_ideal : Cert.quiescent_Kernel5Ideal := fun m ρ _ => Cert.Kernel5Ideal.Gen.frame m ρ

/-- The reference's run with its counters: it has none. -/
theorem frame_reference : Cert.quiescent_Reference5Ideal := fun m ρ _ =>
  (θ_run Cert.Reference5Ideal.defs _ _).mono
    (fun r h => ⟨fun c => (h c).2, sem_eq_zero_of_no_sems (by decide) r.2⟩)
    (Cert.Reference5Ideal.Value.run (F := Ideal) m ρ)

theorem algebraic : Cert.algebraic_Kernel5Ideal_Reference5Ideal := by
  intro m ρ m' ρ' _ hagree
  refine ⟨_,
    (θ_run Cert.Kernel5Ideal.defs _ _).mono (fun r h c => ⟨(h c).1.trans (Cert.Kernel5Ideal.Array.final m c), (h c).2⟩)
      (Cert.Kernel5Ideal.Value.run_blocks m ρ),
    (θ_run Cert.Reference5Ideal.defs _ _).mono (fun r h c => ⟨(h c).1.trans ?_, (h c).2⟩)
      (Cert.Reference5Ideal.Value.run (F := Ideal) m' ρ')⟩
  obtain ⟨h0, h1⟩ := hagree c
  rw [h0, h1]
  exact (Cert.Reference5Ideal.Read.val_main_v7_eq _ _).trans (Cert.Reference5Ideal.Entry.down_eq _ _)

end Cert.Proof.WeightClaims
-- ==== Proof.UpArray.lean ====
/-
  GATE, UP AND THEIR GATED PRODUCT. The weight lies in eight shards of 1408 columns, the first four the gate's. A grid point
  holds 512 rows of the input, one of the gate's shards and the matching one of the other branch; it writes one tile of each
  of the three results. The result arrays are the plain products and `silu(gate) * up`.
-/
module

public import proofs.«01_k».proof.Proof.HiddenArray
public import proofs.«01_k».proof.Proof.Gen.Kernel6Ideal.Frame

@[expose] public section

set_option maxRecDepth 16384

noncomputable section

namespace Cert.Kernel6Ideal.Array

open Idealize.ShloMosaic Idealize.ShloMosaic.TcCoe Cert.Kernel6Ideal Cert.Kernel6Ideal.Gen
open Cert.Kernel4Ideal.Array (shards shards_at)

/-- The gated product at one entry. -/
def gated (g u : EReal) : EReal := g * Ideal.logistic g * u

/-! ## One grid point -/

/-- The rows of the input against the columns of a shard. -/
def tile (a : Vec Ideal S512x2048 .bf16) (w : Vec Ideal S1x2048x1408 .bf16) (y : S512x1408.Idx) : EReal :=
  ∑ k : Fin 2048, (a (ix2 (y 0) k) : EReal) * w (ix3 0 k (y 1))

theorem pay1_at (a : Vec Ideal S512x2048 .bf16) (w : Vec Ideal S1x2048x1408 .bf16) (y : S512x1408.Idx) :
    k0_pay1 (F := Ideal) a w y = tile a w y := by
  unfold tile
  pointwise [k0_pay1]

theorem pay2_at (a : Vec Ideal S512x2048 .bf16) (w : Vec Ideal S1x2048x1408 .bf16) (y : S512x1408.Idx) :
    k0_pay2 (F := Ideal) a w y = tile a w y := by
  unfold tile
  pointwise [k0_pay2]

theorem gate_block (a : Vec Ideal S512x2048 .bf16) (v w : Vec Ideal S1x2048x1408 .bf16) (y : S512x1408.Idx) :
    (out0_3 a v w y : EReal) = tile a v y := by
  frame_out
  exact pay1_at _ _ y

theorem up_block (a : Vec Ideal S512x2048 .bf16) (v w : Vec Ideal S1x2048x1408 .bf16) (y : S512x1408.Idx) :
    (out0_4 a v w y : EReal) = tile a w y := by
  frame_out
  exact pay2_at _ _ y

theorem act_block (a : Vec Ideal S512x2048 .bf16) (v w : Vec Ideal S1x2048x1408 .bf16) (y : S512x1408.Idx) :
    (out0_5 a v w y : EReal) = gated (tile a v y) (tile a w y) := by
  rw [← pay1_at, ← pay2_at]
  frame_out
  rfl

variable (m : (ℓ : Loc nD τ sig) → Buf (Elt Ideal) ℓ) (c : Dev nD)

/-! ## The blocks a point holds, as parts of the argument arrays -/

def input (t : Fin cfg0.N) : Vec Ideal S512x2048 .bf16 := iblk m c 0 t
def shard0 (t : Fin cfg0.N) : Vec Ideal S1x2048x1408 .bf16 := iblk m c 1 t
def shard1 (t : Fin cfg0.N) : Vec Ideal S1x2048x1408 .bf16 := iblk m c 2 t

theorem V_shards : V m c main_v1 = shards (m ((c : Thread nD τ).loc main_arg1)) := by
  unfold_abbrev_sides; after_reads_simp; rfl

/-- Which block each window holds at a grid point. -/
theorem idx : ∀ t : Fin cfg0.N, win0_0.index t = ![t.val / 4, 0] ∧ win0_1.index t = ![t.val % 4, 0, 0]
    ∧ win0_2.index t = ![t.val % 4 + 4, 0, 0] ∧ win0_3.index t = ![t.val / 4, t.val % 4]
    ∧ win0_4.index t = ![t.val / 4, t.val % 4] ∧ win0_5.index t = ![t.val / 4, t.val % 4] :=
  (by decide +kernel : ∀ t : Fin grid0.N, _)

theorem input_emb (t : Fin cfg0.N) (r : Fin 512) (k : Fin 2048) (R : Fin 4096) (hR : R.val = t.val / 4 * 512 + r.val) :
    (win0_0.blk t).view.emb (ix2 r k) = ix2 R k := by
  obtain ⟨e, -⟩ := idx t
  blk_ext [e, ix2, hR]

theorem shard0_emb (t : Fin cfg0.N) (k : Fin 2048) (q : Fin 1408) (s : Fin 8) (hs : s.val = t.val % 4) :
    (win0_1.blk t).view.emb (ix3 0 k q) = ix3 s k q := by
  obtain ⟨-, e, -⟩ := idx t
  blk_ext [e, ix3, hs]

theorem shard1_emb (t : Fin cfg0.N) (k : Fin 2048) (q : Fin 1408) (s : Fin 8) (hs : s.val = t.val % 4 + 4) :
    (win0_2.blk t).view.emb (ix3 0 k q) = ix3 s k q := by
  obtain ⟨-, -, e, -⟩ := idx t
  blk_ext [e, ix3, hs]

theorem input_at (t : Fin cfg0.N) (r : Fin 512) (k : Fin 2048) (R : Fin 4096) (hR : R.val = t.val / 4 * 512 + r.val) :
    input m c t (ix2 r k) = m ((c : Thread nD τ).loc main_arg0) (ix2 R k) :=
  congrArg (m ((c : Thread nD τ).loc main_arg0)) (input_emb t r k R hR)

theorem shard0_at (t : Fin cfg0.N) (k : Fin 2048) (q : Fin 1408) (l : Fin 11264) (hl : l.val = t.val % 4 * 1408 + q.val) :
    shard0 m c t (ix3 0 k q) = m ((c : Thread nD τ).loc main_arg1) (ix2 k l) := by
  refine Eq.trans ?_ ((shards_at (m ((c : Thread nD τ).loc main_arg1)) ⟨t.val % 4, by omega⟩ k q).trans ?_)
  · rw [← V_shards, ← shard0_emb t k q ⟨t.val % 4, by omega⟩ rfl]
    rfl
  · exact congrArg (fun l => m ((c : Thread nD τ).loc main_arg1) (ix2 k l)) (Fin.ext hl.symm)

theorem shard1_at (t : Fin cfg0.N) (k : Fin 2048) (q : Fin 1408) (l : Fin 11264) (hl : l.val = 5632 + (t.val % 4 * 1408 + q.val)) :
    shard1 m c t (ix3 0 k q) = m ((c : Thread nD τ).loc main_arg1) (ix2 k l) := by
  refine Eq.trans ?_ ((shards_at (m ((c : Thread nD τ).loc main_arg1)) ⟨t.val % 4 + 4, by omega⟩ k q).trans ?_)
  · rw [← V_shards, ← shard1_emb t k q ⟨t.val % 4 + 4, by omega⟩ rfl]
    rfl
  · exact congrArg (fun l => m ((c : Thread nD τ).loc main_arg1) (ix2 k l)) (Fin.ext (by dsimp only; omega))

/-! ## The result arrays -/

/-- The plain product at an entry. -/
def product (h : Vec Ideal S4096x2048 .bf16) (w : Vec Ideal S2048x11264 .bf16) (r : Fin 4096) (l : Fin 11264) : EReal :=
  ∑ k : Fin 2048, (h (ix2 r k) : EReal) * w (ix2 k l)

/-- Its two halves of columns, and their gated product. -/
def gate (h : Vec Ideal S4096x2048 .bf16) (w : Vec Ideal S2048x11264 .bf16) (i : S4096x5632.Idx) : EReal :=
  product h w (i 0) ⟨(i 1).val, Nat.lt_trans (i 1).isLt (by decide)⟩
def up (h : Vec Ideal S4096x2048 .bf16) (w : Vec Ideal S2048x11264 .bf16) (i : S4096x5632.Idx) : EReal :=
  product h w (i 0) ⟨5632 + (i 1).val, Nat.add_lt_add_left (i 1).isLt 5632⟩
def act (h : Vec Ideal S4096x2048 .bf16) (w : Vec Ideal S2048x11264 .bf16) (i : S4096x5632.Idx) : EReal :=
  gated (gate h w i) (up h w i)

theorem gate_tile (t : Fin cfg0.N) (r : Fin 512) (q : Fin 1408) (i : S4096x5632.Idx)
    (h0 : (i 0 : ℕ) = t.val / 4 * 512 + r.val) (h1 : (i 1 : ℕ) = t.val % 4 * 1408 + q.val) :
    tile (input m c t) (shard0 m c t) (ix2 r q) = gate (m ((c : Thread nD τ).loc main_arg0)) (m ((c : Thread nD τ).loc main_arg1)) i := by
  unfold tile gate product
  refine Finset.sum_congr rfl fun k _ => ?_
  exact congr (congrArg _ (input_at m c t r k (i 0) h0)) (shard0_at m c t k q ⟨(i 1).val, Nat.lt_trans (i 1).isLt (by decide)⟩ h1)

theorem up_tile (t : Fin cfg0.N) (r : Fin 512) (q : Fin 1408) (i : S4096x5632.Idx)
    (h0 : (i 0 : ℕ) = t.val / 4 * 512 + r.val) (h1 : (i 1 : ℕ) = t.val % 4 * 1408 + q.val) :
    tile (input m c t) (shard1 m c t) (ix2 r q) = up (m ((c : Thread nD τ).loc main_arg0)) (m ((c : Thread nD τ).loc main_arg1)) i := by
  unfold tile up product
  refine Finset.sum_congr rfl fun k _ => ?_
  exact congr (congrArg _ (input_at m c t r k (i 0) h0))
    (shard1_at m c t k q ⟨5632 + (i 1).val, Nat.add_lt_add_left (i 1).isLt 5632⟩ (congrArg (5632 + ·) h1))

theorem emb3 (t : Fin cfg0.N) (y : S512x1408.Idx) :
    ((win0_3.blk t).view.emb y 0 : ℕ) = t.val / 4 * 512 + (y 0).val ∧ ((win0_3.blk t).view.emb y 1 : ℕ) = t.val % 4 * 1408 + (y 1).val := by
  obtain ⟨-, -, -, e, -, -⟩ := idx t
  constructor <;> blk_simp [e] <;> omega

theorem emb4 (t : Fin cfg0.N) (y : S512x1408.Idx) : (win0_4.blk t).view.emb y = (win0_3.blk t).view.emb y := by
  obtain ⟨-, -, -, e3, e4, -⟩ := idx t
  blk_ext [e3, e4]

theorem emb5 (t : Fin cfg0.N) (y : S512x1408.Idx) : (win0_5.blk t).view.emb y = (win0_3.blk t).view.emb y := by
  obtain ⟨-, -, -, e3, -, e5⟩ := idx t
  blk_ext [e3, e5]

/-- The two products a point computes, at an entry of its tile. -/
theorem gate_at (t : Fin cfg0.N) (y : S512x1408.Idx) : tile (input m c t) (shard0 m c t) y
    = gate (m ((c : Thread nD τ).loc main_arg0)) (m ((c : Thread nD τ).loc main_arg1)) ((win0_3.blk t).view.emb y) :=
  (congrArg (tile (input m c t) (shard0 m c t)) (ValueIdx.eq_ix2 y)).trans (gate_tile m c t (y 0) (y 1) _ (emb3 t y).1 (emb3 t y).2)

theorem up_at (t : Fin cfg0.N) (y : S512x1408.Idx) : tile (input m c t) (shard1 m c t) y
    = up (m ((c : Thread nD τ).loc main_arg0)) (m ((c : Thread nD τ).loc main_arg1)) ((win0_3.blk t).view.emb y) :=
  (congrArg (tile (input m c t) (shard1 m c t)) (ValueIdx.eq_ix2 y)).trans (up_tile m c t (y 0) (y 1) _ (emb3 t y).1 (emb3 t y).2)

theorem gate_final : (dats m 0 c).arrAt 3 cfg0.N
    = (gate (m ((c : Thread nD τ).loc main_arg0)) (m ((c : Thread nD τ).loc main_arg1)) : Vec Ideal S4096x5632 .bf16) := by
  refine (dats m 0 c).arrAt_eq_of_covers 3 _ (by decide +kernel) fun t hf y => ?_
  exact (congrFun (after0_3 m c t) y).trans ((gate_block _ _ _ y).trans (gate_at m c t y))

theorem up_final : (dats m 0 c).arrAt 4 cfg0.N
    = (up (m ((c : Thread nD τ).loc main_arg0)) (m ((c : Thread nD τ).loc main_arg1)) : Vec Ideal S4096x5632 .bf16) := by
  refine (dats m 0 c).arrAt_eq_of_covers 4 _ (by decide +kernel) fun t hf y => ?_
  exact (congrFun (after0_4 m c t) y).trans ((up_block _ _ _ y).trans ((up_at m c t y).trans (congrArg (up _ _) (emb4 t y).symm)))

theorem act_final : (dats m 0 c).arrAt 5 cfg0.N
    = (act (m ((c : Thread nD τ).loc main_arg0)) (m ((c : Thread nD τ).loc main_arg1)) : Vec Ideal S4096x5632 .bf16) := by
  refine (dats m 0 c).arrAt_eq_of_covers 5 _ (by decide +kernel) fun t hf y => ?_
  refine (congrFun (after0_5 m c t) y).trans ((act_block _ _ _ y).trans ?_)
  exact (congr (congrArg gated (gate_at m c t y)) (up_at m c t y)).trans (congrArg (act _ _) (emb5 t y).symm)

end Cert.Kernel6Ideal.Array
-- ==== Proof.UpReference.lean ====
/-
  THE PLAIN GATE, UP AND GATED PRODUCT. The reference splits `h @ w_gate_up` in two halves of columns and multiplies the
  second by `silu` of the first, with `1 / (1 + exp (-g))` the logistic function.
-/
module

public import proofs.«01_k».proof.Proof.UpArray
public import proofs.«01_k».proof.Proof.Gen.Reference6Ideal.Read
public import proofs.«01_k».proof.Proof.GateReference

@[expose] public section

noncomputable section

namespace Cert.Reference6Ideal.Entry

open Idealize.ShloMosaic Cert.Reference6Ideal Cert.Reference6Ideal.Gen Cert.Reference6Ideal.Read
open Cert.Kernel6Ideal.Array (product gate up act)

variable (h : Vec Ideal S4096x2048 .bf16) (w : Vec Ideal S2048x11264 .bf16)

theorem product_apply (i : S4096x11264.Idx) : val_main_v2 (F := Ideal) h w i = product h w (i 0) (i 1) := by
  rw [val_main_v2_apply]
  refine Finset.sum_congr rfl fun k _ => ?_
  rw [val_main_v0_apply, val_main_v1_apply]
  have hl : lidx_main_v2 i k = ix2 (i 0) k := ValueIdx.eq_ix2 _
  have hr : ridx_main_v2 i k = ix2 k (i 1) := ValueIdx.eq_ix2 _
  rw [hl, hr]
  rfl

theorem gate_apply (i : S4096x5632.Idx) : val_main_v3 (F := Ideal) h w i = gate h w i := by
  rw [val_main_v3_apply, product_apply]
  rfl

theorem up_apply (i : S4096x5632.Idx) : val_main_v4 (F := Ideal) h w i = up h w i := by
  rw [val_main_v4_apply, product_apply]
  rfl

/-- The logistic function of the gate. -/
theorem sig_apply (i : S4096x5632.Idx) : val_main_call0_v5 (F := Ideal) h w i = Ideal.logistic (gate h w i) := by
  rw [val_main_call0_v5_apply, val_main_call0_v3_apply, val_main_call0_v4_apply, val_main_call0_v2_apply,
    val_main_call0_cst_0_apply, val_main_call0_cst_apply, Cert.Reference2Ideal.Entry.one_word,
    val_main_call0_v1_apply, val_main_call0_v0_apply, gate_apply]
  rfl

theorem gate_eq : val_main_v7 (F := Ideal) h w = (gate h w : Vec Ideal S4096x5632 .bf16) := by
  funext i
  exact (val_main_v7_apply h w i).trans (gate_apply h w i)

theorem up_eq : val_main_v8 (F := Ideal) h w = (up h w : Vec Ideal S4096x5632 .bf16) := by
  funext i
  exact (val_main_v8_apply h w i).trans (up_apply h w i)

theorem act_eq : val_main_v9 (F := Ideal) h w = (act h w : Vec Ideal S4096x5632 .bf16) := by
  funext i
  rw [val_main_v9_apply, val_main_v6_apply, val_main_v5_apply, gate_apply, up_apply, sig_apply]
  rfl

end Cert.Reference6Ideal.Entry
-- ==== Proof.UpClaims.lean ====
/-
  THE CLAIMS ABOUT GATE, UP AND THEIR GATED PRODUCT: the kernel and its plain reference run, keep their arguments and leave
  every counter at zero; read over the extended reals the two leave the same three arrays.
-/
module

public import proofs.«01_k».proof.Defs
public import proofs.«01_k».proof.Proof.UpReference
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent

@[expose] public section

noncomputable section

namespace Cert.Proof.UpClaims

open Idealize.ShloMosaic Idealize.ShloMosaic.TcCoe Idealize.SL.Sem

theorem frame : Cert.quiescent_Kernel6 := fun m ρ _ => Cert.Kernel6.Gen.frame m ρ
theorem frame_ideal : Cert.quiescent_Kernel6Ideal := fun m ρ _ => Cert.Kernel6Ideal.Gen.frame m ρ

/-- The reference's run with its counters: it has none. -/
theorem frame_reference : Cert.quiescent_Reference6Ideal := fun m ρ _ =>
  (θ_run Cert.Reference6Ideal.defs _ _).mono
    (fun r h => ⟨fun c => (h c).2.2.2, sem_eq_zero_of_no_sems (by decide) r.2⟩)
    (Cert.Reference6Ideal.Value.run (F := Ideal) m ρ)

theorem algebraic : Cert.algebraic_Kernel6Ideal_Reference6Ideal := by
  intro m ρ m' ρ' _ hagree
  refine ⟨_, _, _,
    (θ_run Cert.Kernel6Ideal.defs _ _).mono (fun r h c => ⟨(h c).1.trans (Cert.Kernel6Ideal.Array.gate_final m c),
      (h c).2.1.trans (Cert.Kernel6Ideal.Array.up_final m c), (h c).2.2.1.trans (Cert.Kernel6Ideal.Array.act_final m c), (h c).2.2.2⟩)
      (Cert.Kernel6Ideal.Value.run_blocks m ρ),
    (θ_run Cert.Reference6Ideal.defs _ _).mono (fun r h c => ⟨(h c).1.trans ?_, (h c).2.1.trans ?_, (h c).2.2.1.trans ?_, (h c).2.2.2⟩)
      (Cert.Reference6Ideal.Value.run (F := Ideal) m' ρ')⟩
  all_goals
    obtain ⟨h0, h1⟩ := hagree c
    rw [h0, h1]
  · exact (Cert.Reference6Ideal.Read.val_main_v7_eq _ _).trans (Cert.Reference6Ideal.Entry.gate_eq _ _)
  · exact (Cert.Reference6Ideal.Read.val_main_v8_eq _ _).trans (Cert.Reference6Ideal.Entry.up_eq _ _)
  · exact (Cert.Reference6Ideal.Read.val_main_v9_eq _ _).trans (Cert.Reference6Ideal.Entry.act_eq _ _)

end Cert.Proof.UpClaims
-- ==== Proof.OutArray.lean ====
/-
  THE FEED-FORWARD BLOCK'S OUTPUT. A result block is accumulated over two grid points, each of which adds the product over
  2816 columns of the activation; the second adds the block's input and writes the sum back. Summed up, the result array is
  the plain product added to the input.
-/
module

public import proofs.«01_k».proof.Proof.Gen.Kernel7Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

@[expose] public section

set_option maxRecDepth 16384

noncomputable section

namespace Cert.Kernel7Ideal.Array

open Idealize.ShloMosaic Idealize.ShloMosaic.TcCoe Cert.Kernel7Ideal Cert.Kernel7Ideal.Gen

/-- The part of a block that 2816 columns give. -/
theorem first_at (a : Vec Ideal S1024x2816 .bf16) (w : Vec Ideal S2816x1024 .bf16) (y : S1024x1024.Idx) :
    k0_pay2 (F := Ideal) a w y = (0 + ∑ k : Fin 2816, (a (ix2 (y 0) k) : EReal) * w (ix2 k (y 1)) : EReal) := by
  pointwise [k0_pay2, k0_pay1]

theorem next_at (a : Vec Ideal S1024x2816 .bf16) (w : Vec Ideal S2816x1024 .bf16) (s : Vec Ideal S1024x1024 .f32) (y : S1024x1024.Idx) :
    k0_pay3 (F := Ideal) a w s y = ((s y : EReal) + ∑ k : Fin 2816, (a (ix2 (y 0) k) : EReal) * w (ix2 k (y 1)) : EReal) := by
  pointwise [k0_pay3, k0_pay1]

variable (m : (ℓ : Loc nD τ sig) → Buf (Elt Ideal) ℓ) (c : Dev nD)

/-- The columns of the activation and the rows of the weight that a point holds, and its block of the input. -/
def act (t : Fin cfg0.N) : Vec Ideal S1024x2816 .bf16 := iblk m c 0 t
def weight (t : Fin cfg0.N) : Vec Ideal S2816x1024 .bf16 := iblk m c 1 t
def input (t : Fin cfg0.N) : Vec Ideal S1024x1024 .f32 := iblk m c 2 t

/-- What a point adds to its block. -/
def part (t : Fin cfg0.N) (y : S1024x1024.Idx) : EReal :=
  ∑ k : Fin 2816, (act m c t (ix2 (y 0) k) : EReal) * weight m c t (ix2 k (y 1))

theorem acc_first (t : Fin cfg0.N) (h : t.val % 2 = 0) (y : S1024x1024.Idx) :
    ((outsAt0 m c t.val t.isLt).2 y : EReal) = 0 + part m c t y := by
  rw [outsAt0_A m c t h (by omega) (by omega)]
  frame_out
  exact first_at _ _ y

theorem acc_next (t : Fin cfg0.N) (h : ¬t.val % 2 = 0) (y : S1024x1024.Idx) :
    ((outsAt0 m c t.val t.isLt).2 y : EReal)
      = (outsAt0 m c (t.val - 1) (Nat.lt_of_le_of_lt (Nat.sub_le _ _) t.isLt)).2 y + part m c t y := by
  rw [outsAt0_B m c t h (by omega) (by omega)]
  frame_out
  refine (next_at _ _ _ y).trans (congrArg (· + part m c t y) ?_)
  exact congrFun (Memref.IsWhole.read_unread _ _) y

theorem acc_last (t : Fin cfg0.N) (h : t.val % 2 = 1) (y : S1024x1024.Idx) :
    ((outsAt0 m c t.val t.isLt).1 y : EReal) = (outsAt0 m c t.val t.isLt).2 y + input m c t y := by
  rw [outsAt0_B m c t (by omega) (by omega) h]
  frame_out
  rfl

/-- The plain product added to the input: rows of the activation against columns of the weight. -/
def out (a : Vec Ideal S4096x5632 .bf16) (w : Vec Ideal S5632x2048 .bf16) (x : Vec Ideal S4096x2048 .f32) : Vec Ideal S4096x2048 .f32 :=
  fun i => ((∑ l : Fin 5632, (a (ix2 (i 0) l) : EReal) * w (ix2 l (i 1))) + (x i : EReal) : EReal)

/-- Which block each window holds at a grid point. -/
theorem idx : ∀ t : Fin cfg0.N, win0_0.index t = ![t.val / 4, t.val % 2] ∧ win0_1.index t = ![t.val % 2, t.val / 2 % 2]
    ∧ win0_2.index t = ![t.val / 4, t.val / 2 % 2] ∧ win0_3.index t = ![t.val / 4, t.val / 2 % 2] :=
  (by decide +kernel : ∀ t : Fin grid0.N, _)

theorem act_emb (t u : Fin cfg0.N) (h : u.val / 4 = t.val / 4) (y : S1024x1024.Idx) (k : Fin 2816) (l : Fin 5632)
    (hl : l.val = u.val % 2 * 2816 + k.val) :
    (win0_0.blk u).view.emb (ix2 (y 0) k) = ix2 ((win0_3.blk t).view.emb y 0) l := by
  obtain ⟨e0, -, -, -⟩ := idx u
  obtain ⟨-, -, -, e3⟩ := idx t
  blk_ext [e0, e3, ix2, hl, h]

theorem weight_emb (t u : Fin cfg0.N) (h : u.val / 2 % 2 = t.val / 2 % 2) (y : S1024x1024.Idx) (k : Fin 2816) (l : Fin 5632)
    (hl : l.val = u.val % 2 * 2816 + k.val) :
    (win0_1.blk u).view.emb (ix2 k (y 1)) = ix2 l ((win0_3.blk t).view.emb y 1) := by
  obtain ⟨-, e1, -, -⟩ := idx u
  obtain ⟨-, -, -, e3⟩ := idx t
  blk_ext [e1, e3, ix2, hl, h]

theorem input_emb (t : Fin cfg0.N) (y : S1024x1024.Idx) : (win0_2.blk t).view.emb y = (win0_3.blk t).view.emb y := by
  obtain ⟨-, -, e2, e3⟩ := idx t
  blk_ext [e2, e3]

theorem final : (dats m 0 c).arrAt 3 cfg0.N
    = out (m ((c : Thread nD τ).loc main_arg0)) (m ((c : Thread nD τ).loc main_arg1)) (m ((c : Thread nD τ).loc main_arg2)) := by
  refine (dats m 0 c).arrAt_eq_of_covers 3 _ (by decide +kernel) fun t hf y => ?_
  have hN := lt_of_lt_of_eq t.isLt N_0
  have h1 : t.val % 2 = 1 := (flush0_3 t).mp hf
  refine (congrFun (after0_3 m c t) y).trans ((acc_last m c t h1 y).trans ?_)
  refine congr (congrArg _ ?_) (congrArg (m ((c : Thread nD τ).loc main_arg2)) (input_emb t y))
  refine (Pipeline.eq_sum_fin_of_reset_step_apply_of_flush (M := EReal) (fun n h => (outsAt0 m c n h).2) 2 (fun _ => 0) (part m c)
    (fun t h y => acc_first m c t h y) (fun t h y => acc_next m c t h y) t h1 y).trans ?_
  rw [zero_add]
  refine Eq.trans ?_ (Fin.sum_univ_tiles 2 2816 rfl _).symm
  refine Finset.sum_congr rfl fun s _ => Finset.sum_congr rfl fun k _ => ?_
  refine congr (congrArg _ ?_) ?_
  · exact congrArg (m ((c : Thread nD τ).loc main_arg0)) (act_emb t _ (by dsimp only; omega) y k _ (by dsimp only; omega))
  · exact congrArg (m ((c : Thread nD τ).loc main_arg1)) (weight_emb t _ (by dsimp only; omega) y k _ (by dsimp only; omega))

end Cert.Kernel7Ideal.Array
-- ==== Proof.OutReference.lean ====
/-
  THE PLAIN OUTPUT OF THE FEED-FORWARD BLOCK. The reference computes `x + act @ w_down`; its result is the sum of
  `OutArray` with the terms in the other order.
-/
module

public import proofs.«01_k».proof.Proof.OutArray
public import proofs.«01_k».proof.Proof.Gen.Reference7Ideal.Read

@[expose] public section

noncomputable section

namespace Cert.Reference7Ideal.Entry

open Idealize.ShloMosaic Cert.Reference7Ideal Cert.Reference7Ideal.Gen Cert.Reference7Ideal.Read

theorem out_eq (a : Vec Ideal S4096x5632 .bf16) (w : Vec Ideal S5632x2048 .bf16) (x : Vec Ideal S4096x2048 .f32) :
    val_main_v3 (F := Ideal) a w x = Cert.Kernel7Ideal.Array.out a w x := by
  funext i
  unfold Cert.Kernel7Ideal.Array.out
  rw [val_main_v3_apply, val_main_v2_apply]
  refine (add_comm (x i : EReal) _).trans (congrArg (· + (x i : EReal)) (Finset.sum_congr rfl fun l _ => ?_))
  rw [val_main_v0_apply, val_main_v1_apply]
  have hl : lidx_main_v2 i l = ix2 (i 0) l := ValueIdx.eq_ix2 _
  have hr : ridx_main_v2 i l = ix2 l (i 1) := ValueIdx.eq_ix2 _
  rw [hl, hr]
  rfl

end Cert.Reference7Ideal.Entry
-- ==== Proof.OutClaims.lean ====
/-
  THE CLAIMS ABOUT THE FEED-FORWARD BLOCK'S OUTPUT: the kernel and its plain reference run, keep their arguments and leave
  every counter at zero; read over the extended reals the two leave the same array.
-/
module

public import proofs.«01_k».proof.Defs
public import proofs.«01_k».proof.Proof.OutReference
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent

@[expose] public section

noncomputable section

namespace Cert.Proof.OutClaims

open Idealize.ShloMosaic Idealize.ShloMosaic.TcCoe Idealize.SL.Sem

theorem frame : Cert.quiescent_Kernel7 := fun m ρ _ => Cert.Kernel7.Gen.frame m ρ
theorem frame_ideal : Cert.quiescent_Kernel7Ideal := fun m ρ _ => Cert.Kernel7Ideal.Gen.frame m ρ

/-- The reference's run with its counters: it has none. -/
theorem frame_reference : Cert.quiescent_Reference7Ideal := fun m ρ _ =>
  (θ_run Cert.Reference7Ideal.defs _ _).mono
    (fun r h => ⟨fun c => (h c).2, sem_eq_zero_of_no_sems (by decide) r.2⟩)
    (Cert.Reference7Ideal.Value.run (F := Ideal) m ρ)

theorem algebraic : Cert.algebraic_Kernel7Ideal_Reference7Ideal := by
  intro m ρ m' ρ' _ hagree
  refine ⟨_,
    (θ_run Cert.Kernel7Ideal.defs _ _).mono (fun r h c => ⟨(h c).1.trans (Cert.Kernel7Ideal.Array.final m c), (h c).2⟩)
      (Cert.Kernel7Ideal.Value.run_blocks m ρ),
    (θ_run Cert.Reference7Ideal.defs _ _).mono (fun r h c => ⟨(h c).1.trans ?_, (h c).2⟩)
      (Cert.Reference7Ideal.Value.run (F := Ideal) m' ρ')⟩
  obtain ⟨h0, h1, h2⟩ := hagree c
  rw [h0, h1, h2]
  exact (Cert.Reference7Ideal.Read.val_main_v3_eq _ _ _).trans (Cert.Reference7Ideal.Entry.out_eq _ _ _)

end Cert.Proof.OutClaims
-- ==== Proof.NormMath.lean ====
/-
  THE GRADIENT OF A NORMALISED ROW, ONE ENTRY AT A TIME. A row `x` of length 2048 is scaled by `r = 1 / √(mean x² + e)` and by
  a gain. With `y` the cotangent times the gain, the kernel writes the row's gradient as `r (y - x r mean (y x r))`; the plain
  derivative reaches `x` along three ways, `y r` and twice `x` times the derivative of `r`, which is `-½ r / (mean x² + e)`.
  For real rows the two are one number, since `r² = 1 / (mean x² + e)`.
-/
module

public import Idealize.ShloMosaic.PureOps.Ideal
public import Idealize.ShloMosaic.PureOps.Ideal.Laws

@[expose] public section

noncomputable section

namespace Cert.Norm

open Idealize.ShloMosaic

/-- The mean of a row's squares with the small constant added, and the row's scale. -/
def level (e : EReal) (x : Fin 2048 → EReal) : EReal := Ideal.div (∑ k, x k * x k) ((2048 : ℝ) : EReal) + e
def scale (e : EReal) (x : Fin 2048 → EReal) : EReal := Ideal.rsqrt (level e x)

/-- The mean the kernel subtracts, and its entry of the gradient added to what passes the block by. -/
def mean (e : EReal) (x y : Fin 2048 → EReal) : EReal := Ideal.div (∑ k, y k * (x k * scale e x)) ((2048 : ℝ) : EReal)
def dnorm (e : EReal) (x y : Fin 2048 → EReal) (p : EReal) (i : Fin 2048) : EReal :=
  p + scale e x * (y i - x i * scale e x * mean e x y)

/-- The derivative that reaches `x` through the scale, in the order the chain rule gives. -/
def through (e : EReal) (x y : Fin 2048 → EReal) : EReal :=
  Ideal.div ((∑ k, x k * y k) * (((-1 / 2 : ℝ) : EReal) * Ideal.div (scale e x) (level e x))) ((2048 : ℝ) : EReal)

theorem coe_sum (f : Fin 2048 → ℝ) : ∑ k, (f k : EReal) = ((∑ k, f k : ℝ) : EReal) :=
  (map_sum (⟨⟨Real.toEReal, rfl⟩, EReal.coe_add⟩ : ℝ →+ EReal) f Finset.univ).symm

theorem dnorm_eq (e : ℝ) (he : 0 < e) (x y : Fin 2048 → EReal) (hx : ∀ k, ∃ r : ℝ, x k = r) (hy : ∀ k, ∃ r : ℝ, y k = r)
    (p : EReal) (i : Fin 2048) :
    dnorm e x y p i = p + y i * scale e x + x i * through e x y + through e x y * x i := by
  choose a ha using hx
  choose b hb using hy
  obtain rfl : x = fun k => (a k : EReal) := funext ha
  obtain rfl : y = fun k => (b k : EReal) := funext hb
  have h2 : (2048 : ℝ) ≠ 0 := by norm_num
  have hu : 0 < (∑ k, a k * a k) * (1 / 2048) + e :=
    add_pos_of_nonneg_of_pos (mul_nonneg (Finset.sum_nonneg fun k _ => mul_self_nonneg _) (by norm_num)) he
  have hl : level e (fun k => (a k : EReal)) = (((∑ k, a k * a k) * (1 / 2048) + e : ℝ) : EReal) := by
    unfold level
    rw [Ideal.div_coe h2]
    simp only [← EReal.coe_mul, coe_sum, ← EReal.coe_add]
  generalize hU : (∑ k, a k * a k) * (1 / 2048) + e = u at hu hl
  have hs : scale e (fun k => (a k : EReal)) = (((Real.sqrt u)⁻¹ : ℝ) : EReal) := by
    unfold scale
    rw [hl, Ideal.rsqrt_coe, if_neg hu.not_gt, if_neg hu.ne']
  have hr : (Real.sqrt u)⁻¹ * (Real.sqrt u)⁻¹ = 1 / u := by
    rw [← mul_inv, Real.mul_self_sqrt hu.le, one_div]
  generalize (Real.sqrt u)⁻¹ = r at hs hr
  have hm : mean e (fun k => (a k : EReal)) (fun k => (b k : EReal)) = ((r * (∑ k, a k * b k) * (1 / 2048) : ℝ) : EReal) := by
    unfold mean
    rw [Ideal.div_coe h2, hs]
    simp only [← EReal.coe_mul, coe_sum, Finset.mul_sum]
    exact congrArg (fun z : ℝ => ((z * (1 / 2048) : ℝ) : EReal)) (Finset.sum_congr rfl fun k _ => by ring)
  have ht : through e (fun k => (a k : EReal)) (fun k => (b k : EReal))
      = (((∑ k, a k * b k) * (-1 / 2 * (r * (1 / u))) * (1 / 2048) : ℝ) : EReal) := by
    unfold through
    rw [Ideal.div_coe h2, hs, hl, Ideal.div_coe hu.ne']
    simp only [← EReal.coe_mul, coe_sum]
  unfold dnorm
  rw [hm, ht, hs, add_assoc, add_assoc]
  refine congrArg (p + ·) ?_
  simp only [← EReal.coe_mul, ← EReal.coe_sub, ← EReal.coe_add]
  refine congrArg Real.toEReal ?_
  rw [← hr]
  ring

/-- The words of the length and of the small constant. -/
theorem length_word : Ideal.ofBits .f32 0x45000000#32 = ((2048 : ℝ) : EReal) := by
  simp [Ideal.ofBits, Ideal.ieee, -EReal.coe_mul]; norm_num
def eps : EReal := Ideal.ofBits .f32 0x358637BD#32
theorem eps_pos : ∃ e : ℝ, 0 < e ∧ eps = (e : EReal) := by
  refine ⟨8796093 * (2 ^ (-43 : ℤ) : ℝ), by positivity, ?_⟩
  unfold eps
  simp [Ideal.ofBits, Ideal.ieee, -EReal.coe_mul]
theorem minus_half_word : Ideal.ofBits .f32 0xBF000000#32 = ((-1 / 2 : ℝ) : EReal) := by
  simp [Ideal.ofBits, Ideal.ieee, -EReal.coe_mul]; norm_num

end Cert.Norm
-- ==== Proof.NormArray.lean ====
/-
  THE NORM'S GRADIENT. A grid point holds 512 rows; it writes their gradients, in two precisions, and adds its rows' part to
  the gain's gradient, which stays in its block over the eight points. The result arrays are the plain ones of `NormMath`.
-/
module

public import proofs.«01_k».proof.Proof.NormMath
public import proofs.«01_k».proof.Proof.Gen.Kernel8Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Claim
public import Idealize.ShloMosaic.Lib.StableHlo.RunRead
public import Idealize.ShloMosaic.Lib.Pointwise

@[expose] public section

set_option maxRecDepth 16384

noncomputable section

namespace Cert.Kernel8Ideal.Array

open Idealize.ShloMosaic Idealize.ShloMosaic.TcCoe Cert.Kernel8Ideal Cert.Kernel8Ideal.Gen
open Cert.Norm (eps scale level mean dnorm)

/-! ## One grid point -/

/-- A row of a point's block, and its cotangent times the gain. -/
def row (x : Vec Ideal S512x2048 .f32) (r : Fin 512) (k : Fin 2048) : EReal := x (ix2 r k)
def gained (d : Vec Ideal S512x2048 .f32) (g : Vec Ideal S1x2048 .f32) (r : Fin 512) (k : Fin 2048) : EReal :=
  d (ix2 r k) * g (ix2 0 k)

theorem scale_at (x : Vec Ideal S512x2048 .f32) (y : S512x1.Idx) : k0_pay4 (F := Ideal) x y = scale eps (row x (y 0)) := by
  unfold scale level eps row
  rw [← Norm.length_word]
  pointwise [k0_pay4]

theorem unit_at (x : Vec Ideal S512x2048 .f32) (y : S512x2048.Idx) :
    k0_pay5 (F := Ideal) x y = (x y * scale eps (row x (y 0)) : EReal) := by
  pointwise [k0_pay5, scale_at]

theorem gain_at (x d : Vec Ideal S512x2048 .f32) (s : Vec Ideal S1x2048 .f32) (y : S1x2048.Idx) :
    k0_pay6 (F := Ideal) x d s y = (s y + ∑ r : Fin 512, (d (ix2 r (y 1)) : EReal) * (x (ix2 r (y 1)) * scale eps (row x r)) : EReal) := by
  pointwise [k0_pay6, unit_at]

theorem through_at (x d : Vec Ideal S512x2048 .f32) (g : Vec Ideal S1x2048 .f32) (r : Fin 512) (k : Fin 2048) :
    k0_pay7 (F := Ideal) x d g (ix2 r k)
      = (scale eps (row x r) * (gained d g r k - row x r k * scale eps (row x r) * mean eps (row x r) (gained d g r)) : EReal) := by
  unfold mean gained
  rw [← Norm.length_word]
  pointwise [k0_pay7, unit_at, scale_at]
  rfl

theorem sum_at (p : Vec Ideal S512x2048 .f32) (z : Vec Ideal S512x2048 .f32) (y : S512x2048.Idx) :
    k0_pay1 (F := Ideal) p z y = ((p y : EReal) + z y : EReal) := rfl

variable (m : (ℓ : Loc nD τ sig) → Buf (Elt Ideal) ℓ) (c : Dev nD)

/-- The blocks a point holds: rows of the input, the gain, rows of the cotangent, rows of what passes the block by. -/
def input (t : Fin cfg0.N) : Vec Ideal S512x2048 .f32 := iblk m c 0 t
def gain (t : Fin cfg0.N) : Vec Ideal S1x2048 .f32 := iblk m c 1 t
def cot (t : Fin cfg0.N) : Vec Ideal S512x2048 .f32 := iblk m c 2 t
def past (t : Fin cfg0.N) : Vec Ideal S512x2048 .f32 := iblk m c 3 t

/-- What a point writes of the rows' gradient, and what it adds to the gain's. -/
def block (t : Fin cfg0.N) (y : S512x2048.Idx) : EReal :=
  dnorm eps (row (input m c t) (y 0)) (gained (cot m c t) (gain m c t) (y 0)) (past m c t y) (y 1)
def part (t : Fin cfg0.N) (y : S1x2048.Idx) : EReal :=
  ∑ r : Fin 512, (cot m c t (ix2 r (y 1)) : EReal) * (input m c t (ix2 r (y 1)) * scale eps (row (input m c t) r))

theorem block_eq (t : Fin cfg0.N) (y : S512x2048.Idx) :
    k0_pay1 (F := Ideal) (past m c t) (k0_pay7 (input m c t) (cot m c t) (gain m c t)) y = block m c t y :=
  (sum_at _ _ y).trans (congrArg ((past m c t y : EReal) + ·)
    ((congrArg (k0_pay7 (F := Ideal) (input m c t) (cot m c t) (gain m c t)) (ValueIdx.eq_ix2 y)).trans (through_at _ _ _ (y 0) (y 1))))

theorem rows_out (t : Fin cfg0.N) (y : S512x2048.Idx) : ((outsAt0 m c t.val t.isLt).1 y : EReal) = block m c t y := by
  refine Eq.trans ?_ (block_eq m c t y)
  by_cases h : t.val % 8 = 0
  · rw [outsAt0_A m c t h]
    frame_out
    rfl
  · rw [outsAt0_B m c t h]
    frame_out
    rfl

theorem rounded_out (t : Fin cfg0.N) (y : S512x2048.Idx) : ((outsAt0 m c t.val t.isLt).2.1 y : EReal) = block m c t y := by
  refine Eq.trans ?_ (block_eq m c t y)
  by_cases h : t.val % 8 = 0
  · rw [outsAt0_A m c t h]
    frame_out
    rfl
  · rw [outsAt0_B m c t h]
    frame_out
    rfl

theorem gain_first (t : Fin cfg0.N) (h : t.val % 8 = 0) (y : S1x2048.Idx) :
    ((outsAt0 m c t.val t.isLt).2.2 y : EReal) = 0 + part m c t y := by
  rw [outsAt0_A m c t h]
  frame_out
  refine (gain_at _ _ _ y).trans (congrArg (· + part m c t y) ?_)
  pointwise [k0_pay3]

theorem gain_next (t : Fin cfg0.N) (h : ¬t.val % 8 = 0) (y : S1x2048.Idx) :
    ((outsAt0 m c t.val t.isLt).2.2 y : EReal)
      = (outsAt0 m c (t.val - 1) (Nat.lt_of_le_of_lt (Nat.sub_le _ _) t.isLt)).2.2 y + part m c t y := by
  rw [outsAt0_B m c t h]
  frame_out
  refine (gain_at _ _ _ y).trans (congrArg (· + part m c t y) ?_)
  rfl

/-! ## The result arrays -/

/-- A row of the input, and its cotangent times the gain. -/
def line (x : Vec Ideal S4096x2048 .f32) (r : Fin 4096) (k : Fin 2048) : EReal := x (ix2 r k)
def weighted (d : Vec Ideal S4096x2048 .f32) (g : Vec Ideal S2048 .f32) (r : Fin 4096) (k : Fin 2048) : EReal :=
  d (ix2 r k) * g (ix1 k)

/-- The gradient of the rows with what passes the block by, and the gradient of the gain. -/
def dx (x : Vec Ideal S4096x2048 .f32) (g : Vec Ideal S2048 .f32) (d p : Vec Ideal S4096x2048 .f32) (i : S4096x2048.Idx) : EReal :=
  dnorm eps (line x (i 0)) (weighted d g (i 0)) (p i) (i 1)
def term (x d : Vec Ideal S4096x2048 .f32) (k : Fin 2048) (r : Fin 4096) : EReal :=
  d (ix2 r k) * (x (ix2 r k) * scale eps (line x r))
def dgain (x d : Vec Ideal S4096x2048 .f32) (i : S1x2048.Idx) : EReal := ∑ r : Fin 4096, term x d (i 1) r

/-- Which block each window holds at a grid point. -/
theorem idx : ∀ t : Fin cfg0.N, win0_0.index t = ![t.val, 0] ∧ win0_1.index t = ![0, 0] ∧ win0_2.index t = ![t.val, 0]
    ∧ win0_3.index t = ![t.val, 0] ∧ win0_4.index t = ![t.val, 0] ∧ win0_5.index t = ![t.val, 0] ∧ win0_6.index t = ![0, 0] :=
  (by decide +kernel : ∀ t : Fin grid0.N, _)

theorem input_emb (t : Fin cfg0.N) (r : Fin 512) (k : Fin 2048) (R : Fin 4096) (hR : R.val = t.val * 512 + r.val) :
    (win0_0.blk t).view.emb (ix2 r k) = ix2 R k := by
  obtain ⟨e, -⟩ := idx t
  blk_ext [e, ix2, hR]

theorem gain_emb (t : Fin cfg0.N) (k : Fin 2048) : (win0_1.blk t).view.emb (ix2 0 k) = ix2 0 k := by
  obtain ⟨-, e, -⟩ := idx t
  blk_ext [e, ix2]

theorem cot_emb (t : Fin cfg0.N) (r : Fin 512) (k : Fin 2048) (R : Fin 4096) (hR : R.val = t.val * 512 + r.val) :
    (win0_2.blk t).view.emb (ix2 r k) = ix2 R k := by
  obtain ⟨-, -, e, -⟩ := idx t
  blk_ext [e, ix2, hR]

theorem past_emb (t : Fin cfg0.N) (y : S512x2048.Idx) : (win0_3.blk t).view.emb y = (win0_4.blk t).view.emb y := by
  obtain ⟨-, -, -, e, e4, -⟩ := idx t
  blk_ext [e, e4]

theorem out_emb (t : Fin cfg0.N) (y : S512x2048.Idx) :
    ((win0_4.blk t).view.emb y 0 : ℕ) = t.val * 512 + (y 0).val ∧ ((win0_4.blk t).view.emb y 1 : ℕ) = (y 1).val := by
  obtain ⟨-, -, -, -, e, -⟩ := idx t
  constructor <;> blk_simp [e] <;> omega

theorem rounded_emb (t : Fin cfg0.N) (y : S512x2048.Idx) : (win0_5.blk t).view.emb y = (win0_4.blk t).view.emb y := by
  obtain ⟨-, -, -, -, e4, e5, -⟩ := idx t
  blk_ext [e4, e5]

theorem total_emb (t : Fin cfg0.N) (y : S1x2048.Idx) : ((win0_6.blk t).view.emb y 1 : ℕ) = (y 1).val := by
  obtain ⟨-, -, -, -, -, -, e⟩ := idx t
  blk_simp [e]

theorem V_gain : V m c main_v0 = shapeCast S1x2048 (m ((c : Thread nD τ).loc main_arg1)) shapeCasts_S2048_S1x2048 := by
  unfold_abbrev_sides; after_reads_simp; rfl

theorem gain_row (g : Vec Ideal S2048 .f32) (k : Fin 2048) : shapeCast S1x2048 g shapeCasts_S2048_S1x2048 (ix2 0 k) = g (ix1 k) := by
  pointwise []

theorem gain_entry (t : Fin cfg0.N) (k : Fin 2048) : gain m c t (ix2 0 k) = m ((c : Thread nD τ).loc main_arg1) (ix1 k) :=
  (congrArg (V m c main_v0) (gain_emb t k)).trans ((congrFun (V_gain m c) _).trans (gain_row _ k))

theorem input_at (t : Fin cfg0.N) (r : Fin 512) (k : Fin 2048) (R : Fin 4096) (hR : R.val = t.val * 512 + r.val) :
    input m c t (ix2 r k) = m ((c : Thread nD τ).loc main_arg0) (ix2 R k) :=
  congrArg (m ((c : Thread nD τ).loc main_arg0)) (input_emb t r k R hR)

theorem cot_at (t : Fin cfg0.N) (r : Fin 512) (k : Fin 2048) (R : Fin 4096) (hR : R.val = t.val * 512 + r.val) :
    cot m c t (ix2 r k) = m ((c : Thread nD τ).loc main_arg2) (ix2 R k) :=
  congrArg (m ((c : Thread nD τ).loc main_arg2)) (cot_emb t r k R hR)

theorem row_at (t : Fin cfg0.N) (r : Fin 512) (R : Fin 4096) (hR : R.val = t.val * 512 + r.val) :
    row (input m c t) r = line (m ((c : Thread nD τ).loc main_arg0)) R :=
  funext fun k => input_at m c t r k R hR

theorem gained_at (t : Fin cfg0.N) (r : Fin 512) (R : Fin 4096) (hR : R.val = t.val * 512 + r.val) :
    gained (cot m c t) (gain m c t) r = weighted (m ((c : Thread nD τ).loc main_arg2)) (m ((c : Thread nD τ).loc main_arg1)) R :=
  funext fun k => by
    unfold gained weighted
    rw [cot_at m c t r k R hR, gain_entry]

theorem term_at (t : Fin cfg0.N) (r : Fin 512) (k : Fin 2048) (R : Fin 4096) (hR : R.val = t.val * 512 + r.val) :
    (cot m c t (ix2 r k) : EReal) * (input m c t (ix2 r k) * scale eps (row (input m c t) r))
      = term (m ((c : Thread nD τ).loc main_arg0)) (m ((c : Thread nD τ).loc main_arg2)) k R := by
  unfold term
  rw [row_at m c t r R hR, input_at m c t r k R hR, cot_at m c t r k R hR]

theorem block_at (t : Fin cfg0.N) (y : S512x2048.Idx) : block m c t y
    = dx (m ((c : Thread nD τ).loc main_arg0)) (m ((c : Thread nD τ).loc main_arg1)) (m ((c : Thread nD τ).loc main_arg2))
      (m ((c : Thread nD τ).loc main_arg3)) ((win0_4.blk t).view.emb y) := by
  unfold block dx
  rw [row_at m c t (y 0) _ (out_emb t y).1, gained_at m c t (y 0) _ (out_emb t y).1]
  exact congr (congrArg _ (congrArg (m ((c : Thread nD τ).loc main_arg3)) (past_emb t y))) (Fin.ext (out_emb t y).2.symm)

theorem rows_final : (dats m 0 c).arrAt 4 cfg0.N
    = (dx (m ((c : Thread nD τ).loc main_arg0)) (m ((c : Thread nD τ).loc main_arg1)) (m ((c : Thread nD τ).loc main_arg2))
      (m ((c : Thread nD τ).loc main_arg3)) : Vec Ideal S4096x2048 .f32) := by
  refine (dats m 0 c).arrAt_eq_of_covers 4 _ (by decide +kernel) fun t hf y => ?_
  exact (congrFun (after0_4 m c t) y).trans ((rows_out m c t y).trans (block_at m c t y))

theorem rounded_final : (dats m 0 c).arrAt 5 cfg0.N
    = (dx (m ((c : Thread nD τ).loc main_arg0)) (m ((c : Thread nD τ).loc main_arg1)) (m ((c : Thread nD τ).loc main_arg2))
      (m ((c : Thread nD τ).loc main_arg3)) : Vec Ideal S4096x2048 .bf16) := by
  refine (dats m 0 c).arrAt_eq_of_covers 5 _ (by decide +kernel) fun t hf y => ?_
  exact (congrFun (after0_5 m c t) y).trans ((rounded_out m c t y).trans ((block_at m c t y).trans (congrArg (dx _ _ _ _) (rounded_emb t y).symm)))

theorem gain_final : (dats m 0 c).arrAt 6 cfg0.N
    = (dgain (m ((c : Thread nD τ).loc main_arg0)) (m ((c : Thread nD τ).loc main_arg2)) : Vec Ideal S1x2048 .f32) := by
  refine (dats m 0 c).arrAt_eq_of_covers 6 _ (by decide +kernel) fun t hf y => ?_
  have hN := lt_of_lt_of_eq t.isLt N_0
  have h7 : t.val % 8 = 7 := by have := (flush0_6 t).mp hf; omega
  refine (congrFun (after0_6 m c t) y).trans ?_
  refine (Pipeline.eq_sum_fin_of_reset_step_apply_of_flush (M := EReal) (fun n h => (outsAt0 m c n h).2.2) 8 (fun _ => 0) (part m c)
    (fun t h y => gain_first m c t h y) (fun t h y => gain_next m c t h y) t h7 y).trans ?_
  rw [zero_add]
  show _ = ∑ r : Fin 4096, term (m ((c : Thread nD τ).loc main_arg0)) (m ((c : Thread nD τ).loc main_arg2)) ((win0_6.blk t).view.emb y 1) r
  rw [show (win0_6.blk t).view.emb y 1 = y 1 from Fin.ext (total_emb t y)]
  refine Eq.trans ?_ (Fin.sum_univ_tiles 8 512 rfl _).symm
  refine Finset.sum_congr rfl fun s _ => Finset.sum_congr rfl fun r _ => ?_
  exact term_at m c _ r _ _ (by dsimp only; omega)

end Cert.Kernel8Ideal.Array
-- ==== Proof.NormReference.lean ====
/-
  THE PLAIN NORM'S GRADIENT. The reference differentiates the identity and the norm of the same rows at two cotangents; its
  results are read here at one entry and are the arrays of `NormArray`.
-/
module

public import proofs.«01_k».proof.Proof.NormArray
public import proofs.«01_k».proof.Proof.Gen.Reference8Ideal.Read

@[expose] public section

noncomputable section

namespace Cert.Reference8Ideal.Entry

open Idealize.ShloMosaic Cert.Reference8Ideal Cert.Reference8Ideal.Gen Cert.Reference8Ideal.Read
open Cert.Kernel8Ideal.Array (line weighted dx dgain term)
open Cert.Norm (eps level scale through)

variable (x : Vec Ideal S4096x2048 .f32) (g : Vec Ideal S2048 .f32) (d p : Vec Ideal S4096x2048 .f32)

theorem zero_word : FloatOps.ofBits (F := Ideal) FTy.f32 0x00000000#32 = (0 : EReal) := by
  show Ideal.ofBits .f32 0x00000000#32 = 0
  simp [Ideal.ofBits, Ideal.ieee]

theorem level_apply (i : S4096x1.Idx) : val_main_v6 (F := Ideal) x i = level eps (line x (i 0)) := by
  unfold level
  rw [val_main_v6_apply, val_main_v4_apply, val_main_v2_apply, val_main_v1_apply, val_main_cst_apply, val_main_v3_apply,
    val_main_cst_0_apply, val_main_v5_apply, val_main_cst_1_apply, zero_word, zero_add, ← Norm.length_word]
  refine congrArg (fun z : EReal => Ideal.div z _ + eps) (Finset.sum_congr rfl fun k _ => ?_)
  rw [val_main_v0_apply]
  have h : idx_main_v1 (idx_main_v2 i) k = ix2 (i 0) k := ValueIdx.eq_ix2 _
  rw [h]
  rfl

theorem scale_apply (i : S4096x1.Idx) : val_main_v7 (F := Ideal) x i = scale eps (line x (i 0)) := by
  rw [val_main_v7_apply, level_apply]
  rfl

theorem gained_apply (i : S4096x2048.Idx) : val_main_v20 (F := Ideal) g d i = weighted d g (i 0) (i 1) := by
  rw [val_main_v20_apply, val_main_v19_apply, val_main_v13_apply]
  have h : idx_main_v13 (idx_main_v19 i) = ix1 (i 1) := ValueIdx.eq_ix1 _
  rw [h]
  exact congrArg (fun z => (d z : EReal) * g (ix1 (i 1))) (ValueIdx.eq_ix2 i)

/-- What reaches a row through its scale. -/
theorem through_apply (i : S4096x2048.Idx) :
    val_main_v32 (F := Ideal) x g d i = through eps (line x (i 0)) (weighted d g (i 0)) := by
  unfold through
  rw [val_main_v32_apply, val_main_v31_apply, val_main_cst_7_apply, zero_word, zero_add, Fin.sum_univ_one, val_main_v30_apply,
    val_main_v29_apply, val_main_cst_6_apply, val_main_v28_apply, val_main_v24_apply, val_main_v23_apply, val_main_cst_5_apply,
    zero_word, zero_add, val_main_v10_apply, val_main_v9_apply, val_main_cst_2_apply, val_main_v8_apply, scale_apply, level_apply,
    ← Norm.length_word, ← Norm.minus_half_word]
  refine congrArg (fun z : EReal => Ideal.div (z * _) _) (Finset.sum_congr rfl fun k _ => ?_)
  rw [val_main_v22_apply, gained_apply]
  have h : idx_main_v23 (idx_main_v24 (idx_main_v31 (idx_main_v32 i) 0)) k = ix2 (i 0) k :=
    (ValueIdx.eq_ix2 _).trans (congrArg (fun z => ix2 z k) (Fin.ext (by show (i 0).val * 1 + 0 = _; omega)))
  rw [h]
  rfl

/-- The rows' gradient is the kernel's where the rows, the gain and the cotangent of the norm are finite. -/
theorem dx_apply (hx : ∀ i, ∃ r : ℝ, x i = (r : EReal)) (hg : ∀ i, ∃ r : ℝ, g i = (r : EReal)) (hd : ∀ i, ∃ r : ℝ, d i = (r : EReal))
    (i : S4096x2048.Idx) : val_main_v36 (F := Ideal) x g d p i = dx x g d p i := by
  obtain ⟨e, he, hee⟩ := Norm.eps_pos
  unfold dx
  rw [hee]
  refine Eq.trans ?_ (Norm.dnorm_eq e he (line x (i 0)) (weighted d g (i 0)) (fun k => hx (ix2 (i 0) k)) (fun k => ?_) (p i) (i 1)).symm
  · rw [← hee, val_main_v36_apply, val_main_v34_apply, val_main_v27_apply, val_main_v26_apply, val_main_v25_apply, val_main_v33_apply,
      val_main_v35_apply, gained_apply, scale_apply, through_apply]
    exact congrArg (fun z => (p i : EReal) + weighted d g (i 0) (i 1) * scale eps (line x (i 0))
      + (x z : EReal) * through eps (line x (i 0)) (weighted d g (i 0)) + through eps (line x (i 0)) (weighted d g (i 0)) * x z) (ValueIdx.eq_ix2 i)
  · obtain ⟨a, ha⟩ := hd (ix2 (i 0) k)
    obtain ⟨b, hb⟩ := hg (ix1 k)
    exact ⟨a * b, by unfold weighted; rw [ha, hb, EReal.coe_mul]⟩

/-- The gain's gradient is the kernel's. -/
theorem dgain_apply (i : S1x2048.Idx) : val_main_v38 (F := Ideal) x d i = dgain x d i := by
  rw [val_main_v38_apply, val_main_v21_apply, val_main_cst_4_apply, zero_word, zero_add, Fin.sum_univ_one, val_main_v18_apply,
    val_main_v17_apply, val_main_cst_3_apply, zero_word, zero_add]
  refine Finset.sum_congr rfl fun r _ => ?_
  rw [val_main_v16_apply, val_main_v12_apply, val_main_v11_apply, scale_apply]
  have h : idx_main_v17 (idx_main_v18 (idx_main_v21 (idx_main_v38 i) 0)) r = ix2 r (i 1) :=
    (ValueIdx.eq_ix2 _).trans (congrArg (ix2 r) (Fin.ext (by
      have h0 : (i 0).val < 1 := (i 0).isLt
      show 0 * 2048 + ((i 0).val * 2048 + (i 1).val) = _
      omega)))
  rw [h]
  exact mul_comm _ _

end Cert.Reference8Ideal.Entry
-- ==== Proof.NormClaims.lean ====
/-
  THE CLAIMS ABOUT THE NORM'S GRADIENT: the kernel and its plain reference run, keep their arguments and leave every counter
  at zero; read over the extended reals, and where the rows, the gain and the norm's cotangent are finite, the two leave the
  same three arrays.
-/
module

public import proofs.«01_k».proof.Defs
public import proofs.«01_k».proof.Proof.NormReference
public import proofs.«01_k».proof.Proof.Finite
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Pre_finite8
public import Idealize.ShloMosaic.Lib.Quiescent

@[expose] public section

noncomputable section

namespace Cert.Proof.NormClaims

open Idealize.ShloMosaic Idealize.ShloMosaic.TcCoe Idealize.SL.Sem

theorem frame : Cert.quiescent_Kernel8 := fun m ρ _ => Cert.Kernel8.Gen.frame m ρ
theorem frame_ideal : Cert.quiescent_Kernel8Ideal := fun m ρ _ => Cert.Kernel8Ideal.Gen.frame m ρ
theorem frame_ideal_finite : Cert.quiescent_Kernel8Ideal_pre_finite8 := fun m ρ _ => Cert.Kernel8Ideal.Gen.frame m ρ

/-- The reference's run with its counters: it has none. -/
theorem frame_reference : Cert.quiescent_Reference8Ideal := fun m ρ _ =>
  (θ_run Cert.Reference8Ideal.defs _ _).mono
    (fun r h => ⟨fun c => (h c).2.2.2, sem_eq_zero_of_no_sems (by decide) r.2⟩)
    (Cert.Reference8Ideal.Value.run (F := Ideal) m ρ)

theorem frame_reference_finite : Cert.quiescent_Reference8Ideal_pre_finite8 := fun m ρ _ => frame_reference m ρ trivial

/-- The precondition says that the rows, the gain and the norm's cotangent hold real numbers. -/
theorem real_of_pre {m} (h : Cert.Pre_Kernel8Ideal_finite8 m) (c : Dev Cert.Kernel8Ideal.nD) :
    (∀ i, ∃ r : ℝ, m (c.tc.loc Cert.Kernel8Ideal.main_arg0) i = (r : EReal))
    ∧ (∀ i, ∃ r : ℝ, m (c.tc.loc Cert.Kernel8Ideal.main_arg1) i = (r : EReal))
    ∧ (∀ i, ∃ r : ℝ, m (c.tc.loc Cert.Kernel8Ideal.main_arg2) i = (r : EReal)) :=
  ⟨fun i => Finite.exists_real _ (congrFun (h c).1 i), fun i => Finite.exists_real _ (congrFun (h c).2.1 i),
    fun i => Finite.exists_real _ (congrFun (h c).2.2 i)⟩

theorem algebraic : Cert.algebraic_Kernel8Ideal_Reference8Ideal_pre_finite8 := by
  intro m ρ m' ρ' hpre hagree
  refine ⟨_, _, _,
    (θ_run Cert.Kernel8Ideal.defs _ _).mono (fun r h c => ⟨(h c).1.trans (Cert.Kernel8Ideal.Array.rows_final m c),
      (h c).2.1.trans (Cert.Kernel8Ideal.Array.rounded_final m c), (h c).2.2.1.trans (Cert.Kernel8Ideal.Array.gain_final m c),
      (h c).2.2.2⟩) (Cert.Kernel8Ideal.Value.run_blocks m ρ),
    (θ_run Cert.Reference8Ideal.defs _ _).mono
      (fun r h c => ⟨(h c).1.trans ?_, (h c).2.1.trans ?_, (h c).2.2.1.trans ?_, (h c).2.2.2⟩)
      (Cert.Reference8Ideal.Value.run (F := Ideal) m' ρ')⟩
  all_goals
    obtain ⟨h0, h1, h2, h3⟩ := hagree c
    obtain ⟨r0, r1, r2⟩ := real_of_pre hpre c
  · rw [h0, h1, h2, h3]
    exact (Cert.Reference8Ideal.Read.val_main_v36_eq _ _ _ _).trans (funext (Cert.Reference8Ideal.Entry.dx_apply _ _ _ _ r0 r1 r2))
  · rw [h0, h1, h2, h3]
    exact (Cert.Reference8Ideal.Read.val_main_v37_eq _ _ _ _).trans
      (funext fun i => (Cert.Reference8Ideal.Read.val_main_v37_apply _ _ _ _ i).trans (Cert.Reference8Ideal.Entry.dx_apply _ _ _ _ r0 r1 r2 i))
  · rw [h0, h2]
    exact (Cert.Reference8Ideal.Read.val_main_v38_eq _ _).trans (funext (Cert.Reference8Ideal.Entry.dgain_apply _ _))

end Cert.Proof.NormClaims
-- ==== Proof.MixWeightArray.lean ====
/-
  THE GRADIENT OF THE OUTPUT WEIGHT. A result block is accumulated over four grid points, each of which adds the product of
  1024 rows; the fourth rounds it and writes it back. Summed up, the result array is the plain product.
-/
module

public import proofs.«01_k».proof.Proof.Gen.Kernel9Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

@[expose] public section

set_option maxRecDepth 16384

noncomputable section

namespace Cert.Kernel9Ideal.Array

open Idealize.ShloMosaic Idealize.ShloMosaic.TcCoe Cert.Kernel9Ideal Cert.Kernel9Ideal.Gen

/-- The part of a block that 1024 rows give. -/
theorem first_at (a : Vec Ideal S1024x1024 .bf16) (d : Vec Ideal S1024x1024 .bf16) (y : S1024x1024.Idx) :
    k0_pay2 (F := Ideal) a d y = (0 + ∑ k : Fin 1024, (a (ix2 k (y 0)) : EReal) * d (ix2 k (y 1)) : EReal) := by
  pointwise [k0_pay2, k0_pay1]

theorem next_at (a : Vec Ideal S1024x1024 .bf16) (d : Vec Ideal S1024x1024 .bf16) (s : Vec Ideal S1024x1024 .f32) (y : S1024x1024.Idx) :
    k0_pay3 (F := Ideal) a d s y = ((s y : EReal) + ∑ k : Fin 1024, (a (ix2 k (y 0)) : EReal) * d (ix2 k (y 1)) : EReal) := by
  pointwise [k0_pay3, k0_pay1]

variable (m : (ℓ : Loc nD τ sig) → Buf (Elt Ideal) ℓ) (c : Dev nD)

/-- The rows of the joined mixers and of the cotangent that a point holds. -/
def cat (t : Fin cfg0.N) : Vec Ideal S1024x1024 .bf16 := iblk m c 0 t
def cot (t : Fin cfg0.N) : Vec Ideal S1024x1024 .bf16 := iblk m c 1 t

/-- What a point adds to its block. -/
def part (t : Fin cfg0.N) (y : S1024x1024.Idx) : EReal :=
  ∑ k : Fin 1024, (cat m c t (ix2 k (y 0)) : EReal) * cot m c t (ix2 k (y 1))

theorem acc_first (t : Fin cfg0.N) (h : t.val % 4 = 0) (y : S1024x1024.Idx) :
    ((outsAt0 m c t.val t.isLt).2 y : EReal) = 0 + part m c t y := by
  rw [outsAt0_A m c t h (by omega) (by omega)]
  frame_out
  exact first_at _ _ y

theorem acc_next (t : Fin cfg0.N) (h : ¬t.val % 4 = 0) (y : S1024x1024.Idx) :
    ((outsAt0 m c t.val t.isLt).2 y : EReal)
      = (outsAt0 m c (t.val - 1) (Nat.lt_of_le_of_lt (Nat.sub_le _ _) t.isLt)).2 y + part m c t y := by
  by_cases h3 : t.val % 4 = 3
  · rw [outsAt0_C m c t h (by omega) h3]
    frame_out
    refine (next_at _ _ _ y).trans (congrArg (· + part m c t y) ?_)
    exact congrFun (Memref.IsWhole.read_unread _ _) y
  · rw [outsAt0_B m c t h (by omega) h3]
    frame_out
    refine (next_at _ _ _ y).trans (congrArg (· + part m c t y) ?_)
    exact congrFun (Memref.IsWhole.read_unread _ _) y

theorem acc_last (t : Fin cfg0.N) (h : t.val % 4 = 3) (y : S1024x1024.Idx) :
    ((outsAt0 m c t.val t.isLt).1 y : EReal) = (outsAt0 m c t.val t.isLt).2 y := by
  rw [outsAt0_C m c t (by omega) (by omega) h]
  frame_out
  rfl

/-- The plain product: columns of the joined mixers against columns of the cotangent. -/
def mix (a : Vec Ideal S4096x2048 .bf16) (d : Vec Ideal S4096x2048 .bf16) : Vec Ideal S2048x2048 .bf16 :=
  fun i => (∑ l : Fin 4096, (a (ix2 l (i 0)) : EReal) * d (ix2 l (i 1)) : EReal)

/-- Which block each window holds at a grid point. -/
theorem idx : ∀ t : Fin cfg0.N, win0_0.index t = ![t.val % 4, t.val / 8] ∧ win0_1.index t = ![t.val % 4, t.val / 4 % 2]
    ∧ win0_2.index t = ![t.val / 8, t.val / 4 % 2] := (by decide +kernel : ∀ t : Fin grid0.N, _)

theorem cat_emb (t u : Fin cfg0.N) (h : u.val / 8 = t.val / 8) (y : S1024x1024.Idx) (k : Fin 1024) (l : Fin 4096)
    (hl : l.val = u.val % 4 * 1024 + k.val) :
    (win0_0.blk u).view.emb (ix2 k (y 0)) = ix2 l ((win0_2.blk t).view.emb y 0) := by
  obtain ⟨e0, -, -⟩ := idx u
  obtain ⟨-, -, e2⟩ := idx t
  blk_ext [e0, e2, ix2, hl, h]

theorem cot_emb (t u : Fin cfg0.N) (h : u.val / 4 % 2 = t.val / 4 % 2) (y : S1024x1024.Idx) (k : Fin 1024) (l : Fin 4096)
    (hl : l.val = u.val % 4 * 1024 + k.val) :
    (win0_1.blk u).view.emb (ix2 k (y 1)) = ix2 l ((win0_2.blk t).view.emb y 1) := by
  obtain ⟨-, e1, -⟩ := idx u
  obtain ⟨-, -, e2⟩ := idx t
  blk_ext [e1, e2, ix2, hl, h]

theorem final : (dats m 0 c).arrAt 2 cfg0.N
    = mix (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have h3 : t.val % 4 = 3 := (flush0_2 t).mp hf
  refine (congrFun (after0_2 m c t) y).trans ((acc_last m c t h3 y).trans ?_)
  refine (Pipeline.eq_sum_fin_of_reset_step_apply_of_flush (M := EReal) (fun n h => (outsAt0 m c n h).2) 4 (fun _ => 0) (part m c)
    (fun t h y => acc_first m c t h y) (fun t h y => acc_next m c t h y) t h3 y).trans ?_
  rw [zero_add]
  refine Eq.trans ?_ (Fin.sum_univ_tiles 4 1024 rfl _).symm
  refine Finset.sum_congr rfl fun s _ => Finset.sum_congr rfl fun k _ => ?_
  refine congr (congrArg _ ?_) ?_
  · exact congrArg (m ((c : Thread nD τ).loc main_arg0)) (cat_emb t _ (by dsimp only; omega) y k _ (by dsimp only; omega))
  · exact congrArg (m ((c : Thread nD τ).loc main_arg1)) (cot_emb t _ (by dsimp only; omega) y k _ (by dsimp only; omega))

end Cert.Kernel9Ideal.Array
-- ==== Proof.MixWeightReference.lean ====
/-
  THE PLAIN GRADIENT OF THE OUTPUT WEIGHT. The reference differentiates `cat @ w_out` with respect to the weight; its result
  is the product of `MixWeightArray` with the factors in the other order.
-/
module

public import proofs.«01_k».proof.Proof.MixWeightArray
public import proofs.«01_k».proof.Proof.Gen.Reference9Ideal.Read

@[expose] public section

noncomputable section

namespace Cert.Reference9Ideal.Entry

open Idealize.ShloMosaic Cert.Reference9Ideal Cert.Reference9Ideal.Gen Cert.Reference9Ideal.Read

theorem mix_eq (a : Vec Ideal S4096x2048 .bf16) (d : Vec Ideal S4096x2048 .bf16) :
    val_main_v7 (F := Ideal) a d = Cert.Kernel9Ideal.Array.mix a d := by
  funext i
  unfold Cert.Kernel9Ideal.Array.mix
  rw [val_main_v7_apply, val_main_v6_apply, val_main_v5_apply]
  refine Finset.sum_congr rfl fun k _ => ?_
  rw [val_main_v4_apply, val_main_v1_apply]
  have hl : lidx_main_v5 (idx_main_v6 i) k = ix2 k (i 1) := ValueIdx.eq_ix2 _
  have hr : ridx_main_v5 (idx_main_v6 i) k = ix2 k (i 0) := ValueIdx.eq_ix2 _
  rw [hl, hr]
  exact mul_comm (d (ix2 k (i 1)) : EReal) (a (ix2 k (i 0)))

end Cert.Reference9Ideal.Entry
-- ==== Proof.MixWeightClaims.lean ====
/-
  THE CLAIMS ABOUT THE OUTPUT WEIGHT'S GRADIENT: the kernel and its plain reference run, keep their arguments and leave
  every counter at zero; read over the extended reals the two leave the same array.
-/
module

public import proofs.«01_k».proof.Defs
public import proofs.«01_k».proof.Proof.MixWeightReference
public import proofs.«01_k».proof.Proof.Gen.Kernel9.Frame
public import proofs.«01_k».proof.Proof.Gen.Kernel9Ideal.Value
public import proofs.«01_k».proof.Proof.Gen.Reference9Ideal.Run
public import Idealize.ShloMosaic.Lib.Quiescent

@[expose] public section

noncomputable section

namespace Cert.Proof.MixWeightClaims

open Idealize.ShloMosaic Idealize.ShloMosaic.TcCoe Idealize.SL.Sem

theorem frame : Cert.quiescent_Kernel9 := fun m ρ _ => Cert.Kernel9.Gen.frame m ρ
theorem frame_ideal : Cert.quiescent_Kernel9Ideal := fun m ρ _ => Cert.Kernel9Ideal.Gen.frame m ρ

/-- The reference's run with its counters: it has none. -/
theorem frame_reference : Cert.quiescent_Reference9Ideal := fun m ρ _ =>
  (θ_run Cert.Reference9Ideal.defs _ _).mono
    (fun r h => ⟨fun c => (h c).2, sem_eq_zero_of_no_sems (by decide) r.2⟩)
    (Cert.Reference9Ideal.Value.run (F := Ideal) m ρ)

theorem algebraic : Cert.algebraic_Kernel9Ideal_Reference9Ideal := by
  intro m ρ m' ρ' _ hagree
  refine ⟨_,
    (θ_run Cert.Kernel9Ideal.defs _ _).mono (fun r h c => ⟨(h c).1.trans (Cert.Kernel9Ideal.Array.final m c), (h c).2⟩)
      (Cert.Kernel9Ideal.Value.run_blocks m ρ),
    (θ_run Cert.Reference9Ideal.defs _ _).mono (fun r h c => ⟨(h c).1.trans ?_, (h c).2⟩)
      (Cert.Reference9Ideal.Value.run (F := Ideal) m' ρ')⟩
  obtain ⟨h0, h1⟩ := hagree c
  rw [h0, h1]
  exact (Cert.Reference9Ideal.Read.val_main_v7_eq _ _).trans (Cert.Reference9Ideal.Entry.mix_eq _ _)

end Cert.Proof.MixWeightClaims
-- ==== Proof.MixBackArray.lean ====
/-
  THE GRADIENT OF THE JOINED MIXERS. A grid point multiplies 1024 rows of the cotangent with 1024 rows of the output weight
  and writes the rounded product; the result array is the plain product of the cotangent with the transposed weight.
-/
module

public import proofs.«01_k».proof.Proof.Gen.Kernel10Ideal.Frame
public import Idealize.ShloMosaic.Lib.Pipeline.ValueKit.Acc
public import Idealize.ShloMosaic.Lib.Pipeline.ValueKit.Geometry
public import Idealize.ShloMosaic.Lib.Pointwise

@[expose] public section

set_option maxRecDepth 16384

noncomputable section

namespace Cert.Kernel10Ideal.Array

open Idealize.ShloMosaic Idealize.ShloMosaic.TcCoe Cert.Kernel10Ideal Cert.Kernel10Ideal.Gen

theorem pay_at (d w : Vec Ideal S1024x2048 .bf16) (y : S1024x1024.Idx) :
    k0_pay1 (F := Ideal) d w y = (∑ k : Fin 2048, (d (ix2 (y 0) k) : EReal) * w (ix2 (y 1) k) : EReal) := by
  pointwise [k0_pay1]

theorem block (d w : Vec Ideal S1024x2048 .bf16) (y : S1024x1024.Idx) :
    (out0_2 d w y : EReal) = ∑ k : Fin 2048, (d (ix2 (y 0) k) : EReal) * w (ix2 (y 1) k) := by
  frame_out
  exact pay_at _ _ y

variable (m : (ℓ : Loc nD τ sig) → Buf (Elt Ideal) ℓ) (c : Dev nD)

/-- The plain product: rows of the cotangent against rows of the weight. -/
def back (d : Vec Ideal S4096x2048 .bf16) (w : Vec Ideal S2048x2048 .bf16) : Vec Ideal S4096x2048 .bf16 :=
  fun i => (∑ k : Fin 2048, (d (ix2 (i 0) k) : EReal) * w (ix2 (i 1) k) : EReal)

/-- Which block each window holds at a grid point. -/
theorem idx : ∀ t : Fin cfg0.N, win0_0.index t = ![t.val / 2, 0] ∧ win0_1.index t = ![t.val % 2, 0]
    ∧ win0_2.index t = ![t.val / 2, t.val % 2] := (by decide +kernel : ∀ t : Fin grid0.N, _)

theorem cot_emb (t : Fin cfg0.N) (y : S1024x1024.Idx) (k : Fin 2048) :
    (win0_0.blk t).view.emb (ix2 (y 0) k) = ix2 ((win0_2.blk t).view.emb y 0) k := by
  obtain ⟨e0, -, e2⟩ := idx t
  blk_ext [e0, e2, ix2]

theorem weight_emb (t : Fin cfg0.N) (y : S1024x1024.Idx) (k : Fin 2048) :
    (win0_1.blk t).view.emb (ix2 (y 1) k) = ix2 ((win0_2.blk t).view.emb y 1) k := by
  obtain ⟨-, e1, e2⟩ := idx t
  blk_ext [e1, e2, ix2]

theorem final : (dats m 0 c).arrAt 2 cfg0.N
    = back (m ((c : Thread nD τ).loc main_arg0)) (m ((c : Thread nD τ).loc main_arg1)) := by
  refine (dats m 0 c).arrAt_eq_of_covers 2 _ (by decide +kernel) fun t hf y => ?_
  refine (congrFun (after0_2 m c t) y).trans ((block _ _ y).trans ?_)
  refine Finset.sum_congr rfl fun k _ => congr (congrArg _ ?_) ?_
  · exact congrArg (m ((c : Thread nD τ).loc main_arg0)) (cot_emb t y k)
  · exact congrArg (m ((c : Thread nD τ).loc main_arg1)) (weight_emb t y k)

end Cert.Kernel10Ideal.Array
-- ==== Proof.MixBackReference.lean ====
/-
  THE PLAIN GRADIENT OF THE JOINED MIXERS. The reference differentiates `cat @ w_out` with respect to the joined mixers; its
  result is the product of `MixBackArray`.
-/
module

public import proofs.«01_k».proof.Proof.MixBackArray
public import proofs.«01_k».proof.Proof.Gen.Reference10Ideal.Read

@[expose] public section

noncomputable section

namespace Cert.Reference10Ideal.Entry

open Idealize.ShloMosaic Cert.Reference10Ideal Cert.Reference10Ideal.Gen Cert.Reference10Ideal.Read

theorem back_eq (d : Vec Ideal S4096x2048 .bf16) (w : Vec Ideal S2048x2048 .bf16) :
    val_main_v6 (F := Ideal) d w = Cert.Kernel10Ideal.Array.back d w := by
  funext i
  unfold Cert.Kernel10Ideal.Array.back
  rw [val_main_v6_apply, val_main_v5_apply]
  refine Finset.sum_congr rfl fun k _ => ?_
  rw [val_main_v4_apply, val_main_v2_apply]
  have hl : lidx_main_v5 i k = ix2 (i 0) k := ValueIdx.eq_ix2 _
  have hr : ridx_main_v5 i k = ix2 (i 1) k := ValueIdx.eq_ix2 _
  rw [hl, hr]
  rfl

end Cert.Reference10Ideal.Entry
-- ==== Proof.MixBackClaims.lean ====
/-
  THE CLAIMS ABOUT THE JOINED MIXERS' GRADIENT: the kernel and its plain reference run, keep their arguments and leave
  every counter at zero; read over the extended reals the two leave the same array.
-/
module

public import proofs.«01_k».proof.Defs
public import proofs.«01_k».proof.Proof.MixBackReference
public import proofs.«01_k».proof.Proof.Gen.Kernel10.Frame
public import proofs.«01_k».proof.Proof.Gen.Kernel10Ideal.Value
public import proofs.«01_k».proof.Proof.Gen.Reference10Ideal.Run
public import Idealize.ShloMosaic.Lib.Quiescent

@[expose] public section

noncomputable section

namespace Cert.Proof.MixBackClaims

open Idealize.ShloMosaic Idealize.ShloMosaic.TcCoe Idealize.SL.Sem

theorem frame : Cert.quiescent_Kernel10 := fun m ρ _ => Cert.Kernel10.Gen.frame m ρ
theorem frame_ideal : Cert.quiescent_Kernel10Ideal := fun m ρ _ => Cert.Kernel10Ideal.Gen.frame m ρ

/-- The reference's run with its counters: it has none. -/
theorem frame_reference : Cert.quiescent_Reference10Ideal := fun m ρ _ =>
  (θ_run Cert.Reference10Ideal.defs _ _).mono
    (fun r h => ⟨fun c => (h c).2, sem_eq_zero_of_no_sems (by decide) r.2⟩)
    (Cert.Reference10Ideal.Value.run (F := Ideal) m ρ)

theorem algebraic : Cert.algebraic_Kernel10Ideal_Reference10Ideal := by
  intro m ρ m' ρ' _ hagree
  refine ⟨_,
    (θ_run Cert.Kernel10Ideal.defs _ _).mono (fun r h c => ⟨(h c).1.trans (Cert.Kernel10Ideal.Array.final m c), (h c).2⟩)
      (Cert.Kernel10Ideal.Value.run_blocks m ρ),
    (θ_run Cert.Reference10Ideal.defs _ _).mono (fun r h c => ⟨(h c).1.trans ?_, (h c).2⟩)
      (Cert.Reference10Ideal.Value.run (F := Ideal) m' ρ')⟩
  obtain ⟨h0, h1⟩ := hagree c
  rw [h0, h1]
  exact (Cert.Reference10Ideal.Read.val_main_v6_eq _ _).trans (Cert.Reference10Ideal.Entry.back_eq _ _)

end Cert.Proof.MixBackClaims
-- ==== Proof.MixArray.lean ====
/-
  THE MIXERS' OUTPUT. A grid point multiplies 1024 rows of the joined mixers with 1024 columns of the output weight and adds
  the block's input; the result array is the input added to the plain product.
-/
module

public import proofs.«01_k».proof.Proof.Gen.Kernel11Ideal.Frame
public import Idealize.ShloMosaic.Lib.Pipeline.ValueKit.Acc
public import Idealize.ShloMosaic.Lib.Pipeline.ValueKit.Geometry
public import Idealize.ShloMosaic.Lib.Pointwise

@[expose] public section

set_option maxRecDepth 16384

noncomputable section

namespace Cert.Kernel11Ideal.Array

open Idealize.ShloMosaic Idealize.ShloMosaic.TcCoe Cert.Kernel11Ideal Cert.Kernel11Ideal.Gen

theorem pay_at (a : Vec Ideal S1024x2048 .bf16) (w : Vec Ideal S2048x1024 .bf16) (x : Vec Ideal S1024x1024 .f32) (y : S1024x1024.Idx) :
    k0_pay1 (F := Ideal) a w x y = ((∑ k : Fin 2048, (a (ix2 (y 0) k) : EReal) * w (ix2 k (y 1))) + x y : EReal) := by
  pointwise [k0_pay1]

theorem block (a : Vec Ideal S1024x2048 .bf16) (w : Vec Ideal S2048x1024 .bf16) (x : Vec Ideal S1024x1024 .f32) (y : S1024x1024.Idx) :
    (out0_3 a w x y : EReal) = (∑ k : Fin 2048, (a (ix2 (y 0) k) : EReal) * w (ix2 k (y 1))) + x y := by
  frame_out
  exact pay_at _ _ _ y

variable (m : (ℓ : Loc nD τ sig) → Buf (Elt Ideal) ℓ) (c : Dev nD)

/-- The block's input added to the plain product. -/
def mixed (a : Vec Ideal S4096x2048 .bf16) (w : Vec Ideal S2048x2048 .bf16) (x : Vec Ideal S4096x2048 .f32) : Vec Ideal S4096x2048 .f32 :=
  fun i => ((∑ k : Fin 2048, (a (ix2 (i 0) k) : EReal) * w (ix2 k (i 1))) + x i : EReal)

/-- Which block each window holds at a grid point. -/
theorem idx : ∀ t : Fin cfg0.N, win0_0.index t = ![t.val / 2, 0] ∧ win0_1.index t = ![0, t.val % 2]
    ∧ win0_2.index t = ![t.val / 2, t.val % 2] ∧ win0_3.index t = ![t.val / 2, t.val % 2] :=
  (by decide +kernel : ∀ t : Fin grid0.N, _)

theorem cat_emb (t : Fin cfg0.N) (y : S1024x1024.Idx) (k : Fin 2048) :
    (win0_0.blk t).view.emb (ix2 (y 0) k) = ix2 ((win0_3.blk t).view.emb y 0) k := by
  obtain ⟨e0, -, -, e3⟩ := idx t
  blk_ext [e0, e3, ix2]

theorem weight_emb (t : Fin cfg0.N) (y : S1024x1024.Idx) (k : Fin 2048) :
    (win0_1.blk t).view.emb (ix2 k (y 1)) = ix2 k ((win0_3.blk t).view.emb y 1) := by
  obtain ⟨-, e1, -, e3⟩ := idx t
  blk_ext [e1, e3, ix2]

theorem input_emb (t : Fin cfg0.N) (y : S1024x1024.Idx) : (win0_2.blk t).view.emb y = (win0_3.blk t).view.emb y := by
  obtain ⟨-, -, e2, e3⟩ := idx t
  blk_ext [e2, e3]

theorem final : (dats m 0 c).arrAt 3 cfg0.N
    = mixed (m ((c : Thread nD τ).loc main_arg0)) (m ((c : Thread nD τ).loc main_arg1)) (m ((c : Thread nD τ).loc main_arg2)) := by
  refine (dats m 0 c).arrAt_eq_of_covers 3 _ (by decide +kernel) fun t hf y => ?_
  refine (congrFun (after0_3 m c t) y).trans ((block _ _ _ y).trans ?_)
  refine congr (congrArg HAdd.hAdd (Finset.sum_congr rfl fun k _ => congr (congrArg _ ?_) ?_)) ?_
  · exact congrArg (m ((c : Thread nD τ).loc main_arg0)) (cat_emb t y k)
  · exact congrArg (m ((c : Thread nD τ).loc main_arg1)) (weight_emb t y k)
  · exact congrArg (m ((c : Thread nD τ).loc main_arg2)) (input_emb t y)

end Cert.Kernel11Ideal.Array
-- ==== Proof.MixReference.lean ====
/-
  THE PLAIN OUTPUT OF THE MIXERS. The reference computes `x + cat @ w_out`; its result is the sum of
  `MixArray` with the terms in the other order.
-/
module

public import proofs.«01_k».proof.Proof.MixArray
public import proofs.«01_k».proof.Proof.Gen.Reference11Ideal.Read

@[expose] public section

noncomputable section

namespace Cert.Reference11Ideal.Entry

open Idealize.ShloMosaic Cert.Reference11Ideal Cert.Reference11Ideal.Gen Cert.Reference11Ideal.Read

theorem mixed_eq (a : Vec Ideal S4096x2048 .bf16) (w : Vec Ideal S2048x2048 .bf16) (x : Vec Ideal S4096x2048 .f32) :
    val_main_v3 (F := Ideal) a w x = Cert.Kernel11Ideal.Array.mixed a w x := by
  funext i
  unfold Cert.Kernel11Ideal.Array.mixed
  rw [val_main_v3_apply, val_main_v2_apply]
  refine (add_comm (x i : EReal) _).trans (congrArg (· + (x i : EReal)) (Finset.sum_congr rfl fun l _ => ?_))
  rw [val_main_v0_apply, val_main_v1_apply]
  have hl : lidx_main_v2 i l = ix2 (i 0) l := ValueIdx.eq_ix2 _
  have hr : ridx_main_v2 i l = ix2 l (i 1) := ValueIdx.eq_ix2 _
  rw [hl, hr]
  rfl

end Cert.Reference11Ideal.Entry
-- ==== Proof.MixClaims.lean ====
/-
  THE CLAIMS ABOUT THE MIXERS' OUTPUT: the kernel and its plain reference run, keep their arguments and leave
  every counter at zero; read over the extended reals the two leave the same array.
-/
module

public import proofs.«01_k».proof.Defs
public import proofs.«01_k».proof.Proof.MixReference
public import proofs.«01_k».proof.Proof.Gen.Kernel11.Frame
public import proofs.«01_k».proof.Proof.Gen.Kernel11Ideal.Value
public import proofs.«01_k».proof.Proof.Gen.Reference11Ideal.Run
public import Idealize.ShloMosaic.Lib.Quiescent

@[expose] public section

noncomputable section

namespace Cert.Proof.MixClaims

open Idealize.ShloMosaic Idealize.ShloMosaic.TcCoe Idealize.SL.Sem

theorem frame : Cert.quiescent_Kernel11 := fun m ρ _ => Cert.Kernel11.Gen.frame m ρ
theorem frame_ideal : Cert.quiescent_Kernel11Ideal := fun m ρ _ => Cert.Kernel11Ideal.Gen.frame m ρ

/-- The reference's run with its counters: it has none. -/
theorem frame_reference : Cert.quiescent_Reference11Ideal := fun m ρ _ =>
  (θ_run Cert.Reference11Ideal.defs _ _).mono
    (fun r h => ⟨fun c => (h c).2, sem_eq_zero_of_no_sems (by decide) r.2⟩)
    (Cert.Reference11Ideal.Value.run (F := Ideal) m ρ)

theorem algebraic : Cert.algebraic_Kernel11Ideal_Reference11Ideal := by
  intro m ρ m' ρ' _ hagree
  refine ⟨_,
    (θ_run Cert.Kernel11Ideal.defs _ _).mono (fun r h c => ⟨(h c).1.trans (Cert.Kernel11Ideal.Array.final m c), (h c).2⟩)
      (Cert.Kernel11Ideal.Value.run_blocks m ρ),
    (θ_run Cert.Reference11Ideal.defs _ _).mono (fun r h c => ⟨(h c).1.trans ?_, (h c).2⟩)
      (Cert.Reference11Ideal.Value.run (F := Ideal) m' ρ')⟩
  obtain ⟨h0, h1, h2⟩ := hagree c
  rw [h0, h1, h2]
  exact (Cert.Reference11Ideal.Read.val_main_v3_eq _ _ _).trans (Cert.Reference11Ideal.Entry.mixed_eq _ _ _)

end Cert.Proof.MixClaims
-- ==== Proof.LossArray.lean ====
/-
  THE LOSS. A grid point holds 512 rows of the output and of the target; it writes the rows' gradient, in two precisions, and
  adds half of the rows' mean squared errors to the loss, which stays in its block over the eight points.
-/
module

public import proofs.«01_k».proof.Proof.Gen.Kernel12Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Pointwise

@[expose] public section

set_option maxRecDepth 16384

noncomputable section

namespace Cert.Kernel12Ideal.Array

open Idealize.ShloMosaic Idealize.ShloMosaic.TcCoe Cert.Kernel12Ideal Cert.Kernel12Ideal.Gen

/-! ## The constants -/

theorem half_word : Ideal.ofBits .f32 0x3F000000#32 = ((1 / 2 : ℝ) : EReal) := by
  simp [Ideal.ofBits, Ideal.ieee, -EReal.coe_mul]; norm_num
theorem length_word : Ideal.ofBits .f32 0x45000000#32 = ((2048 : ℝ) : EReal) := by
  simp [Ideal.ofBits, Ideal.ieee, -EReal.coe_mul]; norm_num
theorem share_word : Ideal.ofBits .f32 0x3A000000#32 = ((1 / 2048 : ℝ) : EReal) := by
  simp [Ideal.ofBits, Ideal.ieee, -EReal.coe_mul]; norm_num

/-- Halving commutes with sums, whatever the terms. -/
def halve : EReal →+ EReal where
  toFun z := ((1 / 2 : ℝ) : EReal) * z
  map_zero' := mul_zero _
  map_add' a b := EReal.left_distrib_of_nonneg_of_ne_top (by exact_mod_cast (by norm_num : (0 : ℝ) ≤ 1 / 2)) (EReal.coe_ne_top _) a b

/-! ## One grid point -/

/-- The mean squared error of a row of the blocks. -/
def fault (a b : Vec Ideal S512x2048 .f32) (r : Fin 512) : EReal :=
  Ideal.div (∑ k : Fin 2048, ((a (ix2 r k) : EReal) - b (ix2 r k)) * (a (ix2 r k) - b (ix2 r k))) ((2048 : ℝ) : EReal)

theorem loss_at (a b : Vec Ideal S512x2048 .f32) (s : Vec Ideal S1x128 .f32) (y : S1x128.Idx) :
    k0_pay3 (F := Ideal) a b s y = ((s y : EReal) + halve (∑ r : Fin 512, fault a b r) : EReal) := by
  show _ = ((s y : EReal) + ((1 / 2 : ℝ) : EReal) * (∑ r : Fin 512, fault a b r) : EReal)
  unfold fault
  rw [← length_word, ← half_word]
  pointwise [k0_pay3, k0_pay2]

theorem slope_at (a b : Vec Ideal S512x2048 .f32) (y : S512x2048.Idx) :
    k0_pay4 (F := Ideal) a b y = (((a y : EReal) - b y) * ((1 / 2048 : ℝ) : EReal) : EReal) := by
  rw [← share_word]
  pointwise [k0_pay4, k0_pay2]

variable (m : (ℓ : Loc nD τ sig) → Buf (Elt Ideal) ℓ) (c : Dev nD)

/-- The blocks a point holds. -/
def guess (t : Fin cfg0.N) : Vec Ideal S512x2048 .f32 := iblk m c 0 t
def target (t : Fin cfg0.N) : Vec Ideal S512x2048 .f32 := iblk m c 1 t

/-- What a point adds to the loss, and what it writes of the gradient. -/
def part (t : Fin cfg0.N) (_ : S1x128.Idx) : EReal := halve (∑ r : Fin 512, fault (guess m c t) (target m c t) r)
def block (t : Fin cfg0.N) (y : S512x2048.Idx) : EReal := ((guess m c t y : EReal) - target m c t y) * ((1 / 2048 : ℝ) : EReal)

theorem slope_out (t : Fin cfg0.N) (y : S512x2048.Idx) : ((outsAt0 m c t.val t.isLt).2.1 y : EReal) = block m c t y := by
  refine Eq.trans ?_ (slope_at (guess m c t) (target m c t) y)
  by_cases h : t.val % 8 = 0
  · rw [outsAt0_A m c t h]
    frame_out
    rfl
  · rw [outsAt0_B m c t h]
    frame_out
    rfl

theorem rounded_out (t : Fin cfg0.N) (y : S512x2048.Idx) : ((outsAt0 m c t.val t.isLt).2.2 y : EReal) = block m c t y := by
  refine Eq.trans ?_ (slope_at (guess m c t) (target m c t) y)
  by_cases h : t.val % 8 = 0
  · rw [outsAt0_A m c t h]
    frame_out
    rfl
  · rw [outsAt0_B m c t h]
    frame_out
    rfl

theorem loss_first (t : Fin cfg0.N) (h : t.val % 8 = 0) (y : S1x128.Idx) :
    ((outsAt0 m c t.val t.isLt).1 y : EReal) = 0 + part m c t y := by
  rw [outsAt0_A m c t h]
  frame_out
  refine (loss_at _ _ _ y).trans (congrArg (· + part m c t y) ?_)
  pointwise [k0_pay1]

theorem loss_next (t : Fin cfg0.N) (h : ¬t.val % 8 = 0) (y : S1x128.Idx) :
    ((outsAt0 m c t.val t.isLt).1 y : EReal)
      = (outsAt0 m c (t.val - 1) (Nat.lt_of_le_of_lt (Nat.sub_le _ _) t.isLt)).1 y + part m c t y := by
  rw [outsAt0_B m c t h]
  frame_out
  refine (loss_at _ _ _ y).trans (congrArg (· + part m c t y) ?_)
  rfl

/-! ## The result arrays -/

/-- The mean squared error of a row, the loss in every lane, and its gradient. -/
def error (a b : Vec Ideal S4096x2048 .f32) (r : Fin 4096) : EReal :=
  Ideal.div (∑ k : Fin 2048, ((a (ix2 r k) : EReal) - b (ix2 r k)) * (a (ix2 r k) - b (ix2 r k))) ((2048 : ℝ) : EReal)
def loss (a b : Vec Ideal S4096x2048 .f32) (_ : S1x128.Idx) : EReal := halve (∑ r : Fin 4096, error a b r)
def dloss (a b : Vec Ideal S4096x2048 .f32) (i : S4096x2048.Idx) : EReal := ((a i : EReal) - b i) * ((1 / 2048 : ℝ) : EReal)

/-- Which block each window holds at a grid point. -/
theorem idx : ∀ t : Fin cfg0.N, win0_0.index t = ![t.val, 0] ∧ win0_1.index t = ![t.val, 0] ∧ win0_3.index t = ![t.val, 0]
    ∧ win0_4.index t = ![t.val, 0] := (by decide +kernel : ∀ t : Fin grid0.N, _)

theorem guess_emb (t : Fin cfg0.N) (y : S512x2048.Idx) : (win0_0.blk t).view.emb y = (win0_3.blk t).view.emb y := by
  obtain ⟨e, -, e3, -⟩ := idx t
  blk_ext [e, e3]

theorem target_emb (t : Fin cfg0.N) (y : S512x2048.Idx) : (win0_1.blk t).view.emb y = (win0_3.blk t).view.emb y := by
  obtain ⟨-, e, e3, -⟩ := idx t
  blk_ext [e, e3]

theorem rounded_emb (t : Fin cfg0.N) (y : S512x2048.Idx) : (win0_4.blk t).view.emb y = (win0_3.blk t).view.emb y := by
  obtain ⟨-, -, e3, e4⟩ := idx t
  blk_ext [e4, e3]

theorem row_emb (t : Fin cfg0.N) (r : Fin 512) (k : Fin 2048) (R : Fin 4096) (hR : R.val = t.val * 512 + r.val) :
    (win0_3.blk t).view.emb (ix2 r k) = ix2 R k := by
  obtain ⟨-, -, e, -⟩ := idx t
  blk_ext [e, ix2, hR]

theorem guess_at (t : Fin cfg0.N) (y : S512x2048.Idx) :
    guess m c t y = m ((c : Thread nD τ).loc main_arg0) ((win0_3.blk t).view.emb y) :=
  congrArg (m ((c : Thread nD τ).loc main_arg0)) (guess_emb t y)

theorem target_at (t : Fin cfg0.N) (y : S512x2048.Idx) :
    target m c t y = m ((c : Thread nD τ).loc main_arg1) ((win0_3.blk t).view.emb y) :=
  congrArg (m ((c : Thread nD τ).loc main_arg1)) (target_emb t y)

theorem block_at (t : Fin cfg0.N) (y : S512x2048.Idx) : block m c t y
    = dloss (m ((c : Thread nD τ).loc main_arg0)) (m ((c : Thread nD τ).loc main_arg1)) ((win0_3.blk t).view.emb y) := by
  unfold block dloss
  rw [guess_at, target_at]

theorem fault_at (t : Fin cfg0.N) (r : Fin 512) (R : Fin 4096) (hR : R.val = t.val * 512 + r.val) :
    fault (guess m c t) (target m c t) r = error (m ((c : Thread nD τ).loc main_arg0)) (m ((c : Thread nD τ).loc main_arg1)) R := by
  unfold fault error
  refine congrArg (Ideal.div · _) (Finset.sum_congr rfl fun k _ => ?_)
  rw [guess_at, target_at, row_emb t r k R hR]

theorem slope_final : (dats m 0 c).arrAt 3 cfg0.N
    = (dloss (m ((c : Thread nD τ).loc main_arg0)) (m ((c : Thread nD τ).loc main_arg1)) : Vec Ideal S4096x2048 .f32) := by
  refine (dats m 0 c).arrAt_eq_of_covers 3 _ (by decide +kernel) fun t hf y => ?_
  exact (congrFun (after0_3 m c t) y).trans ((slope_out m c t y).trans (block_at m c t y))

theorem rounded_final : (dats m 0 c).arrAt 4 cfg0.N
    = (dloss (m ((c : Thread nD τ).loc main_arg0)) (m ((c : Thread nD τ).loc main_arg1)) : Vec Ideal S4096x2048 .bf16) := by
  refine (dats m 0 c).arrAt_eq_of_covers 4 _ (by decide +kernel) fun t hf y => ?_
  exact (congrFun (after0_4 m c t) y).trans
    ((rounded_out m c t y).trans ((block_at m c t y).trans (congrArg (dloss _ _) (rounded_emb t y).symm)))

theorem loss_final : (dats m 0 c).arrAt 2 cfg0.N
    = (loss (m ((c : Thread nD τ).loc main_arg0)) (m ((c : Thread nD τ).loc main_arg1)) : Vec Ideal S1x128 .f32) := by
  refine (dats m 0 c).arrAt_eq_of_covers 2 _ (by decide +kernel) fun t hf y => ?_
  have hN := lt_of_lt_of_eq t.isLt N_0
  have h7 : t.val % 8 = 7 := (flush0_2 t).mp hf
  refine (congrFun (after0_2 m c t) y).trans ?_
  refine (Pipeline.eq_sum_fin_of_reset_step_apply_of_flush (M := EReal) (fun n h => (outsAt0 m c n h).1) 8 (fun _ => 0) (part m c)
    (fun t h y => loss_first m c t h y) (fun t h y => loss_next m c t h y) t h7 y).trans ?_
  rw [zero_add]
  show _ = halve (∑ r : Fin 4096, error (m ((c : Thread nD τ).loc main_arg0)) (m ((c : Thread nD τ).loc main_arg1)) r)
  refine Eq.trans ?_ (congrArg halve (Fin.sum_univ_tiles 8 512 rfl _).symm)
  rw [map_sum]
  refine Finset.sum_congr rfl fun s _ => congrArg halve (Finset.sum_congr rfl fun r _ => ?_)
  exact fault_at m c _ r _ (by dsimp only; omega)

end Cert.Kernel12Ideal.Array
-- ==== Proof.LossReference.lean ====
/-
  THE PLAIN LOSS. The reference computes half of the sum of the rows' mean squared errors and differentiates it; its results
  are read here at one entry and are the arrays of `LossArray`.
-/
module

public import proofs.«01_k».proof.Proof.LossArray
public import proofs.«01_k».proof.Proof.Gen.Reference12Ideal.Read
public import Idealize.ShloMosaic.Lib.ValueIdxRank1

@[expose] public section

noncomputable section

namespace Cert.Reference12Ideal.Entry

open Idealize.ShloMosaic Cert.Reference12Ideal Cert.Reference12Ideal.Gen Cert.Reference12Ideal.Read
open Cert.Kernel12Ideal.Array (half_word length_word halve error loss dloss)

variable (a b : Vec Ideal S4096x2048 .f32)

theorem zero_word : FloatOps.ofBits (F := Ideal) FTy.f32 0x00000000#32 = (0 : EReal) := by
  show Ideal.ofBits .f32 0x00000000#32 = 0
  simp [Ideal.ofBits, Ideal.ieee]
theorem one_word : FloatOps.ofBits (F := Ideal) FTy.f32 0x3F800000#32 = (1 : EReal) := by
  show Ideal.ofBits .f32 0x3F800000#32 = ((1 : ℝ) : EReal)
  simp [Ideal.ofBits, Ideal.ieee, -EReal.coe_mul]; norm_num
theorem two_word : Ideal.ofBits .f32 0x40000000#32 = ((2 : ℝ) : EReal) := by
  simp [Ideal.ofBits, Ideal.ieee, -EReal.coe_mul]; norm_num

theorem error_apply (i : S4096.Idx) : val_main_v6 (F := Ideal) a b i = error a b (i 0) := by
  unfold error
  rw [val_main_v6_apply, val_main_v4_apply, val_main_cst_0_apply, zero_word, zero_add, val_main_v5_apply, val_main_cst_1_apply,
    ← length_word]
  refine congrArg (fun z : EReal => Ideal.div z _) (Finset.sum_congr rfl fun k _ => ?_)
  rw [val_main_v1_apply, val_main_v0_apply]
  have h : idx_main_v4 i k = ix2 (i 0) k := ValueIdx.eq_ix2 _
  rw [h]
  rfl

theorem loss_apply (i : S1x128.Idx) : val_main_v15 (F := Ideal) a b i = loss a b i := by
  rw [val_main_v15_apply, val_main_v8_apply, val_main_cst_3_apply, val_main_v7_apply, val_main_cst_2_apply, zero_word, zero_add]
  refine (congrArg (· * _) half_word).trans (congrArg halve ?_)
  refine Eq.trans ?_ (Equiv.sum_comp (ValueIdx.idxEquiv1 (n := 4096)) (error a b))
  exact Finset.sum_congr rfl fun j _ => error_apply a b j

theorem slope_apply (i : S4096x2048.Idx) : val_main_v14 (F := Ideal) a b i = dloss a b i := by
  unfold dloss
  rw [val_main_v14_apply, val_main_v13_apply, val_main_v12_apply, val_main_v10_apply, val_main_v9_apply, val_main_cst_4_apply,
    val_main_cst_5_apply, one_word, val_main_v11_apply, val_main_cst_6_apply, val_main_v3_apply, val_main_v2_apply,
    val_main_cst_apply, val_main_v0_apply]
  show Ideal.div (Ideal.ofBits .f32 0x3F000000#32 * 1) (Ideal.ofBits .f32 0x45000000#32)
    * (Ideal.ofBits .f32 0x40000000#32 * ((a i : EReal) - b i)) = _
  rw [half_word, length_word, two_word, mul_one, Ideal.div_coe (by norm_num : (2048 : ℝ) ≠ 0), ← mul_assoc, ← EReal.coe_mul,
    ← EReal.coe_mul, mul_comm]
  exact congrArg (fun z : ℝ => ((a i : EReal) - b i) * (z : EReal)) (by norm_num)

end Cert.Reference12Ideal.Entry
-- ==== Proof.LossClaims.lean ====
/-
  THE CLAIMS ABOUT THE LOSS: the kernel and its plain reference run, keep their arguments and leave every counter at zero;
  read over the extended reals the two leave the same three arrays.
-/
module

public import proofs.«01_k».proof.Defs
public import proofs.«01_k».proof.Proof.LossReference
public import proofs.«01_k».proof.Proof.Gen.Kernel12.Frame
public import proofs.«01_k».proof.Proof.Gen.Kernel12Ideal.Value
public import proofs.«01_k».proof.Proof.Gen.Reference12Ideal.Run
public import Idealize.ShloMosaic.Lib.Quiescent

@[expose] public section

noncomputable section

namespace Cert.Proof.LossClaims

open Idealize.ShloMosaic Idealize.ShloMosaic.TcCoe Idealize.SL.Sem

theorem frame : Cert.quiescent_Kernel12 := fun m ρ _ => Cert.Kernel12.Gen.frame m ρ
theorem frame_ideal : Cert.quiescent_Kernel12Ideal := fun m ρ _ => Cert.Kernel12Ideal.Gen.frame m ρ

/-- The reference's run with its counters: it has none. -/
theorem frame_reference : Cert.quiescent_Reference12Ideal := fun m ρ _ =>
  (θ_run Cert.Reference12Ideal.defs _ _).mono
    (fun r h => ⟨fun c => (h c).2.2.2, sem_eq_zero_of_no_sems (by decide) r.2⟩)
    (Cert.Reference12Ideal.Value.run (F := Ideal) m ρ)

theorem algebraic : Cert.algebraic_Kernel12Ideal_Reference12Ideal := by
  intro m ρ m' ρ' _ hagree
  refine ⟨_, _, _,
    (θ_run Cert.Kernel12Ideal.defs _ _).mono (fun r h c => ⟨(h c).1.trans (Cert.Kernel12Ideal.Array.loss_final m c),
      (h c).2.1.trans (Cert.Kernel12Ideal.Array.slope_final m c), (h c).2.2.1.trans (Cert.Kernel12Ideal.Array.rounded_final m c),
      (h c).2.2.2⟩) (Cert.Kernel12Ideal.Value.run_blocks m ρ),
    (θ_run Cert.Reference12Ideal.defs _ _).mono
      (fun r h c => ⟨(h c).1.trans ?_, (h c).2.1.trans ?_, (h c).2.2.1.trans ?_, (h c).2.2.2⟩)
      (Cert.Reference12Ideal.Value.run (F := Ideal) m' ρ')⟩
  all_goals
    obtain ⟨h0, h1⟩ := hagree c
    rw [h0, h1]
  · exact (Cert.Reference12Ideal.Read.val_main_v15_eq _ _).trans (funext (Cert.Reference12Ideal.Entry.loss_apply _ _))
  · exact (Cert.Reference12Ideal.Read.val_main_v14_eq _ _).trans (funext (Cert.Reference12Ideal.Entry.slope_apply _ _))
  · exact (Cert.Reference12Ideal.Read.val_main_v16_eq _ _).trans
      (funext fun i => (Cert.Reference12Ideal.Read.val_main_v16_apply _ _ i).trans (Cert.Reference12Ideal.Entry.slope_apply _ _ i))

end Cert.Proof.LossClaims
-- ==== Proof.AdamMath.lean ====
/-
  THE OPTIMISER'S MATHEMATICS at one weight, over the extended reals: the decayed means of the gradient and of its square, and
  the step they make. The decay rates, the step length and the other constants are the words both programs hold.
-/
module

public import Idealize.ShloMosaic.PureOps.Ideal
public import Idealize.ShloMosaic.PureOps.Ideal.Laws

@[expose] public section

noncomputable section

namespace Cert.Adam

open Idealize.ShloMosaic

/-- The mean of the gradients, moved towards `g`. -/
def first (g m : EReal) : EReal := Ideal.ofBits .f32 0x3F666666#32 * m + Ideal.ofBits .f32 0x3DCCCCCD#32 * g

/-- The mean of their squares, moved towards the square of `g`. -/
def second (g v : EReal) : EReal := Ideal.ofBits .f32 0x3F7FBE77#32 * v + Ideal.ofBits .f32 0x3A83126F#32 * (g * g)

/-- The change of a weight `w`, from its two means made larger by `b1` and `b2`. -/
def change (b1 b2 w m v : EReal) : EReal :=
  Ideal.ofBits .f32 0xBA83126F#32 * (Ideal.div (m * b1) (Ideal.sqrt (v * b2) + Ideal.ofBits .f32 0x322BCC77#32)
    + Ideal.ofBits .f32 0x3C23D70A#32 * w)

/-- What the means are multiplied by: one over the part of them the zeros they began at have not decayed. -/
def b1 : EReal := ((8388608 / 5463681 : ℝ) : EReal)
def b2 : EReal := ((268435456 / 2672307 : ℝ) : EReal)

def step (w m v : EReal) : EReal := change b1 b2 w m v

theorem bias1_word : Ideal.ofBits .f32 0x3F26BD02#32 = ((5463681 / 8388608 : ℝ) : EReal) := by
  simp [Ideal.ofBits, Ideal.ieee, -EReal.coe_mul]; norm_num
theorem bias2_word : Ideal.ofBits .f32 0x3C231ACC#32 = ((2672307 / 268435456 : ℝ) : EReal) := by
  simp [Ideal.ofBits, Ideal.ieee, -EReal.coe_mul]; norm_num

/-- Dividing by that part is multiplying by one over it. -/
theorem div_bias1 (x : EReal) : Ideal.div x (Ideal.ofBits .f32 0x3F26BD02#32) = x * b1 := by
  unfold b1
  rw [bias1_word, Ideal.div_coe (by norm_num)]
  exact congrArg (fun z : ℝ => x * (z : EReal)) (by norm_num)
theorem div_bias2 (x : EReal) : Ideal.div x (Ideal.ofBits .f32 0x3C231ACC#32) = x * b2 := by
  unfold b2
  rw [bias2_word, Ideal.div_coe (by norm_num)]
  exact congrArg (fun z : ℝ => x * (z : EReal)) (by norm_num)

end Cert.Adam
-- ==== Proof.AdamArray.lean ====
/-
  THE OPTIMISER. A grid point holds 32 rows of the weights, of their two means and of the eight parts of their gradient; it
  writes the gradient, the change of the weights and the two new means. The result arrays are those of `AdamMath`, entry by
  entry.
-/
module

public import proofs.«01_k».proof.Proof.AdamMath
public import proofs.«01_k».proof.Proof.Gen.Kernel13Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Claim
public import Idealize.ShloMosaic.Lib.StableHlo.RunRead
public import Idealize.ShloMosaic.Lib.Pointwise

@[expose] public section

set_option maxRecDepth 16384

noncomputable section

namespace Cert.Kernel13Ideal.Array

open Idealize.ShloMosaic Idealize.ShloMosaic.TcCoe Cert.Kernel13Ideal Cert.Kernel13Ideal.Gen

/-! ## One grid point -/

theorem named_b1 : Named.named (F := Ideal) κ "inv_bias1" (φ := .f32) 0x3FC48605#32 = Adam.b1 :=
  IdealRules.named_const.ideal_named_scalar _ _ _ _ rfl
theorem named_b2 : Named.named (F := Ideal) κ "inv_bias2" (φ := .f32) 0x42C8E6D3#32 = Adam.b2 :=
  IdealRules.named_const.ideal_named_scalar _ _ _ _ rfl

/-- A load of one part, at an entry. -/
theorem ld_part (X : Vec Ideal ⟨3, ![8, 32, 1024]⟩ .f32) (o : ℕ) (inb) (k : Fin 8) (hk : k.val = o) (a : Fin 32) (b : Fin 1024) :
    View.ld (S := ⟨3, ![8, 32, 1024]⟩) X (Rect.unit (s := ⟨3, ![8, 32, 1024]⟩) ![o, 0, 0] ![1, 32, 1024] inb) (ix3 0 a b)
      = X (ix3 k a b) :=
  View.ld_unit_apply_of _ _ _ _ _ _ fun i => match i with
    | ⟨0, _⟩ => hk
    | ⟨1, _⟩ => (Nat.zero_add _).symm
    | ⟨2, _⟩ => (Nat.zero_add _).symm

/-- A load of a whole block, at an entry. -/
theorem ld_whole (X : Vec Ideal ⟨3, ![1, 32, 1024]⟩ .f32) (inb) (a : Fin 32) (b : Fin 1024) :
    View.ld (S := ⟨3, ![1, 32, 1024]⟩) X (Rect.unit (s := ⟨3, ![1, 32, 1024]⟩) ![0, 0, 0] ![1, 32, 1024] inb) (ix3 0 a b)
      = X (ix3 0 a b) :=
  View.ld_unit_apply_of _ _ _ _ _ _ fun i => match i with
    | ⟨0, _⟩ => rfl
    | ⟨1, _⟩ => (Nat.zero_add _).symm
    | ⟨2, _⟩ => (Nat.zero_add _).symm

section Block

variable (x0 : Vec Ideal S8x32x1024 .f32) (x1 x2 x3 : Vec Ideal S1x32x1024 .f32)

/-- The sum of a block's parts at an entry. -/
def grad (a : Fin 32) (b : Fin 1024) : EReal := ∑ k : Fin 8, (x0 (ix3 k a b) : EReal)

theorem parts_at (v0 v1 v2 v3 v4 v5 v6 v7 : Vec Ideal S1x32x1024 .f32) (a : Fin 32) (b : Fin 1024) :
    k0_pay2 (F := Ideal) v0 v1 v2 v3 v4 v5 v6 v7 (ix2 a b)
      = ((((((((v0 (ix3 0 a b) + v1 (ix3 0 a b) : EReal) + v2 (ix3 0 a b) : EReal) + v3 (ix3 0 a b) : EReal) + v4 (ix3 0 a b) : EReal)
        + v5 (ix3 0 a b) : EReal) + v6 (ix3 0 a b) : EReal) + v7 (ix3 0 a b)) : EReal) := by
  pointwise [k0_pay2]

theorem grad_at (a : Fin 32) (b : Fin 1024) : k0_pay8 (F := Ideal) x0 x1 x2 x3 (ix2 a b) = grad x0 a b := by
  unfold k0_pay8 grad
  rw [Fin.sum_univ_eight, parts_at]
  congr
  exacts [ld_part x0 0 _ 0 rfl a b, ld_part x0 1 _ 1 rfl a b, ld_part x0 2 _ 2 rfl a b, ld_part x0 3 _ 3 rfl a b,
    ld_part x0 4 _ 4 rfl a b, ld_part x0 5 _ 5 rfl a b, ld_part x0 6 _ 6 rfl a b, ld_part x0 7 _ 7 rfl a b]

theorem first_at (a : Fin 32) (b : Fin 1024) :
    k0_pay9 (F := Ideal) x0 x1 x2 x3 (ix2 a b) = Adam.first (grad x0 a b) (x2 (ix3 0 a b)) := by
  rw [← grad_at x0 x1 x2 x3 a b, ← ld_whole x2 inb_S1x32x1024_S1x32x1024_0_0_0 a b]
  unfold Adam.first k0_pay9 k0_pay8
  pointwise [k0_pay3]

theorem second_at (g : FVec Ideal S32x1024 .f32) (v : Vec Ideal S1x32x1024 .f32) (a : Fin 32) (b : Fin 1024) :
    k0_pay4 (F := Ideal) g v (ix2 a b) = Adam.second (g (ix2 a b)) (v (ix3 0 a b)) := by
  unfold Adam.second
  pointwise [k0_pay4]

theorem step_at (g m : FVec Ideal S32x1024 .f32) (v w : Vec Ideal S1x32x1024 .f32) (a : Fin 32) (b : Fin 1024) :
    k0_pay6 (F := Ideal) g m v w (ix3 0 a b)
      = Adam.step (w (ix3 0 a b)) (m (ix2 a b)) (Adam.second (g (ix2 a b)) (v (ix3 0 a b))) := by
  unfold Adam.step Adam.change
  rw [← second_at, ← named_b1, ← named_b2]
  pointwise [k0_pay6]

theorem grad_out (a : Fin 32) (b : Fin 1024) : out0_4 x0 x1 x2 x3 (ix3 0 a b) = grad x0 a b := by
  rw [← grad_at x0 x1 x2 x3 a b]
  unfold out0_4
  frame_out
  pointwise [k0_pay5]

theorem first_out (a : Fin 32) (b : Fin 1024) :
    out0_6 x0 x1 x2 x3 (ix3 0 a b) = Adam.first (grad x0 a b) (x2 (ix3 0 a b)) := by
  rw [← first_at x0 x1 x2 x3 a b]
  unfold out0_6
  frame_out
  pointwise [k0_pay7]

theorem second_out (a : Fin 32) (b : Fin 1024) :
    out0_7 x0 x1 x2 x3 (ix3 0 a b) = Adam.second (grad x0 a b) (x3 (ix3 0 a b)) := by
  rw [← grad_at x0 x1 x2 x3 a b, ← ld_whole x3 inb_S1x32x1024_S1x32x1024_0_0_0 a b, ← second_at]
  unfold out0_7
  frame_out
  pointwise [k0_pay1]

theorem step_out (a : Fin 32) (b : Fin 1024) : out0_5 x0 x1 x2 x3 (ix3 0 a b)
    = Adam.step (x1 (ix3 0 a b)) (Adam.first (grad x0 a b) (x2 (ix3 0 a b))) (Adam.second (grad x0 a b) (x3 (ix3 0 a b))) := by
  rw [← first_at x0 x1 x2 x3 a b, ← grad_at x0 x1 x2 x3 a b, ← ld_whole x3 inb_S1x32x1024_S1x32x1024_0_0_0 a b,
    ← ld_whole x1 inb_S1x32x1024_S1x32x1024_0_0_0 a b, ← step_at]
  unfold out0_5
  frame_out

end Block

/-! ## The result arrays -/

/-- The sum of the parts at an entry, and the arrays the optimiser makes of it. -/
def total (p : Vec Ideal S8x416x1024 .f32) (a : Fin 416) (b : Fin 1024) : EReal := ∑ k : Fin 8, (p (ix3 k a b) : EReal)
def grads (p : Vec Ideal S8x416x1024 .f32) (i : S1x416x1024.Idx) : EReal := total p (i 1) (i 2)
def firsts (p : Vec Ideal S8x416x1024 .f32) (m : Vec Ideal S416x1024 .f32) (i : S1x416x1024.Idx) : EReal :=
  Adam.first (grads p i) (m (ix2 (i 1) (i 2)))
def seconds (p : Vec Ideal S8x416x1024 .f32) (v : Vec Ideal S416x1024 .f32) (i : S1x416x1024.Idx) : EReal :=
  Adam.second (grads p i) (v (ix2 (i 1) (i 2)))
def steps (p : Vec Ideal S8x416x1024 .f32) (w m v : Vec Ideal S416x1024 .f32) (i : S1x416x1024.Idx) : EReal :=
  Adam.step (w (ix2 (i 1) (i 2))) (firsts p m i) (seconds p v i)

variable (m : (ℓ : Loc nD τ sig) → Buf (Elt Ideal) ℓ) (c : Dev nD)

/-- Which block each window holds at a grid point. -/
theorem idx : ∀ t : Fin cfg0.N, win0_0.index t = ![0, t.val, 0] ∧ win0_1.index t = ![0, t.val, 0]
    ∧ win0_2.index t = ![0, t.val, 0] ∧ win0_3.index t = ![0, t.val, 0] ∧ win0_4.index t = ![0, t.val, 0]
    ∧ win0_5.index t = ![0, t.val, 0] ∧ win0_6.index t = ![0, t.val, 0] ∧ win0_7.index t = ![0, t.val, 0] :=
  (by decide +kernel : ∀ t : Fin grid0.N, _)

/-- The row of the arrays a row of a point's blocks is. -/
def place (t : Fin cfg0.N) (a : Fin 32) : Fin 416 := ⟨t.val * 32 + a.val, by have := lt_of_lt_of_eq t.isLt N_0; omega⟩

theorem emb0 (t : Fin cfg0.N) (k : Fin 8) (a : Fin 32) (b : Fin 1024) :
    (win0_0.blk t).view.emb (ix3 k a b) = ix3 k (place t a) b := by
  obtain ⟨e, -⟩ := idx t
  blk_ext [e, ix3, place]
theorem emb1 (t : Fin cfg0.N) (a : Fin 32) (b : Fin 1024) : (win0_1.blk t).view.emb (ix3 0 a b) = ix3 0 (place t a) b := by
  obtain ⟨-, e, -⟩ := idx t
  blk_ext [e, ix3, place]
theorem emb2 (t : Fin cfg0.N) (a : Fin 32) (b : Fin 1024) : (win0_2.blk t).view.emb (ix3 0 a b) = ix3 0 (place t a) b := by
  obtain ⟨-, -, e, -⟩ := idx t
  blk_ext [e, ix3, place]
theorem emb3 (t : Fin cfg0.N) (a : Fin 32) (b : Fin 1024) : (win0_3.blk t).view.emb (ix3 0 a b) = ix3 0 (place t a) b := by
  obtain ⟨-, -, -, e, -⟩ := idx t
  blk_ext [e, ix3, place]
theorem emb4 (t : Fin cfg0.N) (a : Fin 32) (b : Fin 1024) : (win0_4.blk t).view.emb (ix3 0 a b) = ix3 0 (place t a) b := by
  obtain ⟨-, -, -, -, e, -⟩ := idx t
  blk_ext [e, ix3, place]
theorem emb5 (t : Fin cfg0.N) (a : Fin 32) (b : Fin 1024) : (win0_5.blk t).view.emb (ix3 0 a b) = ix3 0 (place t a) b := by
  obtain ⟨-, -, -, -, -, e, -⟩ := idx t
  blk_ext [e, ix3, place]
theorem emb6 (t : Fin cfg0.N) (a : Fin 32) (b : Fin 1024) : (win0_6.blk t).view.emb (ix3 0 a b) = ix3 0 (place t a) b := by
  obtain ⟨-, -, -, -, -, -, e, -⟩ := idx t
  blk_ext [e, ix3, place]
theorem emb7 (t : Fin cfg0.N) (a : Fin 32) (b : Fin 1024) : (win0_7.blk t).view.emb (ix3 0 a b) = ix3 0 (place t a) b := by
  obtain ⟨-, -, -, -, -, -, -, e⟩ := idx t
  blk_ext [e, ix3, place]

/-- The weights and their means reach the kernel with a leading axis of length one. -/
theorem V_weights : V m c main_v0
    = broadcastInDim S1x416x1024 ![1, 2] bcast_S416x1024_S1x416x1024_1_2 (m ((c : Thread nD τ).loc main_arg1)) := by
  unfold_abbrev_sides; after_reads_simp
theorem V_firsts : V m c main_v1
    = broadcastInDim S1x416x1024 ![1, 2] bcast_S416x1024_S1x416x1024_1_2 (m ((c : Thread nD τ).loc main_arg2)) := by
  unfold_abbrev_sides; after_reads_simp
theorem V_seconds : V m c main_v2
    = broadcastInDim S1x416x1024 ![1, 2] bcast_S416x1024_S1x416x1024_1_2 (m ((c : Thread nD τ).loc main_arg3)) := by
  unfold_abbrev_sides; after_reads_simp

theorem lifted (g : Vec Ideal S416x1024 .f32) (a : Fin 416) (b : Fin 1024) :
    broadcastInDim S1x416x1024 ![1, 2] bcast_S416x1024_S1x416x1024_1_2 g (ix3 0 a b) = g (ix2 a b) := by
  pointwise []

theorem weights_at (t : Fin cfg0.N) (a : Fin 32) (b : Fin 1024) :
    iblk m c 1 t (ix3 0 a b) = m ((c : Thread nD τ).loc main_arg1) (ix2 (place t a) b) :=
  (congrArg (V m c main_v0) (emb1 t a b)).trans ((congrFun (V_weights m c) _).trans (lifted _ _ b))
theorem firsts_at (t : Fin cfg0.N) (a : Fin 32) (b : Fin 1024) :
    iblk m c 2 t (ix3 0 a b) = m ((c : Thread nD τ).loc main_arg2) (ix2 (place t a) b) :=
  (congrArg (V m c main_v1) (emb2 t a b)).trans ((congrFun (V_firsts m c) _).trans (lifted _ _ b))
theorem seconds_at (t : Fin cfg0.N) (a : Fin 32) (b : Fin 1024) :
    iblk m c 3 t (ix3 0 a b) = m ((c : Thread nD τ).loc main_arg3) (ix2 (place t a) b) :=
  (congrArg (V m c main_v2) (emb3 t a b)).trans ((congrFun (V_seconds m c) _).trans (lifted _ _ b))
theorem total_at (t : Fin cfg0.N) (a : Fin 32) (b : Fin 1024) :
    grad (iblk m c 0 t) a b = total (m ((c : Thread nD τ).loc main_arg0)) (place t a) b :=
  Finset.sum_congr rfl fun k _ => congrArg (m ((c : Thread nD τ).loc main_arg0)) (emb0 t k a b)

/-- An entry of a block is named by its row and its column. -/
theorem entry (y : S1x32x1024.Idx) : ∃ (a : Fin 32) (b : Fin 1024), y = ix3 0 a b := by
  refine ⟨y 1, y 2, (ValueIdx.eq_ix3 y).trans ?_⟩
  have h : y 0 = (0 : Fin 1) := Subsingleton.elim (α := Fin 1) _ _
  rw [h]
  rfl

theorem grads_final : (dats m 0 c).arrAt 4 cfg0.N = (grads (m ((c : Thread nD τ).loc main_arg0)) : Vec Ideal S1x416x1024 .f32) := by
  refine (dats m 0 c).arrAt_eq_of_covers 4 _ (by decide +kernel) fun t hf y => ?_
  obtain ⟨a, b, rfl⟩ := entry y
  refine (congrFun (after0_4 m c t) _).trans ((grad_out _ _ _ _ a b).trans ((total_at m c t a b).trans ?_))
  exact (congrArg (grads (m ((c : Thread nD τ).loc main_arg0))) (emb4 t a b)).symm

theorem firsts_final : (dats m 0 c).arrAt 6 cfg0.N
    = (firsts (m ((c : Thread nD τ).loc main_arg0)) (m ((c : Thread nD τ).loc main_arg2)) : Vec Ideal S1x416x1024 .f32) := by
  refine (dats m 0 c).arrAt_eq_of_covers 6 _ (by decide +kernel) fun t hf y => ?_
  obtain ⟨a, b, rfl⟩ := entry y
  refine (congrFun (after0_6 m c t) _).trans ((first_out _ _ _ _ a b).trans ?_)
  rw [total_at, firsts_at]
  exact (congrArg (firsts (m ((c : Thread nD τ).loc main_arg0)) (m ((c : Thread nD τ).loc main_arg2))) (emb6 t a b)).symm

theorem seconds_final : (dats m 0 c).arrAt 7 cfg0.N
    = (seconds (m ((c : Thread nD τ).loc main_arg0)) (m ((c : Thread nD τ).loc main_arg3)) : Vec Ideal S1x416x1024 .f32) := by
  refine (dats m 0 c).arrAt_eq_of_covers 7 _ (by decide +kernel) fun t hf y => ?_
  obtain ⟨a, b, rfl⟩ := entry y
  refine (congrFun (after0_7 m c t) _).trans ((second_out _ _ _ _ a b).trans ?_)
  rw [total_at, seconds_at]
  exact (congrArg (seconds (m ((c : Thread nD τ).loc main_arg0)) (m ((c : Thread nD τ).loc main_arg3))) (emb7 t a b)).symm

theorem steps_final : (dats m 0 c).arrAt 5 cfg0.N
    = (steps (m ((c : Thread nD τ).loc main_arg0)) (m ((c : Thread nD τ).loc main_arg1)) (m ((c : Thread nD τ).loc main_arg2))
        (m ((c : Thread nD τ).loc main_arg3)) : Vec Ideal S1x416x1024 .f32) := by
  refine (dats m 0 c).arrAt_eq_of_covers 5 _ (by decide +kernel) fun t hf y => ?_
  obtain ⟨a, b, rfl⟩ := entry y
  refine (congrFun (after0_5 m c t) _).trans ((step_out _ _ _ _ a b).trans ?_)
  rw [total_at, weights_at, firsts_at, seconds_at]
  exact (congrArg (steps (m ((c : Thread nD τ).loc main_arg0)) (m ((c : Thread nD τ).loc main_arg1))
    (m ((c : Thread nD τ).loc main_arg2)) (m ((c : Thread nD τ).loc main_arg3))) (emb5 t a b)).symm

end Cert.Kernel13Ideal.Array
-- ==== Proof.AdamReference.lean ====
/-
  THE PLAIN OPTIMISER. The reference adds the parts of the gradient and makes the two means and the step of `AdamMath` as array
  operations; its results are read here at one entry.
-/
module

public import proofs.«01_k».proof.Proof.AdamArray
public import proofs.«01_k».proof.Proof.Gen.Reference13Ideal.Read

@[expose] public section

noncomputable section

namespace Cert.Reference13Ideal.Entry

open Idealize.ShloMosaic Cert.Reference13Ideal Cert.Reference13Ideal.Gen Cert.Reference13Ideal.Read
open Cert.Kernel13Ideal.Array (total grads firsts seconds steps)

variable (p : Vec Ideal S8x416x1024 .f32) (w m v : Vec Ideal S416x1024 .f32)

theorem zero_word : FloatOps.ofBits (F := Ideal) FTy.f32 0x00000000#32 = (0 : EReal) := by
  show Ideal.ofBits .f32 0x00000000#32 = 0
  simp [Ideal.ofBits, Ideal.ieee]

theorem sum_apply (i : S416x1024.Idx) : val_main_v0 (F := Ideal) p i = total p (i 0) (i 1) := by
  rw [val_main_v0_apply, val_main_cst_apply, zero_word, zero_add]
  refine Finset.sum_congr rfl fun k _ => congrArg p ?_
  exact ValueIdx.eq_ix3 _

theorem first_apply (i : S416x1024.Idx) : val_main_v5 (F := Ideal) p m i = Adam.first (total p (i 0) (i 1)) (m i) := by
  rw [val_main_v5_apply, val_main_v2_apply, val_main_v1_apply, val_main_cst_0_apply, val_main_v4_apply, val_main_v3_apply,
    val_main_cst_1_apply, sum_apply]
  rfl

theorem second_apply (i : S416x1024.Idx) : val_main_v11 (F := Ideal) p v i = Adam.second (total p (i 0) (i 1)) (v i) := by
  rw [val_main_v11_apply, val_main_v7_apply, val_main_v6_apply, val_main_cst_2_apply, val_main_v10_apply, val_main_v9_apply,
    val_main_cst_3_apply, val_main_v8_apply, sum_apply]
  rfl

theorem step_apply (i : S416x1024.Idx) : val_main_v24 (F := Ideal) p w m v i
    = Adam.step (w i) (Adam.first (total p (i 0) (i 1)) (m i)) (Adam.second (total p (i 0) (i 1)) (v i)) := by
  rw [val_main_v24_apply, val_main_v23_apply, val_main_cst_8_apply, val_main_v22_apply, val_main_v21_apply, val_main_v20_apply,
    val_main_cst_7_apply, val_main_v19_apply, val_main_v18_apply, val_main_v17_apply, val_main_cst_6_apply, val_main_v16_apply,
    val_main_v15_apply, val_main_v14_apply, val_main_cst_5_apply, val_main_v13_apply, val_main_v12_apply, val_main_cst_4_apply,
    first_apply, second_apply]
  unfold Adam.step Adam.change
  rw [← Adam.div_bias1, ← Adam.div_bias2]
  rfl

theorem grads_apply (i : S1x416x1024.Idx) : val_main_v25 (F := Ideal) p i = grads p i :=
  (val_main_v25_apply p i).trans (sum_apply p _)

theorem firsts_apply (i : S1x416x1024.Idx) : val_main_v27 (F := Ideal) p m i = firsts p m i :=
  (val_main_v27_apply p m i).trans ((first_apply p m _).trans (congrArg (fun j => Adam.first (grads p i) (m j)) (ValueIdx.eq_ix2 _)))

theorem seconds_apply (i : S1x416x1024.Idx) : val_main_v28 (F := Ideal) p v i = seconds p v i :=
  (val_main_v28_apply p v i).trans ((second_apply p v _).trans (congrArg (fun j => Adam.second (grads p i) (v j)) (ValueIdx.eq_ix2 _)))

theorem steps_apply (i : S1x416x1024.Idx) : val_main_v26 (F := Ideal) p w m v i = steps p w m v i :=
  (val_main_v26_apply p w m v i).trans ((step_apply p w m v _).trans
    (congrArg (fun j => Adam.step (w j) (Adam.first (grads p i) (m j)) (Adam.second (grads p i) (v j))) (ValueIdx.eq_ix2 _)))

end Cert.Reference13Ideal.Entry
-- ==== Proof.AdamClaims.lean ====
/-
  THE CLAIMS ABOUT THE OPTIMISER: the kernel and its plain reference run, keep their arguments and leave every counter at
  zero; read over the extended reals the two leave the same four arrays.
-/
module

public import proofs.«01_k».proof.Defs
public import proofs.«01_k».proof.Proof.AdamReference
public import proofs.«01_k».proof.Proof.Gen.Kernel13.Frame
public import proofs.«01_k».proof.Proof.Gen.Kernel13Ideal.Value
public import proofs.«01_k».proof.Proof.Gen.Reference13Ideal.Run
public import Idealize.ShloMosaic.Lib.Quiescent

@[expose] public section

noncomputable section

namespace Cert.Proof.AdamClaims

open Idealize.ShloMosaic Idealize.ShloMosaic.TcCoe Idealize.SL.Sem

theorem frame : Cert.quiescent_Kernel13 := fun m ρ _ => Cert.Kernel13.Gen.frame m ρ
theorem frame_ideal : Cert.quiescent_Kernel13Ideal := fun m ρ _ => Cert.Kernel13Ideal.Gen.frame m ρ

/-- The reference's run with its counters: it has none. -/
theorem frame_reference : Cert.quiescent_Reference13Ideal := fun m ρ _ =>
  (θ_run Cert.Reference13Ideal.defs _ _).mono
    (fun r h => ⟨fun c => (h c).2.2.2.2, sem_eq_zero_of_no_sems (by decide) r.2⟩)
    (Cert.Reference13Ideal.Value.run (F := Ideal) m ρ)

/-- What the idealized kernel multiplies the means by rounds to the constants the kernel holds. -/
theorem preserves : Cert.preserves_Kernel13_Kernel13Ideal :=
  ⟨IdealRules.named_const.statement Cert.Kernel13Ideal.κ "inv_bias1" .f32 0x3FC48605#32 ((8388608 / 5463681 : ℝ) : EReal) rfl,
    IdealRules.named_const.statement Cert.Kernel13Ideal.κ "inv_bias2" .f32 0x42C8E6D3#32 ((268435456 / 2672307 : ℝ) : EReal) rfl⟩

theorem algebraic : Cert.algebraic_Kernel13Ideal_Reference13Ideal := by
  intro m ρ m' ρ' _ hagree
  refine ⟨_, _, _, _,
    (θ_run Cert.Kernel13Ideal.defs _ _).mono (fun r h c => ⟨(h c).1.trans (Cert.Kernel13Ideal.Array.grads_final m c),
      (h c).2.1.trans (Cert.Kernel13Ideal.Array.steps_final m c), (h c).2.2.1.trans (Cert.Kernel13Ideal.Array.firsts_final m c),
      (h c).2.2.2.1.trans (Cert.Kernel13Ideal.Array.seconds_final m c), (h c).2.2.2.2⟩) (Cert.Kernel13Ideal.Value.run_blocks m ρ),
    (θ_run Cert.Reference13Ideal.defs _ _).mono
      (fun r h c => ⟨(h c).1.trans ?_, (h c).2.1.trans ?_, (h c).2.2.1.trans ?_, (h c).2.2.2.1.trans ?_, (h c).2.2.2.2⟩)
      (Cert.Reference13Ideal.Value.run (F := Ideal) m' ρ')⟩
  all_goals
    obtain ⟨h0, h1, h2, h3⟩ := hagree c
    rw [h0]
  · exact (Cert.Reference13Ideal.Read.val_main_v25_eq _).trans (funext (Cert.Reference13Ideal.Entry.grads_apply _))
  · rw [h1, h2, h3]
    exact (Cert.Reference13Ideal.Read.val_main_v26_eq _ _ _ _).trans (funext (Cert.Reference13Ideal.Entry.steps_apply _ _ _ _))
  · rw [h2]
    exact (Cert.Reference13Ideal.Read.val_main_v27_eq _ _).trans (funext (Cert.Reference13Ideal.Entry.firsts_apply _ _))
  · rw [h3]
    exact (Cert.Reference13Ideal.Read.val_main_v28_eq _ _).trans (funext (Cert.Reference13Ideal.Entry.seconds_apply _ _))

end Cert.Proof.AdamClaims
-- ==== Proof.QkvWeightArray.lean ====
/-
  THE GRADIENT OF THE ATTENTION LAYER'S INPUT WEIGHT. The result lies in eight shards of 384 columns. A block is accumulated
  over two grid points, each taking 2048 rows of the input and of the cotangent. Summed up and with the shards put side by
  side, the result array is the plain product over all 4096 rows.
-/
module

public import proofs.«01_k».proof.Proof.Gen.Kernel14Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Claim
public import Idealize.ShloMosaic.Lib.StableHlo.RunRead
public import Idealize.ShloMosaic.Lib.Pointwise

@[expose] public section

set_option maxRecDepth 16384

noncomputable section

namespace Cert.Kernel14Ideal.Array

open Idealize.ShloMosaic Idealize.ShloMosaic.TcCoe Cert.Kernel14Ideal Cert.Kernel14Ideal.Gen

/-! ## One grid point -/

/-- The part of a block that 2048 rows give, at an entry. -/
def rows (h : Vec Ideal S2048x1024 .bf16) (s : Vec Ideal S2048x384 .bf16) (n : Fin 1024) (q : Fin 384) : EReal :=
  ∑ k : Fin 2048, (h (ix2 k n) : EReal) * s (ix2 k q)

theorem first_at (h : Vec Ideal S2048x1024 .bf16) (s : Vec Ideal S2048x384 .bf16) (n : Fin 1024) (q : Fin 384) :
    k0_pay2 (F := Ideal) h s (ix3 0 n q) = (0 + rows h s n q : EReal) := by
  rw [zero_add]
  unfold rows
  pointwise [k0_pay2, k0_pay1]

theorem next_at (h : Vec Ideal S2048x1024 .bf16) (s : Vec Ideal S2048x384 .bf16) (z : Vec Ideal S1x1024x384 .f32) (n : Fin 1024)
    (q : Fin 384) : k0_pay3 (F := Ideal) h s z (ix3 0 n q) = ((z (ix3 0 n q) : EReal) + rows h s n q : EReal) := by
  unfold rows
  pointwise [k0_pay3, k0_pay1]

variable (m : (ℓ : Loc nD τ sig) → Buf (Elt Ideal) ℓ) (c : Dev nD)

/-- The rows of the input and of the cotangent that a point takes, and what it adds to its block. -/
def input (t : Fin cfg0.N) : Vec Ideal S2048x1024 .bf16 := iblk m c 0 t
def cot (t : Fin cfg0.N) : Vec Ideal S2048x384 .bf16 := iblk m c 1 t
def part (t : Fin cfg0.N) (y : S1x1024x384.Idx) : EReal := rows (input m c t) (cot m c t) (y 1) (y 2)

theorem idx3 (y : S1x1024x384.Idx) : y = ix3 0 (y 1) (y 2) := by
  refine (ValueIdx.eq_ix3 y).trans ?_
  congr 1
  exact Subsingleton.elim (α := Fin 1) _ _

theorem acc_first (t : Fin cfg0.N) (h : t.val % 2 = 0) (y : S1x1024x384.Idx) :
    ((outsAt0 m c t.val t.isLt).2 y : EReal) = 0 + part m c t y := by
  rw [outsAt0_A m c t h (by omega) (by omega)]
  frame_out
  exact (congrArg _ (idx3 y)).trans (first_at _ _ (y 1) (y 2))

theorem acc_next (t : Fin cfg0.N) (h : ¬t.val % 2 = 0) (y : S1x1024x384.Idx) :
    ((outsAt0 m c t.val t.isLt).2 y : EReal)
      = (outsAt0 m c (t.val - 1) (Nat.lt_of_le_of_lt (Nat.sub_le _ _) t.isLt)).2 y + part m c t y := by
  rw [outsAt0_B m c t h (by omega) (by omega)]
  frame_out
  refine (congrArg _ (idx3 y)).trans ((next_at _ _ _ (y 1) (y 2)).trans (congrArg (· + part m c t y) ?_))
  exact (congrFun (Memref.IsWhole.read_unread _ _) _).trans (congrArg _ (idx3 y).symm)

theorem acc_last (t : Fin cfg0.N) (h : t.val % 2 = 1) (y : S1x1024x384.Idx) :
    ((outsAt0 m c t.val t.isLt).1 y : EReal) = (outsAt0 m c t.val t.isLt).2 y := by
  rw [outsAt0_B m c t (by omega) (by omega) h]
  frame_out
  rfl

/-! ## The blocks a point holds, as parts of the argument arrays -/

/-- Which block each window holds at a grid point. -/
theorem idx : ∀ t : Fin cfg0.N, win0_0.index t = ![t.val % 2, t.val / 16] ∧ win0_1.index t = ![t.val % 2, t.val / 2 % 8]
    ∧ win0_2.index t = ![t.val / 2 % 8, t.val / 16, 0] := (by decide +kernel : ∀ t : Fin grid0.N, _)

theorem input_at (t : Fin cfg0.N) (k : Fin 2048) (n : Fin 1024) (l : Fin 4096) (N : Fin 2048)
    (hl : l.val = t.val % 2 * 2048 + k.val) (hN : N.val = t.val / 16 * 1024 + n.val) :
    input m c t (ix2 k n) = m ((c : Thread nD τ).loc main_arg0) (ix2 l N) := by
  refine congrArg (m ((c : Thread nD τ).loc main_arg0)) (?_ : (win0_0.blk t).view.emb (ix2 k n) = ix2 l N)
  obtain ⟨e, -⟩ := idx t
  blk_ext [e, ix2, hl, hN]

theorem cot_at (t : Fin cfg0.N) (k : Fin 2048) (q : Fin 384) (l : Fin 4096) (x : Fin 3072)
    (hl : l.val = t.val % 2 * 2048 + k.val) (hx : x.val = t.val / 2 % 8 * 384 + q.val) :
    cot m c t (ix2 k q) = m ((c : Thread nD τ).loc main_arg1) (ix2 l x) := by
  refine congrArg (m ((c : Thread nD τ).loc main_arg1)) (?_ : (win0_1.blk t).view.emb (ix2 k q) = ix2 l x)
  obtain ⟨-, e, -⟩ := idx t
  blk_ext [e, ix2, hl, hx]

/-! ## The result array -/

/-- One term of an entry: row `l` of the input times row `l` of the cotangent. -/
def term (h : Vec Ideal S4096x2048 .bf16) (z : Vec Ideal S4096x3072 .bf16) (n : Fin 2048) (x : Fin 3072) (l : Fin 4096) : EReal :=
  (h (ix2 l n) : EReal) * z (ix2 l x)

/-- The plain product: columns of the input against columns of the cotangent. -/
def outer (h : Vec Ideal S4096x2048 .bf16) (z : Vec Ideal S4096x3072 .bf16) : Vec Ideal S2048x3072 .bf16 :=
  fun i => (∑ l : Fin 4096, term h z (i 0) (i 1) l : EReal)

/-- The column of the product that column `q` of shard `s` is. -/
def column (s : Fin 8) (q : Fin 384) : Fin 3072 := ⟨s.val * 384 + q.val, by omega⟩

/-- The same in eight shards. -/
def shards (h : Vec Ideal S4096x2048 .bf16) (z : Vec Ideal S4096x3072 .bf16) : Vec Ideal S8x2048x384 .bf16 :=
  fun i => (∑ l : Fin 4096, term h z (i 1) (column (i 0) (i 2)) l : EReal)

/-- What a point adds, in the arrays' entries: the terms of its 2048 rows. -/
theorem part_at (t : Fin cfg0.N) (n : Fin 1024) (q : Fin 384) (N : Fin 2048) (x : Fin 3072)
    (hN : N.val = t.val / 16 * 1024 + n.val) (hx : x.val = t.val / 2 % 8 * 384 + q.val) :
    part m c t (ix3 0 n q) = ∑ k : Fin 2048, term (m ((c : Thread nD τ).loc main_arg0)) (m ((c : Thread nD τ).loc main_arg1)) N x
      ⟨t.val % 2 * 2048 + k.val, by omega⟩ := by
  unfold part rows term
  refine Finset.sum_congr rfl fun k _ => congr (congrArg HMul.hMul ?_) ?_
  · exact input_at m c t k n _ N rfl hN
  · exact cot_at m c t k q _ x rfl hx

theorem out_emb (t : Fin cfg0.N) (y : S1x1024x384.Idx) :
    ((win0_2.blk t).view.emb y 0 : ℕ) = t.val / 2 % 8 ∧ ((win0_2.blk t).view.emb y 1 : ℕ) = t.val / 16 * 1024 + (y 1).val
      ∧ ((win0_2.blk t).view.emb y 2 : ℕ) = (y 2).val := by
  obtain ⟨-, -, e⟩ := idx t
  have h0 : (y 0).val < 1 := (y 0).isLt
  refine ⟨?_, ?_, ?_⟩ <;> blk_simp [e] <;> omega

theorem final : (dats m 0 c).arrAt 2 cfg0.N = shards (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have h1 : t.val % 2 = 1 := (flush0_2 t).mp hf
  obtain ⟨e0, e1, e2⟩ := out_emb t y
  refine (congrFun (after0_2 m c t) y).trans ((acc_last m c t h1 y).trans ?_)
  refine (Pipeline.eq_sum_fin_of_reset_step_apply_of_flush (M := EReal) (fun n h => (outsAt0 m c n h).2) 2 (fun _ => 0) (part m c)
    (fun t h y => acc_first m c t h y) (fun t h y => acc_next m c t h y) t h1 y).trans ?_
  rw [zero_add]
  show _ = ∑ l : Fin 4096, term (m ((c : Thread nD τ).loc main_arg0)) (m ((c : Thread nD τ).loc main_arg1))
    ((win0_2.blk t).view.emb y 1) (column ((win0_2.blk t).view.emb y 0) ((win0_2.blk t).view.emb y 2)) l
  refine Eq.trans ?_ (Fin.sum_univ_tiles 2 2048 rfl _).symm
  refine Finset.sum_congr rfl fun s _ => (congrArg (part m c _) (idx3 y)).trans ?_
  refine (part_at m c _ (y 1) (y 2) ((win0_2.blk t).view.emb y 1) (column ((win0_2.blk t).view.emb y 0) ((win0_2.blk t).view.emb y 2))
    (e1.trans (by dsimp only; omega))
    ((congrArg₂ (fun a b : ℕ => a * 384 + b) e0 e2).trans (by dsimp only; omega))).trans ?_
  refine Finset.sum_congr rfl fun k _ => congrArg _ (Fin.ext ?_)
  dsimp only
  omega

/-! ## The shards put side by side -/

theorem side_at (z : Vec Ideal S8x2048x384 .bf16) (n : Fin 2048) (x : Fin 3072) :
    shapeCast S2048x3072 (transpose S2048x8x384 [1, 0, 2] z transposes_S8x2048x384_S2048x8x384_1_0_2)
      shapeCasts_S2048x8x384_S2048x3072 (ix2 n x)
      = z (ix3 (⟨x.val / 384, by omega⟩ : Fin 8) n (⟨x.val % 384, by omega⟩ : Fin 384)) := by
  pointwise

theorem side_by_side (h : Vec Ideal S4096x2048 .bf16) (z : Vec Ideal S4096x3072 .bf16) :
    shapeCast S2048x3072 (transpose S2048x8x384 [1, 0, 2] (shards h z) transposes_S8x2048x384_S2048x8x384_1_0_2)
      shapeCasts_S2048x8x384_S2048x3072 = outer h z := by
  funext i
  refine (congrArg _ (ValueIdx.eq_ix2 i)).trans ((side_at (shards h z) (i 0) (i 1)).trans ?_)
  refine Finset.sum_congr rfl fun l _ => congrArg (fun x => term h z (i 0) x l) (Fin.ext ?_)
  show (i 1).val / 384 * 384 + (i 1).val % 384 = (i 1).val
  omega

/-- What the result buffer holds at the end. -/
theorem result : Pipeline.afterTail₀ cfgs (dats m) 0 (V0 m) [hostOps1] c main_v2
    = outer (m ((c : Thread nD τ).loc main_arg0)) (m ((c : Thread nD τ).loc main_arg1)) := by
  refine Eq.trans ?_ (side_by_side _ _)
  rw [← final m c]
  unfold Pipeline.afterTail₀
  after_reads_simp
  funext i
  exact congrFun (congrArg (fun z : Vec Ideal S8x2048x384 .bf16 => shapeCast S2048x3072
    (transpose S2048x8x384 [1, 0, 2] z transposes_S8x2048x384_S2048x8x384_1_0_2) shapeCasts_S2048x8x384_S2048x3072)
    (Pipeline.withArrays_arr (cfgs 0).spec (by decide) c (V0 m c) (fun w => (dats m 0 c).arrAt w (cfgs 0).N) 2)) i

end Cert.Kernel14Ideal.Array
-- ==== Proof.QkvWeightReference.lean ====
/-
  THE PLAIN GRADIENT OF THE ATTENTION LAYER'S INPUT WEIGHT. The reference differentiates `h @ w_in_b` with respect to the
  weight; its result is the product of `QkvWeightArray` with the factors in the other order.
-/
module

public import proofs.«01_k».proof.Proof.QkvWeightArray
public import proofs.«01_k».proof.Proof.Gen.Reference14Ideal.Read

@[expose] public section

noncomputable section

namespace Cert.Reference14Ideal.Entry

open Idealize.ShloMosaic Cert.Reference14Ideal Cert.Reference14Ideal.Gen Cert.Reference14Ideal.Read

theorem outer_eq (h : Vec Ideal S4096x2048 .bf16) (z : Vec Ideal S4096x3072 .bf16) :
    val_main_v7 (F := Ideal) h z = Cert.Kernel14Ideal.Array.outer h z := by
  funext i
  unfold Cert.Kernel14Ideal.Array.outer
  rw [val_main_v7_apply, val_main_v6_apply, val_main_v5_apply]
  refine Finset.sum_congr rfl fun k _ => ?_
  rw [val_main_v4_apply, val_main_v1_apply]
  have hl : lidx_main_v5 (idx_main_v6 i) k = ix2 k (i 1) := ValueIdx.eq_ix2 _
  have hr : ridx_main_v5 (idx_main_v6 i) k = ix2 k (i 0) := ValueIdx.eq_ix2 _
  rw [hl, hr]
  exact mul_comm (z (ix2 k (i 1)) : EReal) (h (ix2 k (i 0)))

end Cert.Reference14Ideal.Entry
-- ==== Proof.QkvWeightClaims.lean ====
/-
  THE CLAIMS ABOUT THE GRADIENT OF THE ATTENTION LAYER'S INPUT WEIGHT: the kernel and its plain reference run, keep their
  arguments and leave every counter at zero; read over the extended reals the two leave the same array.
-/
module

public import proofs.«01_k».proof.Defs
public import proofs.«01_k».proof.Proof.QkvWeightReference
public import proofs.«01_k».proof.Proof.Gen.Kernel14.Frame
public import proofs.«01_k».proof.Proof.Gen.Reference14Ideal.Run
public import Idealize.ShloMosaic.Lib.Quiescent

@[expose] public section

noncomputable section

namespace Cert.Proof.QkvWeightClaims

open Idealize.ShloMosaic Idealize.ShloMosaic.TcCoe Idealize.SL.Sem

theorem frame : Cert.quiescent_Kernel14 := fun m ρ _ => Cert.Kernel14.Gen.frame m ρ
theorem frame_ideal : Cert.quiescent_Kernel14Ideal := fun m ρ _ => Cert.Kernel14Ideal.Gen.frame m ρ

/-- The reference's run with its counters: it has none. -/
theorem frame_reference : Cert.quiescent_Reference14Ideal := fun m ρ _ =>
  (θ_run Cert.Reference14Ideal.defs _ _).mono
    (fun r h => ⟨fun c => (h c).2, sem_eq_zero_of_no_sems (by decide) r.2⟩)
    (Cert.Reference14Ideal.Value.run (F := Ideal) m ρ)

/-- The kernel's program leaves the plain product: the lines after the call put its shards side by side. -/
theorem run_result (m : (ℓ : Loc Cert.Kernel14Ideal.nD Cert.Kernel14Ideal.τ Cert.Kernel14Ideal.sig) → Buf (Elt Ideal) ℓ)
    (ρ : Dev Cert.Kernel14Ideal.nD → PrngReg) :
    θ_run (Cert.Kernel14Ideal.defs (F := Ideal)) (onTc (τ := Cert.Kernel14Ideal.τ) (Cert.Kernel14Ideal.main (F := Ideal))) ⟨m, fun _ => 0, ρ⟩
      (fun r => ∀ c : Dev Cert.Kernel14Ideal.nD, r.2.mem ((c.tc : Thread Cert.Kernel14Ideal.nD Cert.Kernel14Ideal.τ).loc Cert.Kernel14Ideal.main_v2)
        = Cert.Kernel14Ideal.Array.outer (m ((c.tc : Thread Cert.Kernel14Ideal.nD Cert.Kernel14Ideal.τ).loc Cert.Kernel14Ideal.main_arg0))
          (m ((c.tc : Thread Cert.Kernel14Ideal.nD Cert.Kernel14Ideal.τ).loc Cert.Kernel14Ideal.main_arg1))) :=
  (θ_run Cert.Kernel14Ideal.defs _ _).mono
    (fun r h c => ((h c).2 Cert.Kernel14Ideal.main_v2 (by decide)).trans (Cert.Kernel14Ideal.Array.result m c))
    (Cert.Kernel14Ideal.Gen.run_main m ρ)

theorem algebraic : Cert.algebraic_Kernel14Ideal_Reference14Ideal := by
  intro m ρ m' ρ' _ hagree
  refine ⟨_,
    (θ_run Cert.Kernel14Ideal.defs _ _).mono (fun r h c => ⟨h.1 c, h.2 c⟩)
      (θ_run_and (run_result m ρ) (Cert.Kernel14Ideal.Gen.unchanged (F := Ideal) m ρ)),
    (θ_run Cert.Reference14Ideal.defs _ _).mono (fun r h c => ⟨(h c).1.trans ?_, (h c).2⟩)
      (Cert.Reference14Ideal.Value.run (F := Ideal) m' ρ')⟩
  obtain ⟨h0, h1⟩ := hagree c
  rw [h0, h1]
  exact (Cert.Reference14Ideal.Read.val_main_v7_eq _ _).trans (Cert.Reference14Ideal.Entry.outer_eq _ _)

end Cert.Proof.QkvWeightClaims
-- ==== Proof.QkvBackArray.lean ====
/-
  THE GRADIENT OF THE ATTENTION LAYER'S INPUT. The weight lies in eight shards of 384 columns. A block of 512 rows is
  accumulated over two grid points; each takes 1536 columns of the cotangent, in four pieces, against four shards. Summed up,
  the result array is the plain product over all 3072 columns.
-/
module

public import proofs.«01_k».proof.Proof.Gen.Kernel15Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Claim
public import Idealize.ShloMosaic.Lib.StableHlo.RunRead
public import Idealize.ShloMosaic.Lib.Pointwise

@[expose] public section

set_option maxRecDepth 16384

noncomputable section

namespace Cert.Kernel15Ideal.Array

open Idealize.ShloMosaic Idealize.ShloMosaic.TcCoe Cert.Kernel15Ideal Cert.Kernel15Ideal.Gen

/-! ## One grid point -/

/-- The columns of a piece against a shard, at an entry. -/
def piece (s : Vec Ideal S512x1536 .bf16) (o : ℕ) (ho : o ≤ 1152) (v : Vec Ideal S1x2048x384 .bf16) (r : Fin 512) (n : Fin 2048) : EReal :=
  ∑ q : Fin 384, (s (ix2 r ⟨o + q.val, by omega⟩) : EReal) * v (ix3 0 n q)

/-- The part of a block that four shards give. -/
def four (s : Vec Ideal S512x1536 .bf16) (v w x z : Vec Ideal S1x2048x384 .bf16) (r : Fin 512) (n : Fin 2048) : EReal :=
  piece s 0 (by omega) v r n + piece s 384 (by omega) w r n + piece s 768 (by omega) x r n + piece s 1152 (by omega) z r n

theorem first_at (s : Vec Ideal S512x1536 .bf16) (v w x z : Vec Ideal S1x2048x384 .bf16) (r : Fin 512) (n : Fin 2048) :
    k0_pay2 (F := Ideal) s v w x z (ix2 r n) = (0 + four s v w x z r n : EReal) := by
  rw [zero_add]
  unfold four piece
  pointwise [k0_pay2, k0_pay1]

theorem next_at (s : Vec Ideal S512x1536 .bf16) (v w x z : Vec Ideal S1x2048x384 .bf16) (a : Vec Ideal S512x2048 .f32) (r : Fin 512)
    (n : Fin 2048) : k0_pay3 (F := Ideal) s v w x z a (ix2 r n) = ((a (ix2 r n) : EReal) + four s v w x z r n : EReal) := by
  unfold four piece
  pointwise [k0_pay3, k0_pay1]

variable (m : (ℓ : Loc nD τ sig) → Buf (Elt Ideal) ℓ) (c : Dev nD)

/-- The columns of the cotangent that a point takes, and its shards. -/
def cot (t : Fin cfg0.N) : Vec Ideal S512x1536 .bf16 := iblk m c 0 t
def group (t : Fin cfg0.N) : Vec Ideal S4x2048x384 .bf16 := iblk m c 1 t
def shard (b : Vec Ideal S4x2048x384 .bf16) (p : Fin 4) (y : S1x2048x384.Idx) : Elt Ideal .bf16 := b (ix3 p (y 1) (y 2))

/-- A load of one shard. -/
theorem ld_shard (X : Vec Ideal ⟨3, ![4, 2048, 384]⟩ .bf16) (o : ℕ) (inb) (p : Fin 4) (hp : p.val = o) :
    View.ld (S := ⟨3, ![4, 2048, 384]⟩) X (Rect.unit (s := ⟨3, ![4, 2048, 384]⟩) ![o, 0, 0] ![1, 2048, 384] inb) = shard X p := by
  funext y
  have h0 : (y 0).val < 1 := (y 0).isLt
  exact View.ld_unit_apply_of _ _ _ _ _ _ fun i => match i with
    | ⟨0, _⟩ => (hp.trans (by dsimp only; omega) : p.val = o + (y 0).val)
    | ⟨1, _⟩ => (Nat.zero_add _).symm
    | ⟨2, _⟩ => (Nat.zero_add _).symm

/-- What a point adds to its block. -/
def part (t : Fin cfg0.N) (y : S512x2048.Idx) : EReal :=
  four (cot m c t) (shard (group m c t) 0) (shard (group m c t) 1) (shard (group m c t) 2) (shard (group m c t) 3) (y 0) (y 1)

theorem acc_first (t : Fin cfg0.N) (h : t.val % 2 = 0) (y : S512x2048.Idx) :
    ((outsAt0 m c t.val t.isLt).2 y : EReal) = 0 + part m c t y := by
  rw [outsAt0_A m c t h (by omega) (by omega)]
  frame_out
  refine (congrArg _ (ValueIdx.eq_ix2 y)).trans ((first_at _ _ _ _ _ (y 0) (y 1)).trans ?_)
  unfold part
  rw [← ld_shard (group m c t) 0 inb_S4x2048x384_S1x2048x384_0_0_0 0 rfl, ← ld_shard (group m c t) 1 inb_S4x2048x384_S1x2048x384_1_0_0 1 rfl,
    ← ld_shard (group m c t) 2 inb_S4x2048x384_S1x2048x384_2_0_0 2 rfl, ← ld_shard (group m c t) 3 inb_S4x2048x384_S1x2048x384_3_0_0 3 rfl]
  rfl

theorem acc_next (t : Fin cfg0.N) (h : ¬t.val % 2 = 0) (y : S512x2048.Idx) :
    ((outsAt0 m c t.val t.isLt).2 y : EReal)
      = (outsAt0 m c (t.val - 1) (Nat.lt_of_le_of_lt (Nat.sub_le _ _) t.isLt)).2 y + part m c t y := by
  rw [outsAt0_B m c t h (by omega) (by omega)]
  frame_out
  refine (congrArg _ (ValueIdx.eq_ix2 y)).trans ((next_at _ _ _ _ _ _ (y 0) (y 1)).trans ?_)
  unfold part
  rw [← ld_shard (group m c t) 0 inb_S4x2048x384_S1x2048x384_0_0_0 0 rfl, ← ld_shard (group m c t) 1 inb_S4x2048x384_S1x2048x384_1_0_0 1 rfl,
    ← ld_shard (group m c t) 2 inb_S4x2048x384_S1x2048x384_2_0_0 2 rfl, ← ld_shard (group m c t) 3 inb_S4x2048x384_S1x2048x384_3_0_0 3 rfl]
  refine congrArg (· + _) ?_
  exact (congrFun (Memref.IsWhole.read_unread _ _) _).trans (congrArg _ (ValueIdx.eq_ix2 y).symm)

theorem acc_last (t : Fin cfg0.N) (h : t.val % 2 = 1) (y : S512x2048.Idx) :
    ((outsAt0 m c t.val t.isLt).1 y : EReal) = (outsAt0 m c t.val t.isLt).2 y := by
  rw [outsAt0_B m c t (by omega) (by omega) h]
  frame_out

/-! ## The blocks a point holds, as parts of the argument arrays -/

/-- The weight split along its columns into eight shards. -/
def shards (w : Vec Ideal S2048x3072 .bf16) : Vec Ideal S8x2048x384 .bf16 :=
  transpose S8x2048x384 [1, 0, 2] (shapeCast S2048x8x384 w shapeCasts_S2048x3072_S2048x8x384) transposes_S2048x8x384_S8x2048x384_1_0_2

theorem V_shards : V m c main_v1 = shards (m ((c : Thread nD τ).loc main_arg1)) := by
  unfold_abbrev_sides; after_reads_simp; rfl

theorem shards_at (w : Vec Ideal S2048x3072 .bf16) (s : Fin 8) (n : Fin 2048) (q : Fin 384) :
    shards w (ix3 s n q) = w (ix2 n ⟨s.val * 384 + q.val, by omega⟩) := by
  pointwise [shards]

/-- Which block each window holds at a grid point. -/
theorem idx : ∀ t : Fin cfg0.N, win0_0.index t = ![t.val / 2, t.val % 2] ∧ win0_1.index t = ![t.val % 2, 0, 0]
    ∧ win0_2.index t = ![t.val / 2, 0] := (by decide +kernel : ∀ t : Fin grid0.N, _)

theorem cot_at (t : Fin cfg0.N) (r : Fin 512) (x : Fin 1536) (R : Fin 4096) (l : Fin 3072) (hR : R.val = t.val / 2 * 512 + r.val)
    (hl : l.val = t.val % 2 * 1536 + x.val) : cot m c t (ix2 r x) = m ((c : Thread nD τ).loc main_arg0) (ix2 R l) := by
  refine congrArg (m ((c : Thread nD τ).loc main_arg0)) (?_ : (win0_0.blk t).view.emb (ix2 r x) = ix2 R l)
  obtain ⟨e, -⟩ := idx t
  blk_ext [e, ix2, hR, hl]

theorem shard_emb (t : Fin cfg0.N) (p : Fin 4) (n : Fin 2048) (q : Fin 384) (s : Fin 8) (hs : s.val = t.val % 2 * 4 + p.val) :
    (win0_1.blk t).view.emb (ix3 p n q) = ix3 s n q := by
  obtain ⟨-, e, -⟩ := idx t
  blk_ext [e, ix3, hs]

/-- An entry of a point's shard is an entry of the weight. -/
theorem shard_at (t : Fin cfg0.N) (p : Fin 4) (n : Fin 2048) (q : Fin 384) (l : Fin 3072)
    (hl : l.val = t.val % 2 * 1536 + (p.val * 384 + q.val)) :
    shard (group m c t) p (ix3 0 n q) = m ((c : Thread nD τ).loc main_arg1) (ix2 n l) := by
  refine Eq.trans ?_ ((shards_at (m ((c : Thread nD τ).loc main_arg1)) ⟨t.val % 2 * 4 + p.val, by omega⟩ n q).trans ?_)
  · rw [← V_shards, ← shard_emb t p n q ⟨t.val % 2 * 4 + p.val, by omega⟩ rfl]
    rfl
  · exact congrArg (fun l => m ((c : Thread nD τ).loc main_arg1) (ix2 n l)) (Fin.ext (by dsimp only; omega))

/-! ## The result array -/

/-- One term of an entry: column `l` of the cotangent times column `l` of the weight. -/
def term (z : Vec Ideal S4096x3072 .bf16) (w : Vec Ideal S2048x3072 .bf16) (r : Fin 4096) (n : Fin 2048) (l : Fin 3072) : EReal :=
  (z (ix2 r l) : EReal) * w (ix2 n l)

/-- The plain product: rows of the cotangent against rows of the weight. -/
def back (z : Vec Ideal S4096x3072 .bf16) (w : Vec Ideal S2048x3072 .bf16) : Vec Ideal S4096x2048 .f32 :=
  fun i => (∑ l : Fin 3072, term z w (i 0) (i 1) l : EReal)

theorem piece_at (t : Fin cfg0.N) (p : Fin 4) (o : ℕ) (ho) (hp : o = p.val * 384) (r : Fin 512) (n : Fin 2048) (R : Fin 4096)
    (hR : R.val = t.val / 2 * 512 + r.val) : piece (cot m c t) o ho (shard (group m c t) p) r n
      = ∑ q : Fin 384, term (m ((c : Thread nD τ).loc main_arg0)) (m ((c : Thread nD τ).loc main_arg1)) R n
          ⟨t.val % 2 * 1536 + (p.val * 384 + q.val), by omega⟩ :=
  Finset.sum_congr rfl fun q _ => congr (congrArg HMul.hMul (cot_at m c t r _ R _ hR (by dsimp only; omega)))
    (shard_at m c t p n q _ rfl)

/-- What a point adds, in the arrays' entries: the terms of its 1536 columns. -/
theorem part_at (t : Fin cfg0.N) (r : Fin 512) (n : Fin 2048) (R : Fin 4096) (hR : R.val = t.val / 2 * 512 + r.val) :
    part m c t (ix2 r n) = ∑ x : Fin 1536, term (m ((c : Thread nD τ).loc main_arg0)) (m ((c : Thread nD τ).loc main_arg1)) R n
      ⟨t.val % 2 * 1536 + x.val, by omega⟩ := by
  rw [Fin.sum_univ_tiles 4 384 rfl, Fin.sum_univ_four]
  refine congr (congrArg HAdd.hAdd (congr (congrArg HAdd.hAdd (congr (congrArg HAdd.hAdd ?_) ?_)) ?_)) ?_
  · exact piece_at m c t 0 0 _ rfl r n R hR
  · exact piece_at m c t 1 384 _ rfl r n R hR
  · exact piece_at m c t 2 768 _ rfl r n R hR
  · exact piece_at m c t 3 1152 _ rfl r n R hR

theorem row_emb (t : Fin cfg0.N) (y : S512x2048.Idx) :
    ((win0_2.blk t).view.emb y 0 : ℕ) = t.val / 2 * 512 + (y 0).val ∧ ((win0_2.blk t).view.emb y 1 : ℕ) = (y 1).val := by
  obtain ⟨-, -, e⟩ := idx t
  constructor <;> blk_simp [e] <;> omega

theorem final : (dats m 0 c).arrAt 2 cfg0.N = back (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have h1 : t.val % 2 = 1 := (flush0_2 t).mp hf
  obtain ⟨e0, e1⟩ := row_emb t y
  refine (congrFun (after0_2 m c t) y).trans ((acc_last m c t h1 y).trans ?_)
  refine (Pipeline.eq_sum_fin_of_reset_step_apply_of_flush (M := EReal) (fun n h => (outsAt0 m c n h).2) 2 (fun _ => 0) (part m c)
    (fun t h y => acc_first m c t h y) (fun t h y => acc_next m c t h y) t h1 y).trans ?_
  rw [zero_add]
  show _ = ∑ l : Fin 3072, term (m ((c : Thread nD τ).loc main_arg0)) (m ((c : Thread nD τ).loc main_arg1))
    ((win0_2.blk t).view.emb y 0) ((win0_2.blk t).view.emb y 1) l
  refine Eq.trans ?_ (Fin.sum_univ_tiles 2 1536 rfl _).symm
  refine Finset.sum_congr rfl fun s _ => (congrArg (part m c _) (ValueIdx.eq_ix2 y)).trans ?_
  refine (part_at m c _ (y 0) (y 1) ((win0_2.blk t).view.emb y 0) (e0.trans (by dsimp only; omega))).trans ?_
  refine Finset.sum_congr rfl fun x _ => ?_
  have ec : (y 1 : Fin 2048) = (win0_2.blk t).view.emb y 1 := Fin.ext e1.symm
  rw [ec]
  exact congrArg (term _ _ _ _) (Fin.ext (by dsimp only; omega))

end Cert.Kernel15Ideal.Array
-- ==== Proof.QkvBackReference.lean ====
/-
  THE PLAIN GRADIENT OF THE ATTENTION LAYER'S INPUT. The reference differentiates `h @ w_in_b` with respect to `h`; its
  result is the product of `QkvBackArray`.
-/
module

public import proofs.«01_k».proof.Proof.QkvBackArray
public import proofs.«01_k».proof.Proof.Gen.Reference15Ideal.Read

@[expose] public section

noncomputable section

namespace Cert.Reference15Ideal.Entry

open Idealize.ShloMosaic Cert.Reference15Ideal Cert.Reference15Ideal.Gen Cert.Reference15Ideal.Read

theorem back_eq (z : Vec Ideal S4096x3072 .bf16) (w : Vec Ideal S2048x3072 .bf16) :
    val_main_v4 (F := Ideal) z w = Cert.Kernel15Ideal.Array.back z w := by
  funext i
  unfold Cert.Kernel15Ideal.Array.back Cert.Kernel15Ideal.Array.term
  rw [val_main_v4_apply]
  refine Finset.sum_congr rfl fun k _ => ?_
  rw [val_main_v3_apply, val_main_v1_apply]
  have hl : lidx_main_v4 i k = ix2 (i 0) k := ValueIdx.eq_ix2 _
  have hr : ridx_main_v4 i k = ix2 (i 1) k := ValueIdx.eq_ix2 _
  rw [hl, hr]
  rfl

end Cert.Reference15Ideal.Entry
-- ==== Proof.QkvBackClaims.lean ====
/-
  THE CLAIMS ABOUT THE GRADIENT OF THE ATTENTION LAYER'S INPUT: the kernel and its plain reference run, keep their arguments and leave
  every counter at zero; read over the extended reals the two leave the same array.
-/
module

public import proofs.«01_k».proof.Defs
public import proofs.«01_k».proof.Proof.QkvBackReference
public import proofs.«01_k».proof.Proof.Gen.Kernel15.Frame
public import proofs.«01_k».proof.Proof.Gen.Kernel15Ideal.Value
public import proofs.«01_k».proof.Proof.Gen.Reference15Ideal.Run
public import Idealize.ShloMosaic.Lib.Quiescent

@[expose] public section

noncomputable section

namespace Cert.Proof.QkvBackClaims

open Idealize.ShloMosaic Idealize.ShloMosaic.TcCoe Idealize.SL.Sem

theorem frame : Cert.quiescent_Kernel15 := fun m ρ _ => Cert.Kernel15.Gen.frame m ρ
theorem frame_ideal : Cert.quiescent_Kernel15Ideal := fun m ρ _ => Cert.Kernel15Ideal.Gen.frame m ρ

/-- The reference's run with its counters: it has none. -/
theorem frame_reference : Cert.quiescent_Reference15Ideal := fun m ρ _ =>
  (θ_run Cert.Reference15Ideal.defs _ _).mono
    (fun r h => ⟨fun c => (h c).2, sem_eq_zero_of_no_sems (by decide) r.2⟩)
    (Cert.Reference15Ideal.Value.run (F := Ideal) m ρ)

theorem algebraic : Cert.algebraic_Kernel15Ideal_Reference15Ideal := by
  intro m ρ m' ρ' _ hagree
  refine ⟨_,
    (θ_run Cert.Kernel15Ideal.defs _ _).mono (fun r h c => ⟨(h c).1.trans (Cert.Kernel15Ideal.Array.final m c), (h c).2⟩)
      (Cert.Kernel15Ideal.Value.run_blocks m ρ),
    (θ_run Cert.Reference15Ideal.defs _ _).mono (fun r h c => ⟨(h c).1.trans ?_, (h c).2⟩)
      (Cert.Reference15Ideal.Value.run (F := Ideal) m' ρ')⟩
  obtain ⟨h0, h1⟩ := hagree c
  rw [h0, h1]
  exact (Cert.Reference15Ideal.Read.val_main_v4_eq _ _).trans (Cert.Reference15Ideal.Entry.back_eq _ _)

end Cert.Proof.QkvBackClaims
-- ==== Proof.QkvArray.lean ====
/-
  THE ATTENTION LAYER'S INPUT PRODUCT. The weight lies in eight shards of 384 columns. A grid point multiplies 1024 rows of the
  input with one shard; the result array is the plain product.
-/
module

public import proofs.«01_k».proof.Proof.QkvBackArray
public import proofs.«01_k».proof.Proof.Gen.Kernel16Ideal.Frame

@[expose] public section

set_option maxRecDepth 16384

noncomputable section

namespace Cert.Kernel16Ideal.Array

open Idealize.ShloMosaic Idealize.ShloMosaic.TcCoe Cert.Kernel16Ideal Cert.Kernel16Ideal.Gen
open Cert.Kernel15Ideal.Array (shards shards_at)

/-- The rows of the input against the columns of a shard. -/
def tile (a : Vec Ideal S1024x2048 .bf16) (w : Vec Ideal S1x2048x384 .bf16) (y : S1024x384.Idx) : EReal :=
  ∑ k : Fin 2048, (a (ix2 (y 0) k) : EReal) * w (ix3 0 k (y 1))

theorem pay_at (a : Vec Ideal S1024x2048 .bf16) (w : Vec Ideal S1x2048x384 .bf16) (y : S1024x384.Idx) :
    k0_pay1 (F := Ideal) a w y = tile a w y := by
  unfold tile
  pointwise [k0_pay1]

theorem block (a : Vec Ideal S1024x2048 .bf16) (w : Vec Ideal S1x2048x384 .bf16) (y : S1024x384.Idx) :
    (out0_2 a w y : EReal) = tile a w y := by
  frame_out
  exact pay_at _ _ y

variable (m : (ℓ : Loc nD τ sig) → Buf (Elt Ideal) ℓ) (c : Dev nD)

theorem V_shards : V m c main_v1 = shards (m ((c : Thread nD τ).loc main_arg1)) := by
  unfold_abbrev_sides; after_reads_simp; rfl

/-- Which block each window holds at a grid point. -/
theorem idx : ∀ t : Fin cfg0.N, win0_0.index t = ![t.val / 8, 0] ∧ win0_1.index t = ![t.val % 8, 0, 0]
    ∧ win0_2.index t = ![t.val / 8, t.val % 8] := (by decide +kernel : ∀ t : Fin grid0.N, _)

theorem input_emb (t : Fin cfg0.N) (y : S1024x384.Idx) (k : Fin 2048) :
    (win0_0.blk t).view.emb (ix2 (y 0) k) = ix2 ((win0_2.blk t).view.emb y 0) k := by
  obtain ⟨e0, -, e2⟩ := idx t
  blk_ext [e0, e2, ix2]

theorem shard_emb (t : Fin cfg0.N) (k : Fin 2048) (q : Fin 384) (s : Fin 8) (hs : s.val = t.val % 8) :
    (win0_1.blk t).view.emb (ix3 0 k q) = ix3 s k q := by
  obtain ⟨-, e, -⟩ := idx t
  blk_ext [e, ix3, hs]

theorem column_emb (t : Fin cfg0.N) (y : S1024x384.Idx) : ((win0_2.blk t).view.emb y 1 : ℕ) = t.val % 8 * 384 + (y 1).val := by
  obtain ⟨-, -, e⟩ := idx t
  blk_simp [e] <;> omega

/-- An entry of a point's shard is an entry of the weight. -/
theorem shard_at (t : Fin cfg0.N) (k : Fin 2048) (q : Fin 384) (l : Fin 3072) (hl : l.val = t.val % 8 * 384 + q.val) :
    (iblk m c 1 t (ix3 0 k q) : Elt Ideal .bf16) = m ((c : Thread nD τ).loc main_arg1) (ix2 k l) := by
  refine Eq.trans ?_ ((shards_at (m ((c : Thread nD τ).loc main_arg1)) ⟨t.val % 8, by omega⟩ k q).trans ?_)
  · rw [← V_shards, ← shard_emb t k q ⟨t.val % 8, by omega⟩ rfl]
    rfl
  · exact congrArg (fun l => m ((c : Thread nD τ).loc main_arg1) (ix2 k l)) (Fin.ext hl.symm)

/-- The plain product. -/
def product (h : Vec Ideal S4096x2048 .bf16) (w : Vec Ideal S2048x3072 .bf16) : Vec Ideal S4096x3072 .f32 :=
  fun i => (∑ k : Fin 2048, (h (ix2 (i 0) k) : EReal) * w (ix2 k (i 1)) : EReal)

theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  refine (congrFun (after0_2 m c t) y).trans ((block _ _ y).trans ?_)
  refine Finset.sum_congr rfl fun k _ => congr (congrArg HMul.hMul ?_) ?_
  · exact congrArg (m ((c : Thread nD τ).loc main_arg0)) (input_emb t y k)
  · exact shard_at m c t k (y 1) ((win0_2.blk t).view.emb y 1) (column_emb t y)

end Cert.Kernel16Ideal.Array
-- ==== Proof.QkvReference.lean ====
/-
  THE PLAIN INPUT PRODUCT OF THE ATTENTION LAYER. The reference computes `h @ w_in_b`, the product of `QkvArray`.
-/
module

public import proofs.«01_k».proof.Proof.QkvArray
public import proofs.«01_k».proof.Proof.Gen.Reference16Ideal.Read

@[expose] public section

noncomputable section

namespace Cert.Reference16Ideal.Entry

open Idealize.ShloMosaic Cert.Reference16Ideal Cert.Reference16Ideal.Gen Cert.Reference16Ideal.Read

theorem product_eq (h : Vec Ideal S4096x2048 .bf16) (w : Vec Ideal S2048x3072 .bf16) :
    val_main_v2 (F := Ideal) h w = Cert.Kernel16Ideal.Array.product h w := by
  funext i
  unfold Cert.Kernel16Ideal.Array.product
  rw [val_main_v2_apply]
  refine Finset.sum_congr rfl fun k _ => ?_
  rw [val_main_v0_apply, val_main_v1_apply]
  have hl : lidx_main_v2 i k = ix2 (i 0) k := ValueIdx.eq_ix2 _
  have hr : ridx_main_v2 i k = ix2 k (i 1) := ValueIdx.eq_ix2 _
  rw [hl, hr]
  rfl

end Cert.Reference16Ideal.Entry
-- ==== Proof.QkvClaims.lean ====
/-
  THE CLAIMS ABOUT THE ATTENTION LAYER'S INPUT PRODUCT: the kernel and its plain reference run, keep their arguments and leave
  every counter at zero; read over the extended reals the two leave the same array.
-/
module

public import proofs.«01_k».proof.Defs
public import proofs.«01_k».proof.Proof.QkvReference
public import proofs.«01_k».proof.Proof.Gen.Kernel16.Frame
public import proofs.«01_k».proof.Proof.Gen.Kernel16Ideal.Value
public import proofs.«01_k».proof.Proof.Gen.Reference16Ideal.Run
public import Idealize.ShloMosaic.Lib.Quiescent

@[expose] public section

noncomputable section

namespace Cert.Proof.QkvClaims

open Idealize.ShloMosaic Idealize.ShloMosaic.TcCoe Idealize.SL.Sem

theorem frame : Cert.quiescent_Kernel16 := fun m ρ _ => Cert.Kernel16.Gen.frame m ρ
theorem frame_ideal : Cert.quiescent_Kernel16Ideal := fun m ρ _ => Cert.Kernel16Ideal.Gen.frame m ρ

/-- The reference's run with its counters: it has none. -/
theorem frame_reference : Cert.quiescent_Reference16Ideal := fun m ρ _ =>
  (θ_run Cert.Reference16Ideal.defs _ _).mono
    (fun r h => ⟨fun c => (h c).2, sem_eq_zero_of_no_sems (by decide) r.2⟩)
    (Cert.Reference16Ideal.Value.run (F := Ideal) m ρ)

theorem algebraic : Cert.algebraic_Kernel16Ideal_Reference16Ideal := by
  intro m ρ m' ρ' _ hagree
  refine ⟨_,
    (θ_run Cert.Kernel16Ideal.defs _ _).mono (fun r h c => ⟨(h c).1.trans (Cert.Kernel16Ideal.Array.final m c), (h c).2⟩)
      (Cert.Kernel16Ideal.Value.run_blocks m ρ),
    (θ_run Cert.Reference16Ideal.defs _ _).mono (fun r h c => ⟨(h c).1.trans ?_, (h c).2⟩)
      (Cert.Reference16Ideal.Value.run (F := Ideal) m' ρ')⟩
  obtain ⟨h0, h1⟩ := hagree c
  rw [h0, h1]
  exact (Cert.Reference16Ideal.Read.val_main_v2_eq _ _).trans (Cert.Reference16Ideal.Entry.product_eq _ _)

end Cert.Proof.QkvClaims
-- ==== Proof.SpatialWeightArray.lean ====
/-
  THE GRADIENT OF THE SPATIAL LAYER'S INPUT WEIGHT. The result lies in eight shards of 448 columns. A block is accumulated
  over two grid points, each taking 2048 rows of the input and of the cotangent. Summed up and with the shards put side by
  side, the result array is the plain product over all 4096 rows.
-/
module

public import proofs.«01_k».proof.Proof.Gen.Kernel17Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Claim
public import Idealize.ShloMosaic.Lib.StableHlo.RunRead
public import Idealize.ShloMosaic.Lib.Pointwise

@[expose] public section

set_option maxRecDepth 16448

noncomputable section

namespace Cert.Kernel17Ideal.Array

open Idealize.ShloMosaic Idealize.ShloMosaic.TcCoe Cert.Kernel17Ideal Cert.Kernel17Ideal.Gen

/-! ## One grid point -/

/-- The part of a block's shard `p` that 2048 rows give, at an entry. -/
def rows (h : Vec Ideal S2048x1024 .bf16) (s : Vec Ideal S2048x896 .bf16) (p : Fin 2) (n : Fin 1024) (q : Fin 448) : EReal :=
  ∑ k : Fin 2048, (h (ix2 k n) : EReal) * s (ix2 k ⟨p.val * 448 + q.val, by omega⟩)

theorem first_at0 (h : Vec Ideal S2048x1024 .bf16) (s : Vec Ideal S2048x896 .bf16) (n : Fin 1024) (q : Fin 448) :
    k0_pay3 (F := Ideal) h s (ix3 0 n q) = (0 + rows h s 0 n q : EReal) := by
  rw [zero_add]
  unfold rows
  pointwise [k0_pay3, k0_pay1]

theorem first_at1 (h : Vec Ideal S2048x1024 .bf16) (s : Vec Ideal S2048x896 .bf16) (n : Fin 1024) (q : Fin 448) :
    k0_pay4 (F := Ideal) h s (ix3 0 n q) = (0 + rows h s 1 n q : EReal) := by
  rw [zero_add]
  unfold rows
  pointwise [k0_pay4, k0_pay2]

theorem next_at0 (h : Vec Ideal S2048x1024 .bf16) (s : Vec Ideal S2048x896 .bf16) (z : Vec Ideal S1x1024x448 .f32) (n : Fin 1024)
    (q : Fin 448) : k0_pay5 (F := Ideal) h s z (ix3 0 n q) = ((z (ix3 0 n q) : EReal) + rows h s 0 n q : EReal) := by
  unfold rows
  pointwise [k0_pay5, k0_pay1]

theorem next_at1 (h : Vec Ideal S2048x1024 .bf16) (s : Vec Ideal S2048x896 .bf16) (z : Vec Ideal S1x1024x448 .f32) (n : Fin 1024)
    (q : Fin 448) : k0_pay6 (F := Ideal) h s z (ix3 0 n q) = ((z (ix3 0 n q) : EReal) + rows h s 1 n q : EReal) := by
  unfold rows
  pointwise [k0_pay6, k0_pay2]

variable (m : (ℓ : Loc nD τ sig) → Buf (Elt Ideal) ℓ) (c : Dev nD)

/-- The rows of the input and of the cotangent that a point takes, and what it adds to its block. -/
def input (t : Fin cfg0.N) : Vec Ideal S2048x1024 .bf16 := iblk m c 0 t
def cot (t : Fin cfg0.N) : Vec Ideal S2048x896 .bf16 := iblk m c 1 t
def part (t : Fin cfg0.N) (y : S2x1024x448.Idx) : EReal := rows (input m c t) (cot m c t) (y 0) (y 1) (y 2)

theorem idx3 (x : S1x1024x448.Idx) : x = ix3 0 (x 1) (x 2) := by
  refine (ValueIdx.eq_ix3 x).trans ?_
  congr 1
  exact Subsingleton.elim (α := Fin 1) _ _

/-- The entry of the accumulator that an entry of its shard `p` is. -/
theorem place (p : Fin 2) (y : S2x1024x448.Idx) (x : S1x1024x448.Idx) (h0 : (y 0).val = p.val + (x 0).val)
    (h1 : (y 1).val = (x 1).val) (h2 : (y 2).val = (x 2).val) : y = ix3 p (x 1) (x 2) := by
  have hx : (x 0).val < 1 := (x 0).isLt
  have e0 : (y 0 : Fin 2) = p := Fin.ext (by omega)
  have e1 : (y 1 : Fin 1024) = x 1 := Fin.ext h1
  have e2 : (y 2 : Fin 448) = x 2 := Fin.ext h2
  exact (ValueIdx.eq_ix3 y).trans (congr (congr (congrArg ix3 e0) e1) e2)

/-- A load of one shard of the accumulator, at an entry. -/
theorem ld_shard (X : Vec Ideal ⟨3, ![2, 1024, 448]⟩ .f32) (o : ℕ) (inb) (p : Fin 2) (hp : p.val = o) (n : Fin 1024) (q : Fin 448) :
    View.ld (S := ⟨3, ![2, 1024, 448]⟩) X (Rect.unit (s := ⟨3, ![2, 1024, 448]⟩) ![o, 0, 0] ![1, 1024, 448] inb) (ix3 0 n q)
      = X (ix3 p n q) :=
  View.ld_unit_apply_of _ _ _ _ _ _ fun i => match i with
    | ⟨0, _⟩ => hp
    | ⟨1, _⟩ => (Nat.zero_add _).symm
    | ⟨2, _⟩ => (Nat.zero_add _).symm

theorem acc_first (t : Fin cfg0.N) (h : t.val % 2 = 0) (y : S2x1024x448.Idx) :
    ((outsAt0 m c t.val t.isLt).2 y : EReal) = 0 + part m c t y := by
  rw [outsAt0_A m c t h (by omega) (by omega)]
  frame_out
  canon_tiles x h
  · rw [place 1 y x h0 h1 h2]
    exact (congrArg _ (idx3 x)).trans (first_at1 _ _ (x 1) (x 2))
  · rw [place 0 y x (h0.trans (Nat.zero_add _).symm) h1 h2]
    exact (congrArg _ (idx3 x)).trans (first_at0 _ _ (x 1) (x 2))

theorem acc_next (t : Fin cfg0.N) (h : ¬t.val % 2 = 0) (y : S2x1024x448.Idx) :
    ((outsAt0 m c t.val t.isLt).2 y : EReal)
      = (outsAt0 m c (t.val - 1) (Nat.lt_of_le_of_lt (Nat.sub_le _ _) t.isLt)).2 y + part m c t y := by
  rw [outsAt0_B m c t h (by omega) (by omega)]
  frame_out
  canon_tiles x h
  · rw [place 1 y x h0 h1 h2]
    refine (congrArg _ (idx3 x)).trans ((next_at1 _ _ _ (x 1) (x 2)).trans (congrArg (· + _) ?_))
    exact (ld_shard _ 1 _ 1 rfl (x 1) (x 2)).trans (congrFun (Memref.IsWhole.read_unread _ _) _)
  · rw [place 0 y x (h0.trans (Nat.zero_add _).symm) h1 h2]
    refine (congrArg _ (idx3 x)).trans ((next_at0 _ _ _ (x 1) (x 2)).trans (congrArg (· + _) ?_))
    exact (ld_shard _ 0 _ 0 rfl (x 1) (x 2)).trans (congrFun (Memref.IsWhole.read_unread _ _) _)

theorem cast_at (z : Vec Ideal S2x1024x448 .f32) : k0_pay7 (F := Ideal) z = z := rfl

/-- The load of the whole accumulator reads what the stores before it left. -/
theorem acc_last (t : Fin cfg0.N) (h : t.val % 2 = 1) (y : S2x1024x448.Idx) :
    ((outsAt0 m c t.val t.isLt).1 y : EReal) = (outsAt0 m c t.val t.isLt).2 y := by
  rw [outsAt0_B m c t (by omega) (by omega) h]
  frame_out
  rw [cast_at]
  generalize (_ :: _ : List (View.Piece (Elt Ideal) S2x1024x448 .f32)) = L
  rw [View.readCov_eq_canon']
  refine congrArg (View.canon L) ?_
  exact funext fun a => Fin.ext (match a with
    | ⟨0, _⟩ => by show 0 + 1 * (y 0).val = (y 0).val; omega
    | ⟨1, _⟩ => by show 0 + 1 * (y 1).val = (y 1).val; omega
    | ⟨2, _⟩ => by show 0 + 1 * (y 2).val = (y 2).val; omega)

/-! ## The blocks a point holds, as parts of the argument arrays -/

/-- Which block each window holds at a grid point. -/
theorem idx : ∀ t : Fin cfg0.N, win0_0.index t = ![t.val % 2, t.val / 8] ∧ win0_1.index t = ![t.val % 2, t.val / 2 % 4]
    ∧ win0_2.index t = ![t.val / 2 % 4, t.val / 8, 0] := (by decide +kernel : ∀ t : Fin grid0.N, _)

theorem input_at (t : Fin cfg0.N) (k : Fin 2048) (n : Fin 1024) (l : Fin 4096) (N : Fin 2048)
    (hl : l.val = t.val % 2 * 2048 + k.val) (hN : N.val = t.val / 8 * 1024 + n.val) :
    input m c t (ix2 k n) = m ((c : Thread nD τ).loc main_arg0) (ix2 l N) := by
  refine congrArg (m ((c : Thread nD τ).loc main_arg0)) (?_ : (win0_0.blk t).view.emb (ix2 k n) = ix2 l N)
  obtain ⟨e, -⟩ := idx t
  blk_ext [e, ix2, hl, hN]

theorem cot_at (t : Fin cfg0.N) (k : Fin 2048) (q : Fin 896) (l : Fin 4096) (x : Fin 3584)
    (hl : l.val = t.val % 2 * 2048 + k.val) (hx : x.val = t.val / 2 % 4 * 896 + q.val) :
    cot m c t (ix2 k q) = m ((c : Thread nD τ).loc main_arg1) (ix2 l x) := by
  refine congrArg (m ((c : Thread nD τ).loc main_arg1)) (?_ : (win0_1.blk t).view.emb (ix2 k q) = ix2 l x)
  obtain ⟨-, e, -⟩ := idx t
  blk_ext [e, ix2, hl, hx]

/-! ## The result array -/

/-- One term of an entry: row `l` of the input times row `l` of the cotangent. -/
def term (h : Vec Ideal S4096x2048 .bf16) (z : Vec Ideal S4096x3584 .bf16) (n : Fin 2048) (x : Fin 3584) (l : Fin 4096) : EReal :=
  (h (ix2 l n) : EReal) * z (ix2 l x)

/-- The plain product: columns of the input against columns of the cotangent. -/
def outer (h : Vec Ideal S4096x2048 .bf16) (z : Vec Ideal S4096x3584 .bf16) : Vec Ideal S2048x3584 .bf16 :=
  fun i => (∑ l : Fin 4096, term h z (i 0) (i 1) l : EReal)

/-- The column of the product that column `q` of shard `s` is. -/
def column (s : Fin 8) (q : Fin 448) : Fin 3584 := ⟨s.val * 448 + q.val, by omega⟩

/-- The same in eight shards. -/
def shards (h : Vec Ideal S4096x2048 .bf16) (z : Vec Ideal S4096x3584 .bf16) : Vec Ideal S8x2048x448 .bf16 :=
  fun i => (∑ l : Fin 4096, term h z (i 1) (column (i 0) (i 2)) l : EReal)

/-- What a point adds, in the arrays' entries: the terms of its 2048 rows. -/
theorem part_at (t : Fin cfg0.N) (y : S2x1024x448.Idx) (N : Fin 2048) (x : Fin 3584) (hN : N.val = t.val / 8 * 1024 + (y 1).val)
    (hx : x.val = t.val / 2 % 4 * 896 + ((y 0).val * 448 + (y 2).val)) :
    part m c t y = ∑ k : Fin 2048, term (m ((c : Thread nD τ).loc main_arg0)) (m ((c : Thread nD τ).loc main_arg1)) N x
      ⟨t.val % 2 * 2048 + k.val, by omega⟩ := by
  unfold part rows term
  refine Finset.sum_congr rfl fun k _ => congr (congrArg HMul.hMul ?_) ?_
  · exact input_at m c t k (y 1) _ N rfl hN
  · exact cot_at m c t k _ _ x rfl hx

theorem out_emb (t : Fin cfg0.N) (y : S2x1024x448.Idx) :
    ((win0_2.blk t).view.emb y 0 : ℕ) = t.val / 2 % 4 * 2 + (y 0).val
      ∧ ((win0_2.blk t).view.emb y 1 : ℕ) = t.val / 8 * 1024 + (y 1).val ∧ ((win0_2.blk t).view.emb y 2 : ℕ) = (y 2).val := by
  obtain ⟨-, -, e⟩ := idx t
  refine ⟨?_, ?_, ?_⟩ <;> blk_simp [e] <;> omega

theorem final : (dats m 0 c).arrAt 2 cfg0.N = shards (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have h1 : t.val % 2 = 1 := (flush0_2 t).mp hf
  obtain ⟨e0, e1, e2⟩ := out_emb t y
  refine (congrFun (after0_2 m c t) y).trans ((acc_last m c t h1 y).trans ?_)
  refine (Pipeline.eq_sum_fin_of_reset_step_apply_of_flush (M := EReal) (fun n h => (outsAt0 m c n h).2) 2 (fun _ => 0) (part m c)
    (fun t h y => acc_first m c t h y) (fun t h y => acc_next m c t h y) t h1 y).trans ?_
  rw [zero_add]
  show _ = ∑ l : Fin 4096, term (m ((c : Thread nD τ).loc main_arg0)) (m ((c : Thread nD τ).loc main_arg1))
    ((win0_2.blk t).view.emb y 1) (column ((win0_2.blk t).view.emb y 0) ((win0_2.blk t).view.emb y 2)) l
  refine Eq.trans ?_ (Fin.sum_univ_tiles 2 2048 rfl _).symm
  refine Finset.sum_congr rfl fun s _ => ?_
  refine (part_at m c _ y ((win0_2.blk t).view.emb y 1) (column ((win0_2.blk t).view.emb y 0) ((win0_2.blk t).view.emb y 2))
    (e1.trans (by dsimp only; omega))
    ((congrArg₂ (fun a b : ℕ => a * 448 + b) e0 e2).trans (by dsimp only; omega))).trans ?_
  refine Finset.sum_congr rfl fun k _ => congrArg _ (Fin.ext ?_)
  dsimp only
  omega

/-! ## The shards put side by side -/

theorem side_at (z : Vec Ideal S8x2048x448 .bf16) (n : Fin 2048) (x : Fin 3584) :
    shapeCast S2048x3584 (transpose S2048x8x448 [1, 0, 2] z transposes_S8x2048x448_S2048x8x448_1_0_2)
      shapeCasts_S2048x8x448_S2048x3584 (ix2 n x)
      = z (ix3 (⟨x.val / 448, by omega⟩ : Fin 8) n (⟨x.val % 448, by omega⟩ : Fin 448)) := by
  pointwise

theorem side_by_side (h : Vec Ideal S4096x2048 .bf16) (z : Vec Ideal S4096x3584 .bf16) :
    shapeCast S2048x3584 (transpose S2048x8x448 [1, 0, 2] (shards h z) transposes_S8x2048x448_S2048x8x448_1_0_2)
      shapeCasts_S2048x8x448_S2048x3584 = outer h z := by
  funext i
  refine (congrArg _ (ValueIdx.eq_ix2 i)).trans ((side_at (shards h z) (i 0) (i 1)).trans ?_)
  refine Finset.sum_congr rfl fun l _ => congrArg (fun x => term h z (i 0) x l) (Fin.ext ?_)
  show (i 1).val / 448 * 448 + (i 1).val % 448 = (i 1).val
  omega

/-- What the result buffer holds at the end. -/
theorem result : Pipeline.afterTail₀ cfgs (dats m) 0 (V0 m) [hostOps1] c main_v2
    = outer (m ((c : Thread nD τ).loc main_arg0)) (m ((c : Thread nD τ).loc main_arg1)) := by
  refine Eq.trans ?_ (side_by_side _ _)
  rw [← final m c]
  unfold Pipeline.afterTail₀
  after_reads_simp
  funext i
  exact congrFun (congrArg (fun z : Vec Ideal S8x2048x448 .bf16 => shapeCast S2048x3584
    (transpose S2048x8x448 [1, 0, 2] z transposes_S8x2048x448_S2048x8x448_1_0_2) shapeCasts_S2048x8x448_S2048x3584)
    (Pipeline.withArrays_arr (cfgs 0).spec (by decide) c (V0 m c) (fun w => (dats m 0 c).arrAt w (cfgs 0).N) 2)) i

end Cert.Kernel17Ideal.Array
-- ==== Proof.SpatialWeightReference.lean ====
/-
  THE PLAIN GRADIENT OF THE SPATIAL LAYER'S INPUT WEIGHT. The reference differentiates `h @ w_in_a` with respect to the
  weight; its result is the product of `SpatialWeightArray` with the factors in the other order.
-/
module

public import proofs.«01_k».proof.Proof.SpatialWeightArray
public import proofs.«01_k».proof.Proof.Gen.Reference17Ideal.Read

@[expose] public section

noncomputable section

namespace Cert.Reference17Ideal.Entry

open Idealize.ShloMosaic Cert.Reference17Ideal Cert.Reference17Ideal.Gen Cert.Reference17Ideal.Read

theorem outer_eq (h : Vec Ideal S4096x2048 .bf16) (z : Vec Ideal S4096x3584 .bf16) :
    val_main_v7 (F := Ideal) h z = Cert.Kernel17Ideal.Array.outer h z := by
  funext i
  unfold Cert.Kernel17Ideal.Array.outer
  rw [val_main_v7_apply, val_main_v6_apply, val_main_v5_apply]
  refine Finset.sum_congr rfl fun k _ => ?_
  rw [val_main_v4_apply, val_main_v1_apply]
  have hl : lidx_main_v5 (idx_main_v6 i) k = ix2 k (i 1) := ValueIdx.eq_ix2 _
  have hr : ridx_main_v5 (idx_main_v6 i) k = ix2 k (i 0) := ValueIdx.eq_ix2 _
  rw [hl, hr]
  exact mul_comm (z (ix2 k (i 1)) : EReal) (h (ix2 k (i 0)))

end Cert.Reference17Ideal.Entry
-- ==== Proof.SpatialWeightClaims.lean ====
/-
  THE CLAIMS ABOUT THE GRADIENT OF THE SPATIAL LAYER'S INPUT WEIGHT: the kernel and its plain reference run, keep their
  arguments and leave every counter at zero; read over the extended reals the two leave the same array.
-/
module

public import proofs.«01_k».proof.Defs
public import proofs.«01_k».proof.Proof.SpatialWeightReference
public import proofs.«01_k».proof.Proof.Gen.Kernel17.Frame
public import proofs.«01_k».proof.Proof.Gen.Reference17Ideal.Run
public import Idealize.ShloMosaic.Lib.Quiescent

@[expose] public section

noncomputable section

namespace Cert.Proof.SpatialWeightClaims

open Idealize.ShloMosaic Idealize.ShloMosaic.TcCoe Idealize.SL.Sem

theorem frame : Cert.quiescent_Kernel17 := fun m ρ _ => Cert.Kernel17.Gen.frame m ρ
theorem frame_ideal : Cert.quiescent_Kernel17Ideal := fun m ρ _ => Cert.Kernel17Ideal.Gen.frame m ρ

/-- The reference's run with its counters: it has none. -/
theorem frame_reference : Cert.quiescent_Reference17Ideal := fun m ρ _ =>
  (θ_run Cert.Reference17Ideal.defs _ _).mono
    (fun r h => ⟨fun c => (h c).2, sem_eq_zero_of_no_sems (by decide) r.2⟩)
    (Cert.Reference17Ideal.Value.run (F := Ideal) m ρ)

/-- The kernel's program leaves the plain product: the lines after the call put its shards side by side. -/
theorem run_result (m : (ℓ : Loc Cert.Kernel17Ideal.nD Cert.Kernel17Ideal.τ Cert.Kernel17Ideal.sig) → Buf (Elt Ideal) ℓ)
    (ρ : Dev Cert.Kernel17Ideal.nD → PrngReg) :
    θ_run (Cert.Kernel17Ideal.defs (F := Ideal)) (onTc (τ := Cert.Kernel17Ideal.τ) (Cert.Kernel17Ideal.main (F := Ideal))) ⟨m, fun _ => 0, ρ⟩
      (fun r => ∀ c : Dev Cert.Kernel17Ideal.nD, r.2.mem ((c.tc : Thread Cert.Kernel17Ideal.nD Cert.Kernel17Ideal.τ).loc Cert.Kernel17Ideal.main_v2)
        = Cert.Kernel17Ideal.Array.outer (m ((c.tc : Thread Cert.Kernel17Ideal.nD Cert.Kernel17Ideal.τ).loc Cert.Kernel17Ideal.main_arg0))
          (m ((c.tc : Thread Cert.Kernel17Ideal.nD Cert.Kernel17Ideal.τ).loc Cert.Kernel17Ideal.main_arg1))) :=
  (θ_run Cert.Kernel17Ideal.defs _ _).mono
    (fun r h c => ((h c).2 Cert.Kernel17Ideal.main_v2 (by decide)).trans (Cert.Kernel17Ideal.Array.result m c))
    (Cert.Kernel17Ideal.Gen.run_main m ρ)

theorem algebraic : Cert.algebraic_Kernel17Ideal_Reference17Ideal := by
  intro m ρ m' ρ' _ hagree
  refine ⟨_,
    (θ_run Cert.Kernel17Ideal.defs _ _).mono (fun r h c => ⟨h.1 c, h.2 c⟩)
      (θ_run_and (run_result m ρ) (Cert.Kernel17Ideal.Gen.unchanged (F := Ideal) m ρ)),
    (θ_run Cert.Reference17Ideal.defs _ _).mono (fun r h c => ⟨(h c).1.trans ?_, (h c).2⟩)
      (Cert.Reference17Ideal.Value.run (F := Ideal) m' ρ')⟩
  obtain ⟨h0, h1⟩ := hagree c
  rw [h0, h1]
  exact (Cert.Reference17Ideal.Read.val_main_v7_eq _ _).trans (Cert.Reference17Ideal.Entry.outer_eq _ _)

end Cert.Proof.SpatialWeightClaims
-- ==== Proof.SpatialBackArray.lean ====
/-
  THE GRADIENT OF THE SPATIAL LAYER'S INPUT. The weight lies in eight shards of 448 columns. A block of 512 rows is
  accumulated over two grid points; each takes 1792 columns of the cotangent, in four pieces, against four shards. Summed up,
  the result array is the plain product over all 3584 columns.
-/
module

public import proofs.«01_k».proof.Proof.Gen.Kernel18Ideal.Frame
public import Idealize.ShloMosaic.Lib.Pipeline.ValueKit.Acc
public import Idealize.ShloMosaic.Lib.Pipeline.ValueKit.Geometry
public import Idealize.ShloMosaic.Lib.Pipeline.ValueKit.Tiles
public import Idealize.ShloMosaic.Lib.Claim
public import Idealize.ShloMosaic.Lib.StableHlo.RunRead
public import Idealize.ShloMosaic.Lib.Pointwise

@[expose] public section

set_option maxRecDepth 16448

noncomputable section

namespace Cert.Kernel18Ideal.Array

open Idealize.ShloMosaic Idealize.ShloMosaic.TcCoe Cert.Kernel18Ideal Cert.Kernel18Ideal.Gen

/-! ## One grid point -/

/-- The columns of a piece against a shard, at an entry. -/
def piece (s : Vec Ideal S512x1792 .bf16) (o : ℕ) (ho : o ≤ 1344) (v : Vec Ideal S1x2048x448 .bf16) (r : Fin 512) (n : Fin 2048) : EReal :=
  ∑ q : Fin 448, (s (ix2 r ⟨o + q.val, by omega⟩) : EReal) * v (ix3 0 n q)

/-- The part of a block that four shards give. -/
def four (s : Vec Ideal S512x1792 .bf16) (v w x z : Vec Ideal S1x2048x448 .bf16) (r : Fin 512) (n : Fin 2048) : EReal :=
  piece s 0 (by omega) v r n + piece s 448 (by omega) w r n + piece s 896 (by omega) x r n + piece s 1344 (by omega) z r n

theorem first_at (s : Vec Ideal S512x1792 .bf16) (v w x z : Vec Ideal S1x2048x448 .bf16) (r : Fin 512) (n : Fin 2048) :
    k0_pay2 (F := Ideal) s v w x z (ix2 r n) = (0 + four s v w x z r n : EReal) := by
  rw [zero_add]
  unfold four piece
  pointwise [k0_pay2, k0_pay1]

theorem next_at (s : Vec Ideal S512x1792 .bf16) (v w x z : Vec Ideal S1x2048x448 .bf16) (a : Vec Ideal S512x2048 .f32) (r : Fin 512)
    (n : Fin 2048) : k0_pay3 (F := Ideal) s v w x z a (ix2 r n) = ((a (ix2 r n) : EReal) + four s v w x z r n : EReal) := by
  unfold four piece
  pointwise [k0_pay3, k0_pay1]

variable (m : (ℓ : Loc nD τ sig) → Buf (Elt Ideal) ℓ) (c : Dev nD)

/-- The columns of the cotangent that a point takes, and its shards. -/
def cot (t : Fin cfg0.N) : Vec Ideal S512x1792 .bf16 := iblk m c 0 t
def group (t : Fin cfg0.N) : Vec Ideal S4x2048x448 .bf16 := iblk m c 1 t
def shard (b : Vec Ideal S4x2048x448 .bf16) (p : Fin 4) (y : S1x2048x448.Idx) : Elt Ideal .bf16 := b (ix3 p (y 1) (y 2))

/-- A load of one shard. -/
theorem ld_shard (X : Vec Ideal ⟨3, ![4, 2048, 448]⟩ .bf16) (o : ℕ) (inb) (p : Fin 4) (hp : p.val = o) :
    View.ld (S := ⟨3, ![4, 2048, 448]⟩) X (Rect.unit (s := ⟨3, ![4, 2048, 448]⟩) ![o, 0, 0] ![1, 2048, 448] inb) = shard X p := by
  funext y
  have h0 : (y 0).val < 1 := (y 0).isLt
  exact View.ld_unit_apply_of _ _ _ _ _ _ fun i => match i with
    | ⟨0, _⟩ => (hp.trans (by dsimp only; omega) : p.val = o + (y 0).val)
    | ⟨1, _⟩ => (Nat.zero_add _).symm
    | ⟨2, _⟩ => (Nat.zero_add _).symm

/-- What a point adds to its block. -/
def part (t : Fin cfg0.N) (y : S512x2048.Idx) : EReal :=
  four (cot m c t) (shard (group m c t) 0) (shard (group m c t) 1) (shard (group m c t) 2) (shard (group m c t) 3) (y 0) (y 1)

theorem acc_first (t : Fin cfg0.N) (h : t.val % 2 = 0) (y : S512x2048.Idx) :
    ((outsAt0 m c t.val t.isLt).2 y : EReal) = 0 + part m c t y := by
  rw [outsAt0_A m c t h (by omega) (by omega)]
  frame_out
  refine (congrArg _ (ValueIdx.eq_ix2 y)).trans ((first_at _ _ _ _ _ (y 0) (y 1)).trans ?_)
  unfold part
  rw [← ld_shard (group m c t) 0 inb_S4x2048x448_S1x2048x448_0_0_0 0 rfl, ← ld_shard (group m c t) 1 inb_S4x2048x448_S1x2048x448_1_0_0 1 rfl,
    ← ld_shard (group m c t) 2 inb_S4x2048x448_S1x2048x448_2_0_0 2 rfl, ← ld_shard (group m c t) 3 inb_S4x2048x448_S1x2048x448_3_0_0 3 rfl]
  rfl

theorem acc_next (t : Fin cfg0.N) (h : ¬t.val % 2 = 0) (y : S512x2048.Idx) :
    ((outsAt0 m c t.val t.isLt).2 y : EReal)
      = (outsAt0 m c (t.val - 1) (Nat.lt_of_le_of_lt (Nat.sub_le _ _) t.isLt)).2 y + part m c t y := by
  rw [outsAt0_B m c t h (by omega) (by omega)]
  frame_out
  refine (congrArg _ (ValueIdx.eq_ix2 y)).trans ((next_at _ _ _ _ _ _ (y 0) (y 1)).trans ?_)
  unfold part
  rw [← ld_shard (group m c t) 0 inb_S4x2048x448_S1x2048x448_0_0_0 0 rfl, ← ld_shard (group m c t) 1 inb_S4x2048x448_S1x2048x448_1_0_0 1 rfl,
    ← ld_shard (group m c t) 2 inb_S4x2048x448_S1x2048x448_2_0_0 2 rfl, ← ld_shard (group m c t) 3 inb_S4x2048x448_S1x2048x448_3_0_0 3 rfl]
  refine congrArg (· + _) ?_
  exact (congrFun (Memref.IsWhole.read_unread _ _) _).trans (congrArg _ (ValueIdx.eq_ix2 y).symm)

theorem acc_last (t : Fin cfg0.N) (h : t.val % 2 = 1) (y : S512x2048.Idx) :
    ((outsAt0 m c t.val t.isLt).1 y : EReal) = (outsAt0 m c t.val t.isLt).2 y := by
  rw [outsAt0_B m c t (by omega) (by omega) h]
  frame_out

/-! ## The blocks a point holds, as parts of the argument arrays -/

/-- The weight split along its columns into eight shards. -/
def shards (w : Vec Ideal S2048x3584 .bf16) : Vec Ideal S8x2048x448 .bf16 :=
  transpose S8x2048x448 [1, 0, 2] (shapeCast S2048x8x448 w shapeCasts_S2048x3584_S2048x8x448) transposes_S2048x8x448_S8x2048x448_1_0_2

theorem V_shards : V m c main_v1 = shards (m ((c : Thread nD τ).loc main_arg1)) := by
  unfold_abbrev_sides; after_reads_simp; rfl

theorem shards_at (w : Vec Ideal S2048x3584 .bf16) (s : Fin 8) (n : Fin 2048) (q : Fin 448) :
    shards w (ix3 s n q) = w (ix2 n ⟨s.val * 448 + q.val, by omega⟩) := by
  pointwise [shards]

/-- Which block each window holds at a grid point. -/
theorem idx : ∀ t : Fin cfg0.N, win0_0.index t = ![t.val / 2, t.val % 2] ∧ win0_1.index t = ![t.val % 2, 0, 0]
    ∧ win0_2.index t = ![t.val / 2, 0] := (by decide +kernel : ∀ t : Fin grid0.N, _)

theorem cot_at (t : Fin cfg0.N) (r : Fin 512) (x : Fin 1792) (R : Fin 4096) (l : Fin 3584) (hR : R.val = t.val / 2 * 512 + r.val)
    (hl : l.val = t.val % 2 * 1792 + x.val) : cot m c t (ix2 r x) = m ((c : Thread nD τ).loc main_arg0) (ix2 R l) := by
  refine congrArg (m ((c : Thread nD τ).loc main_arg0)) (?_ : (win0_0.blk t).view.emb (ix2 r x) = ix2 R l)
  obtain ⟨e, -⟩ := idx t
  blk_ext [e, ix2, hR, hl]

theorem shard_emb (t : Fin cfg0.N) (p : Fin 4) (n : Fin 2048) (q : Fin 448) (s : Fin 8) (hs : s.val = t.val % 2 * 4 + p.val) :
    (win0_1.blk t).view.emb (ix3 p n q) = ix3 s n q := by
  obtain ⟨-, e, -⟩ := idx t
  blk_ext [e, ix3, hs]

/-- An entry of a point's shard is an entry of the weight. -/
theorem shard_at (t : Fin cfg0.N) (p : Fin 4) (n : Fin 2048) (q : Fin 448) (l : Fin 3584)
    (hl : l.val = t.val % 2 * 1792 + (p.val * 448 + q.val)) :
    shard (group m c t) p (ix3 0 n q) = m ((c : Thread nD τ).loc main_arg1) (ix2 n l) := by
  refine Eq.trans ?_ ((shards_at (m ((c : Thread nD τ).loc main_arg1)) ⟨t.val % 2 * 4 + p.val, by omega⟩ n q).trans ?_)
  · rw [← V_shards, ← shard_emb t p n q ⟨t.val % 2 * 4 + p.val, by omega⟩ rfl]
    rfl
  · exact congrArg (fun l => m ((c : Thread nD τ).loc main_arg1) (ix2 n l)) (Fin.ext (by dsimp only; omega))

/-! ## The result array -/

/-- One term of an entry: column `l` of the cotangent times column `l` of the weight. -/
def term (z : Vec Ideal S4096x3584 .bf16) (w : Vec Ideal S2048x3584 .bf16) (r : Fin 4096) (n : Fin 2048) (l : Fin 3584) : EReal :=
  (z (ix2 r l) : EReal) * w (ix2 n l)

/-- The plain product: rows of the cotangent against rows of the weight. -/
def back (z : Vec Ideal S4096x3584 .bf16) (w : Vec Ideal S2048x3584 .bf16) : Vec Ideal S4096x2048 .f32 :=
  fun i => (∑ l : Fin 3584, term z w (i 0) (i 1) l : EReal)

theorem piece_at (t : Fin cfg0.N) (p : Fin 4) (o : ℕ) (ho) (hp : o = p.val * 448) (r : Fin 512) (n : Fin 2048) (R : Fin 4096)
    (hR : R.val = t.val / 2 * 512 + r.val) : piece (cot m c t) o ho (shard (group m c t) p) r n
      = ∑ q : Fin 448, term (m ((c : Thread nD τ).loc main_arg0)) (m ((c : Thread nD τ).loc main_arg1)) R n
          ⟨t.val % 2 * 1792 + (p.val * 448 + q.val), by omega⟩ :=
  Finset.sum_congr rfl fun q _ => congr (congrArg HMul.hMul (cot_at m c t r _ R _ hR (by dsimp only; omega)))
    (shard_at m c t p n q _ rfl)

/-- What a point adds, in the arrays' entries: the terms of its 1792 columns. -/
theorem part_at (t : Fin cfg0.N) (r : Fin 512) (n : Fin 2048) (R : Fin 4096) (hR : R.val = t.val / 2 * 512 + r.val) :
    part m c t (ix2 r n) = ∑ x : Fin 1792, term (m ((c : Thread nD τ).loc main_arg0)) (m ((c : Thread nD τ).loc main_arg1)) R n
      ⟨t.val % 2 * 1792 + x.val, by omega⟩ := by
  rw [Fin.sum_univ_tiles 4 448 rfl, Fin.sum_univ_four]
  refine congr (congrArg HAdd.hAdd (congr (congrArg HAdd.hAdd (congr (congrArg HAdd.hAdd ?_) ?_)) ?_)) ?_
  · exact piece_at m c t 0 0 _ rfl r n R hR
  · exact piece_at m c t 1 448 _ rfl r n R hR
  · exact piece_at m c t 2 896 _ rfl r n R hR
  · exact piece_at m c t 3 1344 _ rfl r n R hR

theorem row_emb (t : Fin cfg0.N) (y : S512x2048.Idx) :
    ((win0_2.blk t).view.emb y 0 : ℕ) = t.val / 2 * 512 + (y 0).val ∧ ((win0_2.blk t).view.emb y 1 : ℕ) = (y 1).val := by
  obtain ⟨-, -, e⟩ := idx t
  constructor <;> blk_simp [e] <;> omega

theorem final : (dats m 0 c).arrAt 2 cfg0.N = back (m ((c : Thread nD τ).loc main_arg0)) (m ((c : Thread nD τ).loc main_arg1)) := by
  refine (dats m 0 c).arrAt_eq_of_covers 2 _ (by decide +kernel) fun t hf y => ?_
  have hN := lt_of_lt_of_eq t.isLt N_0
  have h1 : t.val % 2 = 1 := (flush0_2 t).mp hf
  obtain ⟨e0, e1⟩ := row_emb t y
  refine (congrFun (after0_2 m c t) y).trans ((acc_last m c t h1 y).trans ?_)
  refine (Pipeline.eq_sum_fin_of_reset_step_apply_of_flush (M := EReal) (fun n h => (outsAt0 m c n h).2) 2 (fun _ => 0) (part m c)
    (fun t h y => acc_first m c t h y) (fun t h y => acc_next m c t h y) t h1 y).trans ?_
  rw [zero_add]
  show _ = ∑ l : Fin 3584, term (m ((c : Thread nD τ).loc main_arg0)) (m ((c : Thread nD τ).loc main_arg1))
    ((win0_2.blk t).view.emb y 0) ((win0_2.blk t).view.emb y 1) l
  refine Eq.trans ?_ (Fin.sum_univ_tiles 2 1792 rfl _).symm
  refine Finset.sum_congr rfl fun s _ => (congrArg (part m c _) (ValueIdx.eq_ix2 y)).trans ?_
  refine (part_at m c _ (y 0) (y 1) ((win0_2.blk t).view.emb y 0) (e0.trans (by dsimp only; omega))).trans ?_
  refine Finset.sum_congr rfl fun x _ => ?_
  have ec : (y 1 : Fin 2048) = (win0_2.blk t).view.emb y 1 := Fin.ext e1.symm
  rw [ec]
  exact congrArg (term _ _ _ _) (Fin.ext (by dsimp only; omega))

end Cert.Kernel18Ideal.Array
-- ==== Proof.SpatialBackReference.lean ====
/-
  THE PLAIN GRADIENT OF THE SPATIAL LAYER'S INPUT. The reference differentiates `h @ w_in_a` with respect to `h`; its
  result is the product of `SpatialBackArray`.
-/
module

public import proofs.«01_k».proof.Proof.SpatialBackArray
public import proofs.«01_k».proof.Proof.Gen.Reference18Ideal.Read

@[expose] public section

noncomputable section

namespace Cert.Reference18Ideal.Entry

open Idealize.ShloMosaic Cert.Reference18Ideal Cert.Reference18Ideal.Gen Cert.Reference18Ideal.Read

theorem back_eq (z : Vec Ideal S4096x3584 .bf16) (w : Vec Ideal S2048x3584 .bf16) :
    val_main_v4 (F := Ideal) z w = Cert.Kernel18Ideal.Array.back z w := by
  funext i
  unfold Cert.Kernel18Ideal.Array.back Cert.Kernel18Ideal.Array.term
  rw [val_main_v4_apply]
  refine Finset.sum_congr rfl fun k _ => ?_
  rw [val_main_v3_apply, val_main_v1_apply]
  have hl : lidx_main_v4 i k = ix2 (i 0) k := ValueIdx.eq_ix2 _
  have hr : ridx_main_v4 i k = ix2 (i 1) k := ValueIdx.eq_ix2 _
  rw [hl, hr]
  rfl

end Cert.Reference18Ideal.Entry
-- ==== Proof.SpatialBackClaims.lean ====
/-
  THE CLAIMS ABOUT THE GRADIENT OF THE SPATIAL LAYER'S INPUT: the kernel and its plain reference run, keep their arguments and leave
  every counter at zero; read over the extended reals the two leave the same array.
-/
module

public import proofs.«01_k».proof.Defs
public import proofs.«01_k».proof.Proof.SpatialBackReference
public import proofs.«01_k».proof.Proof.Gen.Kernel18.Frame
public import proofs.«01_k».proof.Proof.Gen.Kernel18Ideal.Value
public import proofs.«01_k».proof.Proof.Gen.Reference18Ideal.Run
public import Idealize.ShloMosaic.Lib.Quiescent

@[expose] public section

noncomputable section

namespace Cert.Proof.SpatialBackClaims

open Idealize.ShloMosaic Idealize.ShloMosaic.TcCoe Idealize.SL.Sem

theorem frame : Cert.quiescent_Kernel18 := fun m ρ _ => Cert.Kernel18.Gen.frame m ρ
theorem frame_ideal : Cert.quiescent_Kernel18Ideal := fun m ρ _ => Cert.Kernel18Ideal.Gen.frame m ρ

/-- The reference's run with its counters: it has none. -/
theorem frame_reference : Cert.quiescent_Reference18Ideal := fun m ρ _ =>
  (θ_run Cert.Reference18Ideal.defs _ _).mono
    (fun r h => ⟨fun c => (h c).2, sem_eq_zero_of_no_sems (by decide) r.2⟩)
    (Cert.Reference18Ideal.Value.run (F := Ideal) m ρ)

theorem algebraic : Cert.algebraic_Kernel18Ideal_Reference18Ideal := by
  intro m ρ m' ρ' _ hagree
  refine ⟨_,
    (θ_run Cert.Kernel18Ideal.defs _ _).mono (fun r h c => ⟨(h c).1.trans (Cert.Kernel18Ideal.Array.final m c), (h c).2⟩)
      (Cert.Kernel18Ideal.Value.run_blocks m ρ),
    (θ_run Cert.Reference18Ideal.defs _ _).mono (fun r h c => ⟨(h c).1.trans ?_, (h c).2⟩)
      (Cert.Reference18Ideal.Value.run (F := Ideal) m' ρ')⟩
  obtain ⟨h0, h1⟩ := hagree c
  rw [h0, h1]
  exact (Cert.Reference18Ideal.Read.val_main_v4_eq _ _).trans (Cert.Reference18Ideal.Entry.back_eq _ _)

end Cert.Proof.SpatialBackClaims
-- ==== Proof.SpatialArray.lean ====
/-
  THE SPATIAL LAYER'S INPUT PRODUCT. The weight lies in eight shards of 448 columns. A grid point multiplies 1024 rows of the
  input with two shards and puts the two products side by side; the result array is the plain product.
-/
module

public import proofs.«01_k».proof.Proof.SpatialBackArray
public import proofs.«01_k».proof.Proof.Gen.Kernel19Ideal.Frame

@[expose] public section

set_option maxRecDepth 16448

noncomputable section

namespace Cert.Kernel19Ideal.Array

open Idealize.ShloMosaic Idealize.ShloMosaic.TcCoe Cert.Kernel19Ideal Cert.Kernel19Ideal.Gen
open Cert.Kernel18Ideal.Array (shards shards_at)

/-- Two shards side by side. -/
def pair (v w : Vec Ideal S1x2048x448 .bf16) (k : Fin 2048) (x : Fin 896) : EReal :=
  if h : x.val < 448 then v (ix3 0 k ⟨x.val, h⟩) else w (ix3 0 k ⟨x.val - 448, by omega⟩)

/-- The rows of the input against the columns of two shards. -/
def tile (a : Vec Ideal S1024x2048 .bf16) (v w : Vec Ideal S1x2048x448 .bf16) (r : Fin 1024) (x : Fin 896) : EReal :=
  ∑ k : Fin 2048, (a (ix2 r k) : EReal) * pair v w k x

theorem pay_at (a : Vec Ideal S1024x2048 .bf16) (v w : Vec Ideal S1x2048x448 .bf16) (r : Fin 1024) (x : Fin 896) :
    k0_pay1 (F := Ideal) a v w (ix2 r x) = tile a v w r x := by
  unfold tile pair
  by_cases h : x.val < 448
  · simp only [dif_pos h]
    pointwise [k0_pay1]
    exact dif_pos h
  · simp only [dif_neg h]
    pointwise [k0_pay1]
    exact dif_neg h

/-- One shard of a point's two. -/
def shard (b : Vec Ideal S2x2048x448 .bf16) (p : Fin 2) (y : S1x2048x448.Idx) : Elt Ideal .bf16 := b (ix3 p (y 1) (y 2))

/-- A load of one shard. -/
theorem ld_shard (X : Vec Ideal ⟨3, ![2, 2048, 448]⟩ .bf16) (o : ℕ) (inb) (p : Fin 2) (hp : p.val = o) :
    View.ld (S := ⟨3, ![2, 2048, 448]⟩) X (Rect.unit (s := ⟨3, ![2, 2048, 448]⟩) ![o, 0, 0] ![1, 2048, 448] inb) = shard X p := by
  funext y
  have h0 : (y 0).val < 1 := (y 0).isLt
  exact View.ld_unit_apply_of _ _ _ _ _ _ fun i => match i with
    | ⟨0, _⟩ => (hp.trans (by dsimp only; omega) : p.val = o + (y 0).val)
    | ⟨1, _⟩ => (Nat.zero_add _).symm
    | ⟨2, _⟩ => (Nat.zero_add _).symm

theorem block (a : Vec Ideal S1024x2048 .bf16) (b : Vec Ideal S2x2048x448 .bf16) (y : S1024x896.Idx) :
    (out0_2 a b y : EReal) = tile a (shard b 0) (shard b 1) (y 0) (y 1) := by
  rw [← ld_shard b 0 inb_S2x2048x448_S1x2048x448_0_0_0 0 rfl, ← ld_shard b 1 inb_S2x2048x448_S1x2048x448_1_0_0 1 rfl]
  frame_out
  exact (congrArg _ (ValueIdx.eq_ix2 y)).trans (pay_at _ _ _ (y 0) (y 1))

variable (m : (ℓ : Loc nD τ sig) → Buf (Elt Ideal) ℓ) (c : Dev nD)

theorem V_shards : V m c main_v1 = shards (m ((c : Thread nD τ).loc main_arg1)) := by
  unfold_abbrev_sides; after_reads_simp; rfl

/-- Which block each window holds at a grid point. -/
theorem idx : ∀ t : Fin cfg0.N, win0_0.index t = ![t.val / 4, 0] ∧ win0_1.index t = ![t.val % 4, 0, 0]
    ∧ win0_2.index t = ![t.val / 4, t.val % 4] := (by decide +kernel : ∀ t : Fin grid0.N, _)

theorem input_emb (t : Fin cfg0.N) (y : S1024x896.Idx) (k : Fin 2048) :
    (win0_0.blk t).view.emb (ix2 (y 0) k) = ix2 ((win0_2.blk t).view.emb y 0) k := by
  obtain ⟨e0, -, e2⟩ := idx t
  blk_ext [e0, e2, ix2]

theorem shard_emb (t : Fin cfg0.N) (p : Fin 2) (k : Fin 2048) (q : Fin 448) (s : Fin 8) (hs : s.val = t.val % 4 * 2 + p.val) :
    (win0_1.blk t).view.emb (ix3 p k q) = ix3 s k q := by
  obtain ⟨-, e, -⟩ := idx t
  blk_ext [e, ix3, hs]

theorem column_emb (t : Fin cfg0.N) (y : S1024x896.Idx) : ((win0_2.blk t).view.emb y 1 : ℕ) = t.val % 4 * 896 + (y 1).val := by
  obtain ⟨-, -, e⟩ := idx t
  blk_simp [e] <;> omega

/-- An entry of a point's shard is an entry of the weight. -/
theorem shard_at (t : Fin cfg0.N) (p : Fin 2) (k : Fin 2048) (q : Fin 448) (l : Fin 3584)
    (hl : l.val = t.val % 4 * 896 + (p.val * 448 + q.val)) :
    shard (iblk m c 1 t) p (ix3 0 k q) = m ((c : Thread nD τ).loc main_arg1) (ix2 k l) := by
  refine Eq.trans ?_ ((shards_at (m ((c : Thread nD τ).loc main_arg1)) ⟨t.val % 4 * 2 + p.val, by omega⟩ k q).trans ?_)
  · rw [← V_shards, ← shard_emb t p k q ⟨t.val % 4 * 2 + p.val, by omega⟩ rfl]
    rfl
  · exact congrArg (fun l => m ((c : Thread nD τ).loc main_arg1) (ix2 k l)) (Fin.ext (by dsimp only; omega))

theorem pair_at (t : Fin cfg0.N) (k : Fin 2048) (x : Fin 896) (l : Fin 3584) (hl : l.val = t.val % 4 * 896 + x.val) :
    pair (shard (iblk m c 1 t) 0) (shard (iblk m c 1 t) 1) k x = m ((c : Thread nD τ).loc main_arg1) (ix2 k l) := by
  unfold pair
  split
  · exact shard_at m c t 0 k _ l (hl.trans (by simp))
  · exact shard_at m c t 1 k _ l (hl.trans (by simp; omega))

/-- The plain product. -/
def product (h : Vec Ideal S4096x2048 .bf16) (w : Vec Ideal S2048x3584 .bf16) : Vec Ideal S4096x3584 .f32 :=
  fun i => (∑ k : Fin 2048, (h (ix2 (i 0) k) : EReal) * w (ix2 k (i 1)) : EReal)

theorem final : (dats m 0 c).arrAt 2 cfg0.N = product (m ((c : Thread nD τ).loc main_arg0)) (m ((c : Thread nD τ).loc main_arg1)) := by
  refine (dats m 0 c).arrAt_eq_of_covers 2 _ (by decide +kernel) fun t hf y => ?_
  refine (congrFun (after0_2 m c t) y).trans ((block _ _ y).trans ?_)
  refine Finset.sum_congr rfl fun k _ => congr (congrArg HMul.hMul ?_) ?_
  · exact congrArg (m ((c : Thread nD τ).loc main_arg0)) (input_emb t y k)
  · exact pair_at m c t k (y 1) ((win0_2.blk t).view.emb y 1) (column_emb t y)

end Cert.Kernel19Ideal.Array
-- ==== Proof.SpatialReference.lean ====
/-
  THE PLAIN INPUT PRODUCT OF THE SPATIAL LAYER. The reference computes `h @ w_in_a`, the product of `SpatialArray`.
-/
module

public import proofs.«01_k».proof.Proof.SpatialArray
public import proofs.«01_k».proof.Proof.Gen.Reference19Ideal.Read

@[expose] public section

noncomputable section

namespace Cert.Reference19Ideal.Entry

open Idealize.ShloMosaic Cert.Reference19Ideal Cert.Reference19Ideal.Gen Cert.Reference19Ideal.Read

theorem product_eq (h : Vec Ideal S4096x2048 .bf16) (w : Vec Ideal S2048x3584 .bf16) :
    val_main_v2 (F := Ideal) h w = Cert.Kernel19Ideal.Array.product h w := by
  funext i
  unfold Cert.Kernel19Ideal.Array.product
  rw [val_main_v2_apply]
  refine Finset.sum_congr rfl fun k _ => ?_
  rw [val_main_v0_apply, val_main_v1_apply]
  have hl : lidx_main_v2 i k = ix2 (i 0) k := ValueIdx.eq_ix2 _
  have hr : ridx_main_v2 i k = ix2 k (i 1) := ValueIdx.eq_ix2 _
  rw [hl, hr]
  rfl

end Cert.Reference19Ideal.Entry
-- ==== Proof.SpatialClaims.lean ====
/-
  THE CLAIMS ABOUT THE SPATIAL LAYER'S INPUT PRODUCT: the kernel and its plain reference run, keep their arguments and leave
  every counter at zero; read over the extended reals the two leave the same array.
-/
module

public import proofs.«01_k».proof.Defs
public import proofs.«01_k».proof.Proof.SpatialReference
public import proofs.«01_k».proof.Proof.Gen.Kernel19.Frame
public import proofs.«01_k».proof.Proof.Gen.Kernel19Ideal.Value
public import proofs.«01_k».proof.Proof.Gen.Reference19Ideal.Run
public import Idealize.ShloMosaic.Lib.Quiescent

@[expose] public section

noncomputable section

namespace Cert.Proof.SpatialClaims

open Idealize.ShloMosaic Idealize.ShloMosaic.TcCoe Idealize.SL.Sem

theorem frame : Cert.quiescent_Kernel19 := fun m ρ _ => Cert.Kernel19.Gen.frame m ρ
theorem frame_ideal : Cert.quiescent_Kernel19Ideal := fun m ρ _ => Cert.Kernel19Ideal.Gen.frame m ρ

/-- The reference's run with its counters: it has none. -/
theorem frame_reference : Cert.quiescent_Reference19Ideal := fun m ρ _ =>
  (θ_run Cert.Reference19Ideal.defs _ _).mono
    (fun r h => ⟨fun c => (h c).2, sem_eq_zero_of_no_sems (by decide) r.2⟩)
    (Cert.Reference19Ideal.Value.run (F := Ideal) m ρ)

theorem algebraic : Cert.algebraic_Kernel19Ideal_Reference19Ideal := by
  intro m ρ m' ρ' _ hagree
  refine ⟨_,
    (θ_run Cert.Kernel19Ideal.defs _ _).mono (fun r h c => ⟨(h c).1.trans (Cert.Kernel19Ideal.Array.final m c), (h c).2⟩)
      (Cert.Kernel19Ideal.Value.run_blocks m ρ),
    (θ_run Cert.Reference19Ideal.defs _ _).mono (fun r h c => ⟨(h c).1.trans ?_, (h c).2⟩)
      (Cert.Reference19Ideal.Value.run (F := Ideal) m' ρ')⟩
  obtain ⟨h0, h1⟩ := hagree c
  rw [h0, h1]
  exact (Cert.Reference19Ideal.Read.val_main_v2_eq _ _).trans (Cert.Reference19Ideal.Entry.product_eq _ _)

end Cert.Proof.SpatialClaims
-- ==== Proof.lean ====
/-
  THE CLAIMS, ASSEMBLED. The gradient of attention (`Proof/Flash*.lean`) and the gradients of the feed-forward block: of its
  gate (`Proof/Gate*.lean`), of the joined gate and up weight (`Proof/Join*.lean`), of its input (`Proof/Hidden*.lean`) and
  of the down weight (`Proof/Weight*.lean`); and the feed-forward block forward, its gated product (`Proof/Up*.lean`) and its
  output (`Proof/Out*.lean`); the gradient of the norm before it (`Proof/Norm*.lean`); the three products with the mixers'
  output weight (`Proof/MixWeight*.lean`, `Proof/MixBack*.lean`, `Proof/Mix*.lean`); the loss (`Proof/Loss*.lean`) and the
  optimiser (`Proof/Adam*.lean`); the three products with the attention layer's input weight (`Proof/QkvWeight*.lean`,
  `Proof/QkvBack*.lean`, `Proof/Qkv*.lean`) and with the spatial layer's (`Proof/SpatialWeight*.lean`,
  `Proof/SpatialBack*.lean`, `Proof/Spatial*.lean`). Each kernel and its reading over the extended reals run and keep their arguments, the
  references do, and the results agree.
-/
module

public import proofs.«01_k».proof.Defs
public import proofs.«01_k».proof.Proof.GateClaims
public import proofs.«01_k».proof.Proof.FlashClaims
public import proofs.«01_k».proof.Proof.JoinClaims
public import proofs.«01_k».proof.Proof.HiddenClaims
public import proofs.«01_k».proof.Proof.WeightClaims
public import proofs.«01_k».proof.Proof.UpClaims
public import proofs.«01_k».proof.Proof.OutClaims
public import proofs.«01_k».proof.Proof.NormClaims
public import proofs.«01_k».proof.Proof.MixWeightClaims
public import proofs.«01_k».proof.Proof.MixBackClaims
public import proofs.«01_k».proof.Proof.MixClaims
public import proofs.«01_k».proof.Proof.LossClaims
public import proofs.«01_k».proof.Proof.AdamClaims
public import proofs.«01_k».proof.Proof.QkvWeightClaims
public import proofs.«01_k».proof.Proof.QkvBackClaims
public import proofs.«01_k».proof.Proof.QkvClaims
public import proofs.«01_k».proof.Proof.SpatialWeightClaims
public import proofs.«01_k».proof.Proof.SpatialBackClaims
public import proofs.«01_k».proof.Proof.SpatialClaims

@[expose] public section

noncomputable section

namespace Cert.Proof

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Pre_finite.Gen.facts, Cert.Pre_finite2.Gen.facts, Cert.Pre_finite8.Gen.facts,
    FlashClaims.frame, FlashClaims.frame_ideal, FlashClaims.frame_ideal_finite, FlashClaims.frame_reference, FlashClaims.frame_reference_finite,
    GateClaims.frame, GateClaims.frame_ideal, GateClaims.frame_ideal_finite, GateClaims.frame_reference, GateClaims.frame_reference_finite,
    JoinClaims.frame, JoinClaims.frame_ideal, JoinClaims.frame_reference,
    HiddenClaims.frame, HiddenClaims.frame_ideal, HiddenClaims.frame_reference,
    WeightClaims.frame, WeightClaims.frame_ideal, WeightClaims.frame_reference,
    UpClaims.frame, UpClaims.frame_ideal, UpClaims.frame_reference,
    OutClaims.frame, OutClaims.frame_ideal, OutClaims.frame_reference,
    NormClaims.frame, NormClaims.frame_ideal, NormClaims.frame_ideal_finite, NormClaims.frame_reference, NormClaims.frame_reference_finite,
    MixWeightClaims.frame, MixWeightClaims.frame_ideal, MixWeightClaims.frame_reference,
    MixBackClaims.frame, MixBackClaims.frame_ideal, MixBackClaims.frame_reference,
    MixClaims.frame, MixClaims.frame_ideal, MixClaims.frame_reference,
    LossClaims.frame, LossClaims.frame_ideal, LossClaims.frame_reference,
    AdamClaims.frame, AdamClaims.frame_ideal, AdamClaims.frame_reference,
    QkvWeightClaims.frame, QkvWeightClaims.frame_ideal, QkvWeightClaims.frame_reference,
    QkvBackClaims.frame, QkvBackClaims.frame_ideal, QkvBackClaims.frame_reference,
    QkvClaims.frame, QkvClaims.frame_ideal, QkvClaims.frame_reference,
    SpatialWeightClaims.frame, SpatialWeightClaims.frame_ideal, SpatialWeightClaims.frame_reference,
    SpatialBackClaims.frame, SpatialBackClaims.frame_ideal, SpatialBackClaims.frame_reference,
    SpatialClaims.frame, SpatialClaims.frame_ideal, SpatialClaims.frame_reference,
    FlashClaims.preserves, FlashClaims.algebraic, trivial, GateClaims.algebraic, trivial, JoinClaims.algebraic,
    trivial, HiddenClaims.algebraic, trivial, WeightClaims.algebraic,
    trivial, UpClaims.algebraic, trivial, OutClaims.algebraic,
    trivial, NormClaims.algebraic, trivial, MixWeightClaims.algebraic, trivial, MixBackClaims.algebraic,
    trivial, MixClaims.algebraic, trivial, LossClaims.algebraic, AdamClaims.preserves, AdamClaims.algebraic,
    trivial, QkvWeightClaims.algebraic, trivial, QkvBackClaims.algebraic, trivial, QkvClaims.algebraic,
    trivial, SpatialWeightClaims.algebraic, trivial, SpatialBackClaims.algebraic, trivial, SpatialClaims.algebraic⟩

end Cert.Proof

end
